-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_memory_queries_and_keys [hPre_finite_memory_queries_and_keys : Cert.Pre_finite_memory_queries_and_keys.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_memory_queries_and_keys.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_memory_queries_and_keys [hPre_finite_memory_queries_and_keys : Cert.Pre_finite_memory_queries_and_keys.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_memory_queries_and_keys.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_latent_weights [hPre_finite_latent_weights : Cert.Pre_finite_latent_weights.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_latent_weights.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_latent_weights [hPre_finite_latent_weights : Cert.Pre_finite_latent_weights.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_latent_weights.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite_memory_queries_and_keys [hKernel7Ideal : Cert.Kernel7Ideal.Facts] [hPre_finite_memory_queries_and_keys : Cert.Pre_finite_memory_queries_and_keys.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_memory_queries_and_keys m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite_memory_queries_and_keys [hReference7Ideal : Cert.Reference7Ideal.Facts] [hPre_finite_memory_queries_and_keys : Cert.Pre_finite_memory_queries_and_keys.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_memory_queries_and_keys m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_latent_weights [hKernel8Ideal : Cert.Kernel8Ideal.Facts] [hPre_finite_latent_weights : Cert.Pre_finite_latent_weights.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_latent_weights m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_latent_weights [hReference8Ideal : Cert.Reference8Ideal.Facts] [hPre_finite_latent_weights : Cert.Pre_finite_latent_weights.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_latent_weights m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v139_0)) (v1 : (c : Dev Cert.Kernel5Ideal.nD) → Buf (Elt Ideal) ((c.tc : Thread Cert.Kernel5Ideal.nD Cert.Kernel5Ideal.τ).loc Cert.Kernel5Ideal.main_v139_1)) (v2 : (c : Dev Cert.Kernel5Ideal.nD) → Buf (Elt Ideal) ((c.tc : Thread Cert.Kernel5Ideal.nD Cert.Kernel5Ideal.τ).loc Cert.Kernel5Ideal.main_v139_2)) (v3 : (c : Dev Cert.Kernel5Ideal.nD) → Buf (Elt Ideal) ((c.tc : Thread Cert.Kernel5Ideal.nD Cert.Kernel5Ideal.τ).loc Cert.Kernel5Ideal.main_v139_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v139_0) = v0 c
          ∧ r.2.mem ((c.tc : Thread Cert.Kernel5Ideal.nD Cert.Kernel5Ideal.τ).loc Cert.Kernel5Ideal.main_v139_1) = v1 c
          ∧ r.2.mem ((c.tc : Thread Cert.Kernel5Ideal.nD Cert.Kernel5Ideal.τ).loc Cert.Kernel5Ideal.main_v139_2) = v2 c
          ∧ r.2.mem ((c.tc : Thread Cert.Kernel5Ideal.nD Cert.Kernel5Ideal.τ).loc Cert.Kernel5Ideal.main_v139_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_v43) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_memory_queries_and_keys [hKernel7Ideal : Cert.Kernel7Ideal.Facts] [hReference7Ideal : Cert.Reference7Ideal.Facts] [hPre_finite_memory_queries_and_keys : Cert.Pre_finite_memory_queries_and_keys.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_memory_queries_and_keys m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "query_rank_inverse" .f32 0x3BAAAAAB#32 ((192⁻¹ : ℝ) : EReal)
  ∧ IdealRules.named_const.Statement Cert.Kernel8Ideal.κ "query_scale" .f32 0x3E16C740#32 ((((Real.sqrt 96) * (Real.log 2))⁻¹ : ℝ) : EReal)

def algebraic_Kernel8Ideal_Reference8Ideal_pre_finite_latent_weights [hKernel8Ideal : Cert.Kernel8Ideal.Facts] [hReference8Ideal : Cert.Reference8Ideal.Facts] [hPre_finite_latent_weights : Cert.Pre_finite_latent_weights.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_latent_weights m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v139_4)) (v1 : (c : Dev Cert.Kernel8Ideal.nD) → Buf (Elt Ideal) ((c.tc : Thread Cert.Kernel8Ideal.nD Cert.Kernel8Ideal.τ).loc Cert.Kernel8Ideal.main_v139_5)) (v2 : (c : Dev Cert.Kernel8Ideal.nD) → Buf (Elt Ideal) ((c.tc : Thread Cert.Kernel8Ideal.nD Cert.Kernel8Ideal.τ).loc Cert.Kernel8Ideal.main_v139_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v139_4) = v0 c
          ∧ r.2.mem ((c.tc : Thread Cert.Kernel8Ideal.nD Cert.Kernel8Ideal.τ).loc Cert.Kernel8Ideal.main_v139_5) = v1 c
          ∧ r.2.mem ((c.tc : Thread Cert.Kernel8Ideal.nD Cert.Kernel8Ideal.τ).loc Cert.Kernel8Ideal.main_v139_6) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v149) = v0 c
          ∧ r.2.mem ((c.tc : Thread Cert.Reference8Ideal.nD Cert.Reference8Ideal.τ).loc Cert.Reference8Ideal.main_v152) = v1 c
          ∧ r.2.mem ((c.tc : Thread Cert.Reference8Ideal.nD Cert.Reference8Ideal.τ).loc Cert.Reference8Ideal.main_v155) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_queries_and_keys : Cert.Pre_finite_queries_and_keys.Facts) (hPre_finite_memory_queries_and_keys : Cert.Pre_finite_memory_queries_and_keys.Facts) (hPre_finite_latent_weights : Cert.Pre_finite_latent_weights.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_memory_queries_and_keys (hKernel7Ideal := hKernel7Ideal) (hPre_finite_memory_queries_and_keys := hPre_finite_memory_queries_and_keys)
    ∧ quiescent_Reference7Ideal (hReference7Ideal := hReference7Ideal)
    ∧ quiescent_Reference7Ideal_pre_finite_memory_queries_and_keys (hReference7Ideal := hReference7Ideal) (hPre_finite_memory_queries_and_keys := hPre_finite_memory_queries_and_keys)
    ∧ quiescent_Kernel8 (hKernel8 := hKernel8)
    ∧ quiescent_Kernel8Ideal (hKernel8Ideal := hKernel8Ideal)
    ∧ quiescent_Kernel8Ideal_pre_finite_latent_weights (hKernel8Ideal := hKernel8Ideal) (hPre_finite_latent_weights := hPre_finite_latent_weights)
    ∧ quiescent_Reference8Ideal (hReference8Ideal := hReference8Ideal)
    ∧ quiescent_Reference8Ideal_pre_finite_latent_weights (hReference8Ideal := hReference8Ideal) (hPre_finite_latent_weights := hPre_finite_latent_weights)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_memory_queries_and_keys (hKernel7Ideal := hKernel7Ideal) (hReference7Ideal := hReference7Ideal) (hPre_finite_memory_queries_and_keys := hPre_finite_memory_queries_and_keys)
    ∧ preserves_Kernel8_Kernel8Ideal
    ∧ algebraic_Kernel8Ideal_Reference8Ideal_pre_finite_latent_weights (hKernel8Ideal := hKernel8Ideal) (hReference8Ideal := hReference8Ideal) (hPre_finite_latent_weights := hPre_finite_latent_weights)
-- ==== Pre_finite_latent_weights.lean ====
abbrev S16384x1024 : Shape := ⟨2, ![16384, 1024]⟩
abbrev S2x1024 : Shape := ⟨2, ![2, 1024]⟩
abbrev S2x1024x7264 : Shape := ⟨3, ![2, 1024, 7264]⟩
abbrev S2x192 : Shape := ⟨2, ![2, 192]⟩
abbrev S2x192x384 : Shape := ⟨3, ![2, 192, 384]⟩
abbrev S2x128 : Shape := ⟨2, ![2, 128]⟩
abbrev S2x128x512 : Shape := ⟨3, ![2, 128, 512]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel
  bcast_S_S2x1024x7264 : S_.BroadcastsInDim S2x1024x7264 (![] : Fin 0 → Fin S2x1024x7264.rank)
  reducesTo_S2x1024x7264_S_d0_1_2 : S2x1024x7264.ReducesTo [0, 1, 2] S_
  bcast_S_S2x192 : S_.BroadcastsInDim S2x192 (![] : Fin 0 → Fin S2x192.rank)
  reducesTo_S2x192_S_d0_1 : S2x192.ReducesTo [0, 1] S_
  bcast_S_S2x192x384 : S_.BroadcastsInDim S2x192x384 (![] : Fin 0 → Fin S2x192x384.rank)
  reducesTo_S2x192x384_S_d0_1_2 : S2x192x384.ReducesTo [0, 1, 2] S_

variable [Facts]

def fn_part1 {F : FTy → Type} [FloatOps F] (main_v13 : IVec S_ 1) (main_v16 : IVec S2x192x384 1) : IVec S_ 1 :=
  let main_c_5 : IVec S_ 1 := constantI S_ 1 1#1
  let main_v17 : IVec S_ 1 := (fun x v => Host.reduce IntOp.andi x v reducesTo_S2x192x384_S_d0_1_2 h_S_) main_v16 main_c_5
  let main_v18 : IVec S_ 1 := andi main_v13 main_v17
  main_v18

def fn {F : FTy → Type} [FloatOps F] (main_arg0 : FVec F S16384x1024 .f32) (main_arg1 : FVec F S2x1024 .f32) (main_arg2 : FVec F S2x1024x7264 .f32) (main_arg3 : FVec F S2x192 .f32) (main_arg4 : FVec F S2x192x384 .f32) (main_arg5 : FVec F S2x128 .f32) (main_arg6 : FVec F S2x128x512 .f32) : IVec S_ 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  let main_v4 : FVec F S2x1024x7264 .f32 := Host.absf main_arg2
  let main_cst_0 : FVec F S_ .f32 := constant S_ .f32 0x7F800000#32
  let main_v5 : FVec F S2x1024x7264 .f32 := broadcastInDim S2x1024x7264 ![] bcast_S_S2x1024x7264 main_cst_0
  let main_v6 : IVec S2x1024x7264 1 := cmpf .olt main_v4 main_v5
  let main_c_1 : IVec S_ 1 := constantI S_ 1 1#1
  let main_v7 : IVec S_ 1 := (fun x v => Host.reduce IntOp.andi x v reducesTo_S2x1024x7264_S_d0_1_2 h_S_) main_v6 main_c_1
  let main_v8 : IVec S_ 1 := andi main_v3 main_v7
  let main_v9 : FVec F S2x192 .f32 := Host.absf main_arg3
  let main_cst_2 : FVec F S_ .f32 := constant S_ .f32 0x7F800000#32
  let main_v10 : FVec F S2x192 .f32 := broadcastInDim S2x192 ![] bcast_S_S2x192 main_cst_2
  let main_v11 : IVec S2x192 1 := cmpf .olt main_v9 main_v10
  let main_c_3 : IVec S_ 1 := constantI S_ 1 1#1
  let main_v12 : IVec S_ 1 := (fun x v => Host.reduce IntOp.andi x v reducesTo_S2x192_S_d0_1 h_S_) main_v11 main_c_3
  let main_v13 : IVec S_ 1 := andi main_v8 main_v12
  let main_v14 : FVec F S2x192x384 .f32 := Host.absf main_arg4
  let main_cst_4 : FVec F S_ .f32 := constant S_ .f32 0x7F800000#32
  let main_v15 : FVec F S2x192x384 .f32 := broadcastInDim S2x192x384 ![] bcast_S_S2x192x384 main_cst_4
  let main_v16 : IVec S2x192x384 1 := cmpf .olt main_v14 main_v15
  fn_part1 (F := F) main_v13 main_v16
-- ==== Pre_finite_memory_queries_and_keys.lean ====
abbrev S2x8192x256 : Shape := ⟨3, ![2, 8192, 256]⟩
abbrev S2x256x512 : Shape := ⟨3, ![2, 256, 512]⟩
abbrev S_ : Shape := ⟨0, ![]⟩
abbrev S2x256x256 : Shape := ⟨3, ![2, 256, 256]⟩

class Facts : Prop where
  bcast_S_S2x8192x256 : S_.BroadcastsInDim S2x8192x256 (![] : Fin 0 → Fin S2x8192x256.rank)
  reducesTo_S2x8192x256_S_d0_1_2 : S2x8192x256.ReducesTo [0, 1, 2] S_
  h_S_ : 0 < S_.numel
  slices_S2x256x512_S2x256x256_0_0_0 : S2x256x512.Slices ![0, 0, 0] S2x256x256
  bcast_S_S2x256x256 : S_.BroadcastsInDim S2x256x256 (![] : Fin 0 → Fin S2x256x256.rank)
  reducesTo_S2x256x256_S_d0_1_2 : S2x256x256.ReducesTo [0, 1, 2] S_

variable [Facts]

def fn {F : FTy → Type} [FloatOps F] (main_arg0 : FVec F S2x8192x256 .f32) (main_arg1 : FVec F S2x256x512 .f32) : IVec S_ 1 :=
  let main_v0 : FVec F S2x8192x256 .f32 := Host.absf main_arg0
  let main_cst : FVec F S_ .f32 := constant S_ .f32 0x7F800000#32
  let main_v1 : FVec F S2x8192x256 .f32 := broadcastInDim S2x8192x256 ![] bcast_S_S2x8192x256 main_cst
  let main_v2 : IVec S2x8192x256 1 := cmpf .olt main_v0 main_v1
  let main_c : IVec S_ 1 := constantI S_ 1 1#1
  let main_v3 : IVec S_ 1 := (fun x v => Host.reduce IntOp.andi x v reducesTo_S2x8192x256_S_d0_1_2 h_S_) main_v2 main_c
  let main_v4 : FVec F S2x256x256 .f32 := (extractStridedSlice S2x256x256 ![0, 0, 0] · slices_S2x256x512_S2x256x256_0_0_0) main_arg1
  let main_v5 : FVec F S2x256x256 .f32 := Host.absf main_v4
  let main_cst_0 : FVec F S_ .f32 := constant S_ .f32 0x7F800000#32
  let main_v6 : FVec F S2x256x256 .f32 := broadcastInDim S2x256x256 ![] bcast_S_S2x256x256 main_cst_0
  let main_v7 : IVec S2x256x256 1 := cmpf .olt main_v5 main_v6
  let main_c_1 : IVec S_ 1 := constantI S_ 1 1#1
  let main_v8 : IVec S_ 1 := (fun x v => Host.reduce IntOp.andi x v reducesTo_S2x256x256_S_d0_1_2 h_S_) main_v7 main_c_1
  let main_v9 : IVec S_ 1 := andi main_v3 main_v8
  main_v9
-- ==== Pre_finite_queries_and_keys.lean ====
abbrev S2x8192x4x96 : Shape := ⟨4, ![2, 8192, 4, 96]⟩
abbrev S2x8192x4x64 : Shape := ⟨4, ![2, 8192, 4, 64]⟩
abbrev S_ : Shape := ⟨0, ![]⟩

class Facts : Prop where
  bcast_S_S2x8192x4x96 : S_.BroadcastsInDim S2x8192x4x96 (![] : Fin 0 → Fin S2x8192x4x96.rank)
  reducesTo_S2x8192x4x96_S_d0_1_2_3 : S2x8192x4x96.ReducesTo [0, 1, 2, 3] S_
  h_S_ : 0 < S_.numel

variable [Facts]

def fn {F : FTy → Type} [FloatOps F] (main_arg0 : FVec F S2x8192x4x96 .f32) (main_arg1 : FVec F S2x8192x4x96 .f32) (main_arg2 : FVec F S2x8192x4x64 .f32) : IVec S_ 1 :=
  let main_v0 : FVec F S2x8192x4x96 .f32 := Host.absf main_arg0
  let main_cst : FVec F S_ .f32 := constant S_ .f32 0x7F800000#32
  let main_v1 : FVec F S2x8192x4x96 .f32 := broadcastInDim S2x8192x4x96 ![] bcast_S_S2x8192x4x96 main_cst
  let main_v2 : IVec S2x8192x4x96 1 := cmpf .olt main_v0 main_v1
  let main_c : IVec S_ 1 := constantI S_ 1 1#1
  let main_v3 : IVec S_ 1 := (fun x v => Host.reduce IntOp.andi x v reducesTo_S2x8192x4x96_S_d0_1_2_3 h_S_) main_v2 main_c
  let main_v4 : FVec F S2x8192x4x96 .f32 := Host.absf main_arg1
  let main_cst_0 : FVec F S_ .f32 := constant S_ .f32 0x7F800000#32
  let main_v5 : FVec F S2x8192x4x96 .f32 := broadcastInDim S2x8192x4x96 ![] bcast_S_S2x8192x4x96 main_cst_0
  let main_v6 : IVec S2x8192x4x96 1 := cmpf .olt main_v4 main_v5
  let main_c_1 : IVec S_ 1 := constantI S_ 1 1#1
  let main_v7 : IVec S_ 1 := (fun x v => Host.reduce IntOp.andi x v reducesTo_S2x8192x4x96_S_d0_1_2_3 h_S_) main_v6 main_c_1
  let main_v8 : IVec S_ 1 := andi main_v3 main_v7
  main_v8
-- ==== Kernel.lean ====
abbrev S2x8192x4x96 : Shape := ⟨4, ![2, 8192, 4, 96]⟩
abbrev S2x8192x4x64 : Shape := ⟨4, ![2, 8192, 4, 64]⟩
abbrev S_ : Shape := ⟨0, ![]⟩
abbrev S2x8192x4x128 : Shape := ⟨4, ![2, 8192, 4, 128]⟩
abbrev S2x8192x512 : Shape := ⟨3, ![2, 8192, 512]⟩
abbrev S2x8192x256 : Shape := ⟨3, ![2, 8192, 256]⟩
abbrev S1x512x512 : Shape := ⟨3, ![1, 512, 512]⟩
abbrev S1x8192x512 : Shape := ⟨3, ![1, 8192, 512]⟩
abbrev S1x8192x256 : Shape := ⟨3, ![1, 8192, 256]⟩
abbrev S1x512x256 : Shape := ⟨3, ![1, 512, 256]⟩
abbrev S512x1 : Shape := ⟨2, ![512, 1]⟩
abbrev S512x128 : Shape := ⟨2, ![512, 128]⟩
abbrev S1x512x128 : Shape := ⟨3, ![1, 512, 128]⟩
abbrev S1x2048x128 : Shape := ⟨3, ![1, 2048, 128]⟩
abbrev S2048x128 : Shape := ⟨2, ![2048, 128]⟩
abbrev S512x2048 : Shape := ⟨2, ![512, 2048]⟩
abbrev S512 : Shape := ⟨1, ![512]⟩
abbrev S1x128 : Shape := ⟨2, ![1, 128]⟩

abbrev nBuf : Space → Nat
  | .hbm => 23
  | .vmem => 8
  | .smem => 0
  | _ => 0

abbrev bufTy : (tb : Table) → Fin (tcTables nBuf tb) → BufTy
  | .hbm, ⟨0, _⟩ => ⟨S2x8192x4x96, .f32⟩
  | .hbm, ⟨1, _⟩ => ⟨S2x8192x4x96, .f32⟩
  | .hbm, ⟨2, _⟩ => ⟨S2x8192x4x64, .f32⟩
  | .hbm, ⟨3, _⟩ => ⟨S_, .i32⟩
  | .hbm, ⟨4, _⟩ => ⟨S_, .f32⟩
  | .hbm, ⟨5, _⟩ => ⟨S2x8192x4x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x8192x4x128, .f32⟩
  | .hbm, ⟨12, _⟩ => ⟨S2x8192x4x128, .f32⟩
  | .hbm, ⟨13, _⟩ => ⟨S2x8192x4x128, .bf16⟩
  | .hbm, ⟨14, _⟩ => ⟨S2x8192x512, .bf16⟩
  | .hbm, ⟨15, _⟩ => ⟨S_, .i32⟩
  | .hbm, ⟨16, _⟩ => ⟨S_, .f32⟩
  | .hbm, ⟨17, _⟩ => ⟨S2x8192x4x128, .f32⟩
  | .hbm, ⟨18, _⟩ => ⟨S2x8192x4x128, .bf16⟩
  | .hbm, ⟨19, _⟩ => ⟨S2x8192x512, .bf16⟩
  | .hbm, ⟨20, _⟩ => ⟨S2x8192x4x64, .bf16⟩
  | .hbm, ⟨21, _⟩ => ⟨S2x8192x256, .bf16⟩
  | .hbm, ⟨22, _⟩ => ⟨S2x8192x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x512x256, .bf16⟩
  | .local _ .vmem, ⟨7, _⟩ => ⟨S1x512x256, .bf16⟩
  | _, _ => ⟨S2x8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c2048_i32 : BitVec 32 := 2048#32
  let v38 : BitVec 32 := Scalar.muli arg6 c2048_i32
  v38
def k0_off1 (k0_t1 : Fin k0_t1_loop.trips) : Fin 3 → Nat :=
  let c0_14 : Index := 0#32
  let c0_i32 : BitVec 32 := 0#32
  let c1_i32 : BitVec 32 := 1#32
  let arg6 : BitVec 32 := Scf.iv c0_i32 c1_i32 k0_t1
  let c2048_i32 : BitVec 32 := 2048#32
  let v38 : BitVec 32 := Scalar.muli arg6 c2048_i32
  let v39 : BitVec 32 := v38
  let v42 : Index := Scalar.indexCast v39
  let c0_15 : Index := 0#32
  ![0, v42.toNat, 0]
def k0_off2 (k0_t1 : Fin k0_t1_loop.trips) : Fin 3 → Nat :=
  let c0_19 : Index := 0#32
  let c0_i32 : BitVec 32 := 0#32
  let c1_i32 : BitVec 32 := 1#32
  let arg6 : BitVec 32 := Scf.iv c0_i32 c1_i32 k0_t1
  let c2048_i32 : BitVec 32 := 2048#32
  let v38 : BitVec 32 := Scalar.muli arg6 c2048_i32
  let v39 : BitVec 32 := v38
  let v61 : Index := Scalar.indexCast v39
  let c0_20 : Index := 0#32
  ![0, v61.toNat, 0]
def k0_off3 (k0_t1 : Fin k0_t1_loop.trips) : Fin 3 → Nat :=
  let c0_25 : Index := 0#32
  let c0_i32 : BitVec 32 := 0#32
  let c1_i32 : BitVec 32 := 1#32
  let arg6 : BitVec 32 := Scf.iv c0_i32 c1_i32 k0_t1
  let c2048_i32 : BitVec 32 := 2048#32
  let v38 : BitVec 32 := Scalar.muli arg6 c2048_i32
  let v39 : BitVec 32 := v38
  let v68 : Index := Scalar.indexCast v39
  let c128_26 : Index := 128#32
  ![0, v68.toNat, 128]
def k0_off4 (k0_t1 : Fin k0_t1_loop.trips) : Fin 3 → Nat :=
  let c0_35 : Index := 0#32
  let c0_i32 : BitVec 32 := 0#32
  let c1_i32 : BitVec 32 := 1#32
  let arg6 : BitVec 32 := Scf.iv c0_i32 c1_i32 k0_t1
  let c2048_i32 : BitVec 32 := 2048#32
  let v38 : BitVec 32 := Scalar.muli arg6 c2048_i32
  let v39 : BitVec 32 := v38
  let v94 : Index := Scalar.indexCast v39
  let c256_36 : Index := 256#32
  ![0, v94.toNat, 256]
def k0_off5 (k0_t1 : Fin k0_t1_loop.trips) : Fin 3 → Nat :=
  let c0_40 : Index := 0#32
  let c0_i32 : BitVec 32 := 0#32
  let c1_i32 : BitVec 32 := 1#32
  let arg6 : BitVec 32 := Scf.iv c0_i32 c1_i32 k0_t1
  let c2048_i32 : BitVec 32 := 2048#32
  let v38 : BitVec 32 := Scalar.muli arg6 c2048_i32
  let v39 : BitVec 32 := v38
  let v113 : Index := Scalar.indexCast v39
  let c128_41 : Index := 128#32
  ![0, v113.toNat, 128]
def k0_off6 (k0_t1 : Fin k0_t1_loop.trips) : Fin 3 → Nat :=
  let c0_45 : Index := 0#32
  let c0_i32 : BitVec 32 := 0#32
  let c1_i32 : BitVec 32 := 1#32
  let arg6 : BitVec 32 := Scf.iv c0_i32 c1_i32 k0_t1
  let c2048_i32 : BitVec 32 := 2048#32
  let v38 : BitVec 32 := Scalar.muli arg6 c2048_i32
  let v39 : BitVec 32 := v38
  let v120 : Index := Scalar.indexCast v39
  let c384_46 : Index := 384#32
  ![0, v120.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8192x4x96 : Shape := ⟨4, ![2, 8192, 4, 96]⟩
abbrev S2x8192x4x64 : Shape := ⟨4, ![2, 8192, 4, 64]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x256 : Shape := ⟨3, ![2, 8192, 256]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x4x96, .f32⟩
  | .hbm, ⟨1, _⟩ => ⟨S2x8192x4x96, .f32⟩
  | .hbm, ⟨2, _⟩ => ⟨S2x8192x4x64, .f32⟩
  | .hbm, ⟨3, _⟩ => ⟨S2x4x8192x8192, .f32⟩
  | .hbm, ⟨4, _⟩ => ⟨S_, .f32⟩
  | .hbm, ⟨5, _⟩ => ⟨S_, .f32⟩
  | .hbm, ⟨6, _⟩ => ⟨S2x4x8192x8192, .f32⟩
  | .hbm, ⟨7, _⟩ => ⟨S2x4x8192x8192, .f32⟩
  | .hbm, ⟨8, _⟩ => ⟨S_, .f32⟩
  | .hbm, ⟨9, _⟩ => ⟨S2x4x8192, .f32⟩
  | .hbm, ⟨10, _⟩ => ⟨S_, .f32⟩
  | .hbm, ⟨11, _⟩ => ⟨S2x4x8192, .f32⟩
  | .hbm, ⟨12, _⟩ => ⟨S2x4x8192, .f32⟩
  | .hbm, ⟨13, _⟩ => ⟨S2x4x8192x1, .f32⟩
  | .hbm, ⟨14, _⟩ => ⟨S2x4x8192x8192, .f32⟩
  | .hbm, ⟨15, _⟩ => ⟨S2x4x8192x8192, .f32⟩
  | .hbm, ⟨16, _⟩ => ⟨S2x4x8192x8192, .f32⟩
  | .hbm, ⟨17, _⟩ => ⟨S_, .f32⟩
  | .hbm, ⟨18, _⟩ => ⟨S2x4x8192, .f32⟩
  | .hbm, ⟨19, _⟩ => ⟨S2x4x8192x1, .f32⟩
  | .hbm, ⟨20, _⟩ => ⟨S2x4x8192x8192, .f32⟩
  | .hbm, ⟨21, _⟩ => ⟨S2x4x8192x8192, .f32⟩
  | .hbm, ⟨22, _⟩ => ⟨S2x4x64x8192, .f32⟩
  | .hbm, ⟨23, _⟩ => ⟨S2x8192x4x64, .f32⟩
  | .hbm, ⟨24, _⟩ => ⟨S2x8192x256, .f32⟩
  | .hbm, ⟨25, _⟩ => ⟨S2x8192x256, .bf16⟩
  | _, _ => ⟨S2x8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel2.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S2x1x1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel3.lean ====
abbrev S16384x1024 : Shape := ⟨2, ![16384, 1024]⟩
abbrev S2x1024 : Shape := ⟨2, ![2, 1024]⟩
abbrev S16384x256 : Shape := ⟨2, ![16384, 256]⟩
abbrev S2x1024x7264 : Shape := ⟨3, ![2, 1024, 7264]⟩
abbrev S2x5x256x1024 : Shape := ⟨4, ![2, 5, 256, 1024]⟩
abbrev S2x1024x1024 : Shape := ⟨3, ![2, 1024, 1024]⟩
abbrev S2x1024x5120 : Shape := ⟨3, ![2, 1024, 5120]⟩
abbrev S2x1x1024 : Shape := ⟨3, ![2, 1, 1024]⟩
abbrev S512x1024 : Shape := ⟨2, ![512, 1024]⟩
abbrev S1x1x1024 : Shape := ⟨3, ![1, 1, 1024]⟩
abbrev S512x256 : Shape := ⟨2, ![512, 256]⟩
abbrev S1x1024x5120 : Shape := ⟨3, ![1, 1024, 5120]⟩
abbrev S1x5x256x1024 : Shape := ⟨4, ![1, 5, 256, 1024]⟩
abbrev S1x1024x1024 : Shape := ⟨3, ![1, 1024, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1x1x256x1024 : Shape := ⟨4, ![1, 1, 256, 1024]⟩
abbrev S256x1024 : Shape := ⟨2, ![256, 1024]⟩

abbrev nBuf : Space → Nat
  | .hbm => 21
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S2x1024x7264, .f32⟩
  | .hbm, ⟨8, _⟩ => ⟨S2x5x256x1024, .f32⟩
  | .hbm, ⟨9, _⟩ => ⟨S2x1024x1024, .f32⟩
  | .hbm, ⟨10, _⟩ => ⟨S2x1024x5120, .f32⟩
  | .hbm, ⟨11, _⟩ => ⟨S2x1x1024, .f32⟩
  | .hbm, ⟨12, _⟩ => ⟨S16384x256, .bf16⟩
  | .hbm, ⟨13, _⟩ => ⟨S16384x256, .bf16⟩
  | .hbm, ⟨14, _⟩ => ⟨S16384x256, .bf16⟩
  | .hbm, ⟨15, _⟩ => ⟨S16384x256, .bf16⟩
  | .hbm, ⟨16, _⟩ => ⟨S16384x256, .bf16⟩
  | .hbm, ⟨17, _⟩ => ⟨S2x1024x5120, .bf16⟩
  | .hbm, ⟨18, _⟩ => ⟨S2x5x256x1024, .bf16⟩
  | .hbm, ⟨19, _⟩ => ⟨S2x1024x1024, .bf16⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S1x1024x5120, .bf16⟩
  | .local _ .vmem, ⟨14, _⟩ => ⟨S1x5x256x1024, .bf16⟩
  | .local _ .vmem, ⟨15, _⟩ => ⟨S1x1024x1024, .bf16⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S2x1024 : Shape := ⟨2, ![2, 1024]⟩
abbrev S16384x256 : Shape := ⟨2, ![16384, 256]⟩
abbrev S2x1024x7264 : Shape := ⟨3, ![2, 1024, 7264]⟩
abbrev S2x5x256x1024 : Shape := ⟨4, ![2, 5, 256, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x7264 : Shape := ⟨3, ![1, 1024, 7264]⟩
abbrev S1024x7264 : Shape := ⟨2, ![1024, 7264]⟩
abbrev S16384x7264 : Shape := ⟨2, ![16384, 7264]⟩
abbrev S16384x5120 : Shape := ⟨2, ![16384, 5120]⟩
abbrev S16384x5x1024 : Shape := ⟨3, ![16384, 5, 1024]⟩
abbrev S16384x1x1024 : Shape := ⟨3, ![16384, 1, 1024]⟩
abbrev S1x1x256x1024 : Shape := ⟨4, ![1, 1, 256, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S2x1024x7264, .f32⟩
  | .hbm, ⟨8, _⟩ => ⟨S2x5x256x1024, .f32⟩
  | .hbm, ⟨9, _⟩ => ⟨S2x1024x1024, .f32⟩
  | .hbm, ⟨10, _⟩ => ⟨S1x1024, .f32⟩
  | .hbm, ⟨11, _⟩ => ⟨S1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1x1024x7264, .f32⟩
  | .hbm, ⟨29, _⟩ => ⟨S1024x7264, .f32⟩
  | .hbm, ⟨30, _⟩ => ⟨S16384x7264, .f32⟩
  | .hbm, ⟨31, _⟩ => ⟨S16384x5120, .f32⟩
  | .hbm, ⟨32, _⟩ => ⟨S16384x5120, .f32⟩
  | .hbm, ⟨33, _⟩ => ⟨S16384x5120, .f32⟩
  | .hbm, ⟨34, _⟩ => ⟨S_, .f32⟩
  | .hbm, ⟨35, _⟩ => ⟨S16384x5120, .f32⟩
  | .hbm, ⟨36, _⟩ => ⟨S16384x5120, .f32⟩
  | .hbm, ⟨37, _⟩ => ⟨S_, .f32⟩
  | .hbm, ⟨38, _⟩ => ⟨S16384x5120, .f32⟩
  | .hbm, ⟨39, _⟩ => ⟨S16384x5120, .f32⟩
  | .hbm, ⟨40, _⟩ => ⟨S16384x5x1024, .f32⟩
  | .hbm, ⟨41, _⟩ => ⟨S16384x1x1024, .f32⟩
  | .hbm, ⟨42, _⟩ => ⟨S16384x1024, .f32⟩
  | .hbm, ⟨43, _⟩ => ⟨S1x1x256x1024, .f32⟩
  | .hbm, ⟨44, _⟩ => ⟨S256x1024, .f32⟩
  | .hbm, ⟨45, _⟩ => ⟨S16384x1024, .f32⟩
  | .hbm, ⟨46, _⟩ => ⟨S16384x1024, .f32⟩
  | .hbm, ⟨47, _⟩ => ⟨S16384x1x1024, .f32⟩
  | .hbm, ⟨48, _⟩ => ⟨S16384x1024, .f32⟩
  | .hbm, ⟨49, _⟩ => ⟨S1x1x256x1024, .f32⟩
  | .hbm, ⟨50, _⟩ => ⟨S256x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1x1024, .f32⟩
  | .hbm, ⟨55, _⟩ => ⟨S16384x1024, .f32⟩
  | .hbm, ⟨56, _⟩ => ⟨S1x1x256x1024, .f32⟩
  | .hbm, ⟨57, _⟩ => ⟨S256x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1x1024, .f32⟩
  | .hbm, ⟨62, _⟩ => ⟨S16384x1024, .f32⟩
  | .hbm, ⟨63, _⟩ => ⟨S1x1x256x1024, .f32⟩
  | .hbm, ⟨64, _⟩ => ⟨S256x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1x1024, .f32⟩
  | .hbm, ⟨69, _⟩ => ⟨S16384x1024, .f32⟩
  | .hbm, ⟨70, _⟩ => ⟨S1x1x256x1024, .f32⟩
  | .hbm, ⟨71, _⟩ => ⟨S256x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S1x1024x1024, .f32⟩
  | .hbm, ⟨76, _⟩ => ⟨S1024x1024, .f32⟩
  | .hbm, ⟨77, _⟩ => ⟨S16384x1024, .f32⟩
  | .hbm, ⟨78, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== Kernel4.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1x1024, .f32⟩
  | .hbm, ⟨6, _⟩ => ⟨S2x1024x2816, .bf16⟩
  | .hbm, ⟨7, _⟩ => ⟨S2x1024x2816, .bf16⟩
  | .hbm, ⟨8, _⟩ => ⟨S2x2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel5.lean ====
abbrev S16384x1024 : Shape := ⟨2, ![16384, 1024]⟩
abbrev S2x1024 : Shape := ⟨2, ![2, 1024]⟩
abbrev S2x1024x7264 : Shape := ⟨3, ![2, 1024, 7264]⟩
abbrev S2x192 : Shape := ⟨2, ![2, 192]⟩
abbrev S2x192x384 : Shape := ⟨3, ![2, 192, 384]⟩
abbrev S2x128 : Shape := ⟨2, ![2, 128]⟩
abbrev S2x128x512 : Shape := ⟨3, ![2, 128, 512]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x32 : Shape := ⟨2, ![8192, 32]⟩
abbrev S8192x128 : Shape := ⟨2, ![8192, 128]⟩
abbrev S2x1024x256 : Shape := ⟨3, ![2, 1024, 256]⟩
abbrev S2x1024x128 : Shape := ⟨3, ![2, 1024, 128]⟩
abbrev S2x1024x192 : Shape := ⟨3, ![2, 1024, 192]⟩
abbrev S2x1024x32 : Shape := ⟨3, ![2, 1024, 32]⟩
abbrev S2x1024x5120 : Shape := ⟨3, ![2, 1024, 5120]⟩
abbrev S2x1024x16 : Shape := ⟨3, ![2, 1024, 16]⟩
abbrev S1024x64 : Shape := ⟨2, ![1024, 64]⟩
abbrev S1024x32 : Shape := ⟨2, ![1024, 32]⟩
abbrev S2x1024x64 : Shape := ⟨3, ![2, 1024, 64]⟩
abbrev S2x1024x2432 : Shape := ⟨3, ![2, 1024, 2432]⟩
abbrev S2x256x1024 : Shape := ⟨3, ![2, 256, 1024]⟩
abbrev S2x192x96 : Shape := ⟨3, ![2, 192, 96]⟩
abbrev S2x192x64 : Shape := ⟨3, ![2, 192, 64]⟩
abbrev S2x192x16 : Shape := ⟨3, ![2, 192, 16]⟩
abbrev S192x32 : Shape := ⟨2, ![192, 32]⟩
abbrev S2x192x32 : Shape := ⟨3, ![2, 192, 32]⟩
abbrev S2x192x128 : Shape := ⟨3, ![2, 192, 128]⟩
abbrev S192x64 : Shape := ⟨2, ![192, 64]⟩
abbrev S2x192x1024 : Shape := ⟨3, ![2, 192, 1024]⟩
abbrev S128x64 : Shape := ⟨2, ![128, 64]⟩
abbrev S2x128x128 : Shape := ⟨3, ![2, 128, 128]⟩
abbrev S2x128x64 : Shape := ⟨3, ![2, 128, 64]⟩
abbrev S2x128x768 : Shape := ⟨3, ![2, 128, 768]⟩
abbrev S2x256 : Shape := ⟨2, ![2, 256]⟩
abbrev S2x1x256 : Shape := ⟨3, ![2, 1, 256]⟩
abbrev S2x1x1024 : Shape := ⟨3, ![2, 1, 1024]⟩
abbrev S2x1x128 : Shape := ⟨3, ![2, 1, 128]⟩
abbrev S256x16384 : Shape := ⟨2, ![256, 16384]⟩
abbrev S16384x768 : Shape := ⟨2, ![16384, 768]⟩
abbrev S16384x256 : Shape := ⟨2, ![16384, 256]⟩
abbrev S16384x512 : Shape := ⟨2, ![16384, 512]⟩
abbrev S512x1024 : Shape := ⟨2, ![512, 1024]⟩
abbrev S1x1x1024 : Shape := ⟨3, ![1, 1, 1024]⟩
abbrev S1x256x1024 : Shape := ⟨3, ![1, 256, 1024]⟩
abbrev S1x1024x2432 : Shape := ⟨3, ![1, 1024, 2432]⟩
abbrev S1x128x768 : Shape := ⟨3, ![1, 128, 768]⟩
abbrev S1x1x256 : Shape := ⟨3, ![1, 1, 256]⟩
abbrev S1x1x128 : Shape := ⟨3, ![1, 1, 128]⟩
abbrev S512x128 : Shape := ⟨2, ![512, 128]⟩
abbrev S256x512 : Shape := ⟨2, ![256, 512]⟩
abbrev S512x768 : Shape := ⟨2, ![512, 768]⟩
abbrev S512x256 : Shape := ⟨2, ![512, 256]⟩
abbrev S512x512 : Shape := ⟨2, ![512, 512]⟩
abbrev S1x1024 : Shape := ⟨2, ![1, 1024]⟩
abbrev S512 : Shape := ⟨1, ![512]⟩
abbrev S512x1 : Shape := ⟨2, ![512, 1]⟩
abbrev S256x1024 : Shape := ⟨2, ![256, 1024]⟩
abbrev S1x1024x768 : Shape := ⟨3, ![1, 1024, 768]⟩
abbrev S1024x768 : Shape := ⟨2, ![1024, 768]⟩
abbrev S1x1024x256 : Shape := ⟨3, ![1, 1024, 256]⟩
abbrev S1024x256 : Shape := ⟨2, ![1024, 256]⟩
abbrev S1x1024x640 : Shape := ⟨3, ![1, 1024, 640]⟩
abbrev S1024x640 : Shape := ⟨2, ![1024, 640]⟩
abbrev S512x640 : Shape := ⟨2, ![512, 640]⟩
abbrev S1x256 : Shape := ⟨2, ![1, 256]⟩
abbrev S1x128 : Shape := ⟨2, ![1, 128]⟩
abbrev S128x768 : Shape := ⟨2, ![128, 768]⟩

abbrev nBuf : Space → Nat
  | .hbm => 180
  | .vmem => 27
  | .smem => 0
  | _ => 0

abbrev hbmTy0_0 (i : Nat) : BufTy := match i % 128 with
  | 0 => ⟨S16384x1024, .f32⟩
  | 1 => ⟨S2x1024, .f32⟩
  | 2 => ⟨S2x1024x7264, .f32⟩
  | 3 => ⟨S2x192, .f32⟩
  | 4 => ⟨S2x192x384, .f32⟩
  | 5 => ⟨S2x128, .f32⟩
  | 6 => ⟨S2x128x512, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S8192, .f32⟩
  | 16 => ⟨S8192x1, .f32⟩
  | 17 => ⟨S1x16, .f32⟩
  | 18 => ⟨S8192x16, .f32⟩
  | 19 => ⟨S8192x16, .f32⟩
  | 20 => ⟨S8192x16, .f32⟩
  | 21 => ⟨S8192x16, .f32⟩
  | 22 => ⟨S8192x16, .f32⟩
  | 23 => ⟨S_, .f32⟩
  | 24 => ⟨S8192x64, .f32⟩
  | 25 => ⟨S_, .f32⟩
  | 26 => ⟨S8192x64, .f32⟩
  | 27 => ⟨S_, .f32⟩
  | 28 => ⟨S8192x32, .f32⟩
  | 29 => ⟨S8192x128, .f32⟩
  | 30 => ⟨S8192x128, .f32⟩
  | 31 => ⟨S2x1024x256, .f32⟩
  | 32 => ⟨S2x1024x256, .f32⟩
  | 33 => ⟨S2x1024x128, .f32⟩
  | 34 => ⟨S2x1024x128, .f32⟩
  | 35 => ⟨S2x1024x256, .f32⟩
  | 36 => ⟨S2x1024x256, .f32⟩
  | 37 => ⟨S2x1024x256, .f32⟩
  | 38 => ⟨S2x1024x192, .f32⟩
  | 39 => ⟨S2x1024x128, .f32⟩
  | 40 => ⟨S2x1024x32, .f32⟩
  | 41 => ⟨S2x1024x256, .f32⟩
  | 42 => ⟨S2x1024x5120, .f32⟩
  | 43 => ⟨S2x1024x16, .f32⟩
  | 44 => ⟨S2x1024x16, .f32⟩
  | 45 => ⟨S_, .f32⟩
  | 46 => ⟨S1024x64, .f32⟩
  | 47 => ⟨S_, .f32⟩
  | 48 => ⟨S1024x32, .f32⟩
  | 49 => ⟨S2x1024x64, .f32⟩
  | 50 => ⟨S2x1024x32, .f32⟩
  | 51 => ⟨S2x1024x128, .f32⟩
  | 52 => ⟨S_, .f32⟩
  | 53 => ⟨S1024x64, .f32⟩
  | 54 => ⟨S2x1024x16, .f32⟩
  | 55 => ⟨S_, .f32⟩
  | 56 => ⟨S1024x32, .f32⟩
  | 57 => ⟨S2x1024x64, .f32⟩
  | 58 => ⟨S2x1024x32, .f32⟩
  | 59 => ⟨S2x1024x128, .f32⟩
  | 60 => ⟨S2x1024x64, .f32⟩
  | 61 => ⟨S2x1024x64, .f32⟩
  | 62 => ⟨S2x1024x256, .f32⟩
  | 63 => ⟨S2x1024x64, .f32⟩
  | 64 => ⟨S2x1024x64, .f32⟩
  | 65 => ⟨S2x1024x256, .f32⟩
  | 66 => ⟨S_, .f32⟩
  | 67 => ⟨S1024x64, .f32⟩
  | 68 => ⟨S2x1024x64, .f32⟩
  | 69 => ⟨S2x1024x2432, .f32⟩
  | 70 => ⟨S2x256x1024, .f32⟩
  | 71 => ⟨S2x256x1024, .bf16⟩
  | 72 => ⟨S2x1024x2432, .bf16⟩
  | 73 => ⟨S2x1024x5120, .bf16⟩
  | 74 => ⟨S2x192x96, .f32⟩
  | 75 => ⟨S2x192x64, .f32⟩
  | 76 => ⟨S2x192x16, .f32⟩
  | 77 => ⟨S2x192x16, .f32⟩
  | 78 => ⟨S_, .f32⟩
  | 79 => ⟨S192x32, .f32⟩
  | 80 => ⟨S2x192x32, .f32⟩
  | 81 => ⟨S2x192x128, .f32⟩
  | 82 => ⟨S_, .f32⟩
  | 83 => ⟨S192x64, .f32⟩
  | 84 => ⟨S2x192x16, .f32⟩
  | 85 => ⟨S_, .f32⟩
  | 86 => ⟨S192x32, .f32⟩
  | 87 => ⟨S2x192x64, .f32⟩
  | 88 => ⟨S2x192x32, .f32⟩
  | 89 => ⟨S2x192x128, .f32⟩
  | 90 => ⟨S2x192x96, .f32⟩
  | 91 => ⟨S2x192x64, .f32⟩
  | 92 => ⟨S2x192x16, .f32⟩
  | 93 => ⟨S2x192x16, .f32⟩
  | 94 => ⟨S_, .f32⟩
  | 95 => ⟨S192x32, .f32⟩
  | 96 => ⟨S2x192x32, .f32⟩
  | 97 => ⟨S2x192x128, .f32⟩
  | 98 => ⟨S_, .f32⟩
  | 99 => ⟨S192x64, .f32⟩
  | 100 => ⟨S2x192x16, .f32⟩
  | 101 => ⟨S_, .f32⟩
  | 102 => ⟨S192x32, .f32⟩
  | 103 => ⟨S2x192x64, .f32⟩
  | 104 => ⟨S2x192x32, .f32⟩
  | 105 => ⟨S2x192x128, .f32⟩
  | 106 => ⟨S2x192x96, .f32⟩
  | 107 => ⟨S2x192x64, .f32⟩
  | 108 => ⟨S2x192x16, .f32⟩
  | 109 => ⟨S2x192x16, .f32⟩
  | 110 => ⟨S_, .f32⟩
  | 111 => ⟨S192x32, .f32⟩
  | 112 => ⟨S2x192x32, .f32⟩
  | 113 => ⟨S2x192x128, .f32⟩
  | 114 => ⟨S_, .f32⟩
  | 115 => ⟨S192x64, .f32⟩
  | 116 => ⟨S2x192x16, .f32⟩
  | 117 => ⟨S_, .f32⟩
  | 118 => ⟨S192x32, .f32⟩
  | 119 => ⟨S2x192x64, .f32⟩
  | 120 => ⟨S2x192x32, .f32⟩
  | 121 => ⟨S2x192x128, .f32⟩
  | 122 => ⟨S2x192x96, .f32⟩
  | 123 => ⟨S2x192x64, .f32⟩
  | 124 => ⟨S2x192x16, .f32⟩
  | 125 => ⟨S2x192x16, .f32⟩
  | 126 => ⟨S_, .f32⟩
  | 127 => ⟨S192x32, .f32⟩
  | _ => ⟨S16384x1024, .f32⟩

abbrev hbmTy0_1 (i : Nat) : BufTy := match i % 128 with
  | 0 => ⟨S2x192x32, .f32⟩
  | 1 => ⟨S2x192x128, .f32⟩
  | 2 => ⟨S_, .f32⟩
  | 3 => ⟨S192x64, .f32⟩
  | 4 => ⟨S2x192x16, .f32⟩
  | 5 => ⟨S_, .f32⟩
  | 6 => ⟨S192x32, .f32⟩
  | 7 => ⟨S2x192x64, .f32⟩
  | 8 => ⟨S2x192x32, .f32⟩
  | 9 => ⟨S2x192x128, .f32⟩
  | 10 => ⟨S2x192x1024, .f32⟩
  | 11 => ⟨S_, .i32⟩
  | 12 => ⟨S_, .f32⟩
  | 13 => ⟨S2x256x1024, .f32⟩
  | 14 => ⟨S_, .f32⟩
  | 15 => ⟨S128x64, .f32⟩
  | 16 => ⟨S2x128x128, .f32⟩
  | 17 => ⟨S2x128x64, .f32⟩
  | 18 => ⟨S2x128x64, .f32⟩
  | 19 => ⟨S2x128x128, .f32⟩
  | 20 => ⟨S2x128x64, .f32⟩
  | 21 => ⟨S2x128x128, .f32⟩
  | 22 => ⟨S2x128x64, .f32⟩
  | 23 => ⟨S2x128x64, .f32⟩
  | 24 => ⟨S2x128x128, .f32⟩
  | 25 => ⟨S2x128x64, .f32⟩
  | 26 => ⟨S2x128x128, .f32⟩
  | 27 => ⟨S2x128x64, .f32⟩
  | 28 => ⟨S2x128x64, .f32⟩
  | 29 => ⟨S2x128x128, .f32⟩
  | 30 => ⟨S2x128x64, .f32⟩
  | 31 => ⟨S2x128x128, .f32⟩
  | 32 => ⟨S2x128x64, .f32⟩
  | 33 => ⟨S2x128x64, .f32⟩
  | 34 => ⟨S2x128x128, .f32⟩
  | 35 => ⟨S2x128x64, .f32⟩
  | 36 => ⟨S2x128x768, .f32⟩
  | 37 => ⟨S2x256x1024, .bf16⟩
  | 38 => ⟨S2x128x768, .bf16⟩
  | 39 => ⟨S_, .i32⟩
  | 40 => ⟨S_, .f32⟩
  | 41 => ⟨S2x256, .f32⟩
  | 42 => ⟨S2x1x256, .f32⟩
  | 43 => ⟨S2x1x1024, .f32⟩
  | 44 => ⟨S2x1x128, .f32⟩
  | 45 => ⟨S256x16384, .f32⟩
  | 46 => ⟨S16384x768, .bf16⟩
  | 47 => ⟨S16384x768, .bf16⟩
  | 48 => ⟨S16384x256, .bf16⟩
  | 49 => ⟨S16384x512, .bf16⟩
  | 50 => ⟨S16384x512, .bf16⟩
  | 51 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x256x1024, .bf16⟩
  | .local _ .vmem, ⟨4, _⟩ => ⟨S1x1024x2432, .bf16⟩
  | .local _ .vmem, ⟨5, _⟩ => ⟨S1x256x1024, .bf16⟩
  | .local _ .vmem, ⟨6, _⟩ => ⟨S1x128x768, .bf16⟩
  | .local _ .vmem, ⟨7, _⟩ => ⟨S1x1x256, .f32⟩
  | .local _ .vmem, ⟨8, _⟩ => ⟨S1x1x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S256x512, .f32⟩
  | .local _ .vmem, ⟨14, _⟩ => ⟨S256x512, .f32⟩
  | .local _ .vmem, ⟨15, _⟩ => ⟨S512x768, .bf16⟩
  | .local _ .vmem, ⟨16, _⟩ => ⟨S512x768, .bf16⟩
  | .local _ .vmem, ⟨17, _⟩ => ⟨S512x768, .bf16⟩
  | .local _ .vmem, ⟨18, _⟩ => ⟨S512x768, .bf16⟩
  | .local _ .vmem, ⟨19, _⟩ => ⟨S512x256, .bf16⟩
  | .local _ .vmem, ⟨20, _⟩ => ⟨S512x256, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x256, .bf16⟩
  | .local _ .vmem, ⟨26, _⟩ => ⟨S512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_v78 : Ref sig .tc := ⟨.hbm, 100, rfl⟩
abbrev main_cst_14 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_15 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_16 : Ref sig .tc := ⟨.hbm, 114, rfl⟩
abbrev main_v90 : Ref sig .tc := ⟨.hbm, 115, rfl⟩
abbrev main_v91 : Ref sig .tc := ⟨.hbm, 116, rfl⟩
abbrev main_cst_17 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_18 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_19 : Ref sig .tc := ⟨.hbm, 130, rfl⟩
abbrev main_v103 : Ref sig .tc := ⟨.hbm, 131, rfl⟩
abbrev main_v104 : Ref sig .tc := ⟨.hbm, 132, rfl⟩
abbrev main_cst_20 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_c : Ref sig .tc := ⟨.hbm, 139, rfl⟩
abbrev main_call0_v0 : Ref sig .tc := ⟨.hbm, 140, rfl⟩
abbrev main_v110 : Ref sig .tc := ⟨.hbm, 141, rfl⟩
abbrev main_cst_21 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_c_22 : Ref sig .tc := ⟨.hbm, 167, rfl⟩
abbrev main_call1_v0 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139_0 : Ref sig .tc := ⟨.hbm, 173, rfl⟩
abbrev main_v139_1 : Ref sig .tc := ⟨.hbm, 174, rfl⟩
abbrev main_v139_2 : Ref sig .tc := ⟨.hbm, 175, rfl⟩
abbrev main_v139_3 : Ref sig .tc := ⟨.hbm, 176, rfl⟩
abbrev main_v139_4 : Ref sig .tc := ⟨.hbm, 177, rfl⟩
abbrev main_v139_5 : Ref sig .tc := ⟨.hbm, 178, rfl⟩
abbrev main_v139_6 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S16384x1024 : Shape := ⟨2, ![16384, 1024]⟩
abbrev S2x1024 : Shape := ⟨2, ![2, 1024]⟩
abbrev S2x1024x7264 : Shape := ⟨3, ![2, 1024, 7264]⟩
abbrev S2x192 : Shape := ⟨2, ![2, 192]⟩
abbrev S2x192x384 : Shape := ⟨3, ![2, 192, 384]⟩
abbrev S2x128 : Shape := ⟨2, ![2, 128]⟩
abbrev S2x128x512 : Shape := ⟨3, ![2, 128, 512]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x7264 : Shape := ⟨3, ![1, 1024, 7264]⟩
abbrev S1024x7264 : Shape := ⟨2, ![1024, 7264]⟩
abbrev S16384x7264 : Shape := ⟨2, ![16384, 7264]⟩
abbrev S16384x256 : Shape := ⟨2, ![16384, 256]⟩
abbrev S16384x128 : Shape := ⟨2, ![16384, 128]⟩
abbrev S16384x192 : Shape := ⟨2, ![16384, 192]⟩
abbrev S16384x32 : Shape := ⟨2, ![16384, 32]⟩
abbrev S16384x5120 : Shape := ⟨2, ![16384, 5120]⟩
abbrev S16384x2x64 : Shape := ⟨3, ![16384, 2, 64]⟩
abbrev S16384x2x2x64 : Shape := ⟨4, ![16384, 2, 2, 64]⟩
abbrev S16384x4x64 : Shape := ⟨3, ![16384, 4, 64]⟩
abbrev S16384x768 : Shape := ⟨2, ![16384, 768]⟩
abbrev S256x16384 : Shape := ⟨2, ![256, 16384]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x7264, .f32⟩
  | .hbm, ⟨3, _⟩ => ⟨S2x192, .f32⟩
  | .hbm, ⟨4, _⟩ => ⟨S2x192x384, .f32⟩
  | .hbm, ⟨5, _⟩ => ⟨S2x128, .f32⟩
  | .hbm, ⟨6, _⟩ => ⟨S2x128x512, .f32⟩
  | .hbm, ⟨7, _⟩ => ⟨S1x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024x7264, .f32⟩
  | .hbm, ⟨26, _⟩ => ⟨S1024x7264, .f32⟩
  | .hbm, ⟨27, _⟩ => ⟨S16384x7264, .f32⟩
  | .hbm, ⟨28, _⟩ => ⟨S16384x256, .f32⟩
  | .hbm, ⟨29, _⟩ => ⟨S16384x256, .f32⟩
  | .hbm, ⟨30, _⟩ => ⟨S16384x128, .f32⟩
  | .hbm, ⟨31, _⟩ => ⟨S16384x128, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x192, .f32⟩
  | .hbm, ⟨36, _⟩ => ⟨S16384x128, .f32⟩
  | .hbm, ⟨37, _⟩ => ⟨S16384x32, .f32⟩
  | .hbm, ⟨38, _⟩ => ⟨S16384x256, .f32⟩
  | .hbm, ⟨39, _⟩ => ⟨S16384x5120, .f32⟩
  | .hbm, ⟨40, _⟩ => ⟨S16384x2x64, .f32⟩
  | .hbm, ⟨41, _⟩ => ⟨S16384x2x2x64, .f32⟩
  | .hbm, ⟨42, _⟩ => ⟨S16384x4x64, .f32⟩
  | .hbm, ⟨43, _⟩ => ⟨S16384x256, .f32⟩
  | .hbm, ⟨44, _⟩ => ⟨S16384x2x64, .f32⟩
  | .hbm, ⟨45, _⟩ => ⟨S16384x2x2x64, .f32⟩
  | .hbm, ⟨46, _⟩ => ⟨S16384x4x64, .f32⟩
  | .hbm, ⟨47, _⟩ => ⟨S16384x256, .f32⟩
  | .hbm, ⟨48, _⟩ => ⟨S16384x768, .f32⟩
  | .hbm, ⟨49, _⟩ => ⟨S16384x768, .f32⟩
  | .hbm, ⟨50, _⟩ => ⟨S256x16384, .f32⟩
  | .hbm, ⟨51, _⟩ => ⟨S16384x768, .bf16⟩
  | .hbm, ⟨52, _⟩ => ⟨S16384x768, .bf16⟩
  | .hbm, ⟨53, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel6.lean ====
abbrev S2x256x1024 : Shape := ⟨3, ![2, 256, 1024]⟩
abbrev S2x1024 : Shape := ⟨2, ![2, 1024]⟩
abbrev S2x1024x512 : Shape := ⟨3, ![2, 1024, 512]⟩
abbrev S2x1x1024 : Shape := ⟨3, ![2, 1, 1024]⟩
abbrev S2x256x512 : Shape := ⟨3, ![2, 256, 512]⟩
abbrev S1x256x1024 : Shape := ⟨3, ![1, 256, 1024]⟩
abbrev S1x1x1024 : Shape := ⟨3, ![1, 1, 1024]⟩
abbrev S1x1024x512 : Shape := ⟨3, ![1, 1024, 512]⟩
abbrev S1x256x512 : Shape := ⟨3, ![1, 256, 512]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 6
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S2x1024, .f32⟩
  | .hbm, ⟨2, _⟩ => ⟨S2x1024x512, .f32⟩
  | .hbm, ⟨3, _⟩ => ⟨S2x1x1024, .f32⟩
  | .hbm, ⟨4, _⟩ => ⟨S2x1024x512, .bf16⟩
  | .hbm, ⟨5, _⟩ => ⟨S2x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1024x512, .bf16⟩
  | .local _ .vmem, ⟨4, _⟩ => ⟨S1x256x512, .bf16⟩
  | .local _ .vmem, ⟨5, _⟩ => ⟨S1x256x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x256x1024 : Shape := ⟨3, ![2, 256, 1024]⟩
abbrev S2x1024 : Shape := ⟨2, ![2, 1024]⟩
abbrev S2x1024x512 : Shape := ⟨3, ![2, 1024, 512]⟩
abbrev S1x1024 : Shape := ⟨2, ![1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1x1024x512 : Shape := ⟨3, ![1, 1024, 512]⟩
abbrev S1024x512 : Shape := ⟨2, ![1024, 512]⟩
abbrev S2x256x512 : Shape := ⟨3, ![2, 256, 512]⟩

abbrev nBuf : Space → Nat
  | .hbm => 25
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x1024, .f32⟩
  | .hbm, ⟨2, _⟩ => ⟨S2x1024x512, .f32⟩
  | .hbm, ⟨3, _⟩ => ⟨S1x1024, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1x1024x512, .f32⟩
  | .hbm, ⟨22, _⟩ => ⟨S1024x512, .f32⟩
  | .hbm, ⟨23, _⟩ => ⟨S2x256x512, .f32⟩
  | .hbm, ⟨24, _⟩ => ⟨S2x256x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel7.lean ====
abbrev S2x8192x256 : Shape := ⟨3, ![2, 8192, 256]⟩
abbrev S2x256x512 : Shape := ⟨3, ![2, 256, 512]⟩
abbrev S_ : Shape := ⟨0, ![]⟩
abbrev S1x512x256 : Shape := ⟨3, ![1, 512, 256]⟩
abbrev S1x256x512 : Shape := ⟨3, ![1, 256, 512]⟩
abbrev S1x512x128 : Shape := ⟨3, ![1, 512, 128]⟩
abbrev S512x128 : Shape := ⟨2, ![512, 128]⟩
abbrev S1x128 : Shape := ⟨2, ![1, 128]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 12
  | .vmem => 6
  | .smem => 0
  | _ => 0

abbrev bufTy : (tb : Table) → Fin (tcTables nBuf tb) → BufTy
  | .hbm, ⟨0, _⟩ => ⟨S2x8192x256, .f32⟩
  | .hbm, ⟨1, _⟩ => ⟨S2x256x512, .f32⟩
  | .hbm, ⟨2, _⟩ => ⟨S_, .f32⟩
  | .hbm, ⟨3, _⟩ => ⟨S2x8192x256, .f32⟩
  | .hbm, ⟨4, _⟩ => ⟨S2x8192x256, .f32⟩
  | .hbm, ⟨5, _⟩ => ⟨S_, .f32⟩
  | .hbm, ⟨6, _⟩ => ⟨S_, .f32⟩
  | .hbm, ⟨7, _⟩ => ⟨S2x8192x256, .f32⟩
  | .hbm, ⟨8, _⟩ => ⟨S2x8192x256, .f32⟩
  | .hbm, ⟨9, _⟩ => ⟨S2x8192x256, .bf16⟩
  | .hbm, ⟨10, _⟩ => ⟨S2x256x512, .bf16⟩
  | .hbm, ⟨11, _⟩ => ⟨S2x8192x256, .bf16⟩
  | .local _ .vmem, ⟨0, _⟩ => ⟨S1x512x256, .bf16⟩
  | .local _ .vmem, ⟨1, _⟩ => ⟨S1x512x256, .bf16⟩
  | .local _ .vmem, ⟨2, _⟩ => ⟨S1x256x512, .bf16⟩
  | .local _ .vmem, ⟨3, _⟩ => ⟨S1x256x512, .bf16⟩
  | .local _ .vmem, ⟨4, _⟩ => ⟨S1x512x256, .bf16⟩
  | .local _ .vmem, ⟨5, _⟩ => ⟨S1x512x256, .bf16⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x8192x256 : Shape := ⟨3, ![2, 8192, 256]⟩
abbrev S2x256x512 : Shape := ⟨3, ![2, 256, 512]⟩
abbrev S2x256x256 : Shape := ⟨3, ![2, 256, 256]⟩
abbrev S2x256x4x64 : Shape := ⟨4, ![2, 256, 4, 64]⟩
abbrev S2x8192x4x64 : Shape := ⟨4, ![2, 8192, 4, 64]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x256, .f32⟩
  | .hbm, ⟨1, _⟩ => ⟨S2x256x512, .f32⟩
  | .hbm, ⟨2, _⟩ => ⟨S2x256x256, .f32⟩
  | .hbm, ⟨3, _⟩ => ⟨S2x256x256, .f32⟩
  | .hbm, ⟨4, _⟩ => ⟨S2x256x4x64, .f32⟩
  | .hbm, ⟨5, _⟩ => ⟨S2x256x4x64, .f32⟩
  | .hbm, ⟨6, _⟩ => ⟨S2x8192x4x64, .f32⟩
  | .hbm, ⟨7, _⟩ => ⟨S2x4x8192x256, .f32⟩
  | .hbm, ⟨8, _⟩ => ⟨S_, .f32⟩
  | .hbm, ⟨9, _⟩ => ⟨S2x4x8192x256, .f32⟩
  | .hbm, ⟨10, _⟩ => ⟨S2x4x8192x256, .f32⟩
  | .hbm, ⟨11, _⟩ => ⟨S_, .f32⟩
  | .hbm, ⟨12, _⟩ => ⟨S2x4x8192, .f32⟩
  | .hbm, ⟨13, _⟩ => ⟨S_, .f32⟩
  | .hbm, ⟨14, _⟩ => ⟨S2x4x8192, .f32⟩
  | .hbm, ⟨15, _⟩ => ⟨S2x4x8192, .f32⟩
  | .hbm, ⟨16, _⟩ => ⟨S2x4x8192x1, .f32⟩
  | .hbm, ⟨17, _⟩ => ⟨S2x4x8192x256, .f32⟩
  | .hbm, ⟨18, _⟩ => ⟨S2x4x8192x256, .f32⟩
  | .hbm, ⟨19, _⟩ => ⟨S2x4x8192x256, .f32⟩
  | .hbm, ⟨20, _⟩ => ⟨S_, .f32⟩
  | .hbm, ⟨21, _⟩ => ⟨S2x4x8192, .f32⟩
  | .hbm, ⟨22, _⟩ => ⟨S2x4x8192x1, .f32⟩
  | .hbm, ⟨23, _⟩ => ⟨S2x4x8192x256, .f32⟩
  | .hbm, ⟨24, _⟩ => ⟨S2x4x8192x256, .f32⟩
  | .hbm, ⟨25, _⟩ => ⟨S2x4x64x8192, .f32⟩
  | .hbm, ⟨26, _⟩ => ⟨S2x8192x4x64, .f32⟩
  | .hbm, ⟨27, _⟩ => ⟨S2x8192x256, .f32⟩
  | .hbm, ⟨28, _⟩ => ⟨S2x8192x256, .bf16⟩
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel8.lean ====
abbrev S16384x1024 : Shape := ⟨2, ![16384, 1024]⟩
abbrev S2x1024 : Shape := ⟨2, ![2, 1024]⟩
abbrev S2x1024x7264 : Shape := ⟨3, ![2, 1024, 7264]⟩
abbrev S2x192 : Shape := ⟨2, ![2, 192]⟩
abbrev S2x192x384 : Shape := ⟨3, ![2, 192, 384]⟩
abbrev S2x128 : Shape := ⟨2, ![2, 128]⟩
abbrev S2x128x512 : Shape := ⟨3, ![2, 128, 512]⟩
abbrev S16 : Shape := ⟨1, ![16]⟩
abbrev S_ : Shape := ⟨0, ![]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x32 : Shape := ⟨2, ![8192, 32]⟩
abbrev S8192x128 : Shape := ⟨2, ![8192, 128]⟩
abbrev S2x1024x256 : Shape := ⟨3, ![2, 1024, 256]⟩
abbrev S2x1024x128 : Shape := ⟨3, ![2, 1024, 128]⟩
abbrev S2x1024x192 : Shape := ⟨3, ![2, 1024, 192]⟩
abbrev S2x1024x32 : Shape := ⟨3, ![2, 1024, 32]⟩
abbrev S2x1024x5120 : Shape := ⟨3, ![2, 1024, 5120]⟩
abbrev S2x1024x16 : Shape := ⟨3, ![2, 1024, 16]⟩
abbrev S1024x64 : Shape := ⟨2, ![1024, 64]⟩
abbrev S1024x32 : Shape := ⟨2, ![1024, 32]⟩
abbrev S2x1024x64 : Shape := ⟨3, ![2, 1024, 64]⟩
abbrev S2x1024x2432 : Shape := ⟨3, ![2, 1024, 2432]⟩
abbrev S2x256x1024 : Shape := ⟨3, ![2, 256, 1024]⟩
abbrev S2x192x96 : Shape := ⟨3, ![2, 192, 96]⟩
abbrev S2x192x64 : Shape := ⟨3, ![2, 192, 64]⟩
abbrev S2x192x16 : Shape := ⟨3, ![2, 192, 16]⟩
abbrev S192x32 : Shape := ⟨2, ![192, 32]⟩
abbrev S2x192x32 : Shape := ⟨3, ![2, 192, 32]⟩
abbrev S2x192x128 : Shape := ⟨3, ![2, 192, 128]⟩
abbrev S192x64 : Shape := ⟨2, ![192, 64]⟩
abbrev S2x192x1024 : Shape := ⟨3, ![2, 192, 1024]⟩
abbrev S128x64 : Shape := ⟨2, ![128, 64]⟩
abbrev S2x128x128 : Shape := ⟨3, ![2, 128, 128]⟩
abbrev S2x128x64 : Shape := ⟨3, ![2, 128, 64]⟩
abbrev S2x128x768 : Shape := ⟨3, ![2, 128, 768]⟩
abbrev S2x256 : Shape := ⟨2, ![2, 256]⟩
abbrev S2x1x256 : Shape := ⟨3, ![2, 1, 256]⟩
abbrev S2x1x1024 : Shape := ⟨3, ![2, 1, 1024]⟩
abbrev S2x1x128 : Shape := ⟨3, ![2, 1, 128]⟩
abbrev S256x16384 : Shape := ⟨2, ![256, 16384]⟩
abbrev S16384x768 : Shape := ⟨2, ![16384, 768]⟩
abbrev S16384x256 : Shape := ⟨2, ![16384, 256]⟩
abbrev S16384x512 : Shape := ⟨2, ![16384, 512]⟩
abbrev S512x1024 : Shape := ⟨2, ![512, 1024]⟩
abbrev S1x1x1024 : Shape := ⟨3, ![1, 1, 1024]⟩
abbrev S1x256x1024 : Shape := ⟨3, ![1, 256, 1024]⟩
abbrev S1x1024x2432 : Shape := ⟨3, ![1, 1024, 2432]⟩
abbrev S1x128x768 : Shape := ⟨3, ![1, 128, 768]⟩
abbrev S1x1x256 : Shape := ⟨3, ![1, 1, 256]⟩
abbrev S1x1x128 : Shape := ⟨3, ![1, 1, 128]⟩
abbrev S512x128 : Shape := ⟨2, ![512, 128]⟩
abbrev S256x512 : Shape := ⟨2, ![256, 512]⟩
abbrev S512x768 : Shape := ⟨2, ![512, 768]⟩
abbrev S512x256 : Shape := ⟨2, ![512, 256]⟩
abbrev S512x512 : Shape := ⟨2, ![512, 512]⟩
abbrev S1x1024 : Shape := ⟨2, ![1, 1024]⟩
abbrev S512 : Shape := ⟨1, ![512]⟩
abbrev S512x1 : Shape := ⟨2, ![512, 1]⟩
abbrev S256x1024 : Shape := ⟨2, ![256, 1024]⟩
abbrev S1x1024x768 : Shape := ⟨3, ![1, 1024, 768]⟩
abbrev S1024x768 : Shape := ⟨2, ![1024, 768]⟩
abbrev S1x1024x256 : Shape := ⟨3, ![1, 1024, 256]⟩
abbrev S1024x256 : Shape := ⟨2, ![1024, 256]⟩
abbrev S1x1024x640 : Shape := ⟨3, ![1, 1024, 640]⟩
abbrev S1024x640 : Shape := ⟨2, ![1024, 640]⟩
abbrev S512x640 : Shape := ⟨2, ![512, 640]⟩
abbrev S1x256 : Shape := ⟨2, ![1, 256]⟩
abbrev S1x128 : Shape := ⟨2, ![1, 128]⟩
abbrev S128x768 : Shape := ⟨2, ![128, 768]⟩

abbrev nBuf : Space → Nat
  | .hbm => 180
  | .vmem => 27
  | .smem => 0
  | _ => 0

abbrev hbmTy0_0 (i : Nat) : BufTy := match i % 128 with
  | 0 => ⟨S16384x1024, .f32⟩
  | 1 => ⟨S2x1024, .f32⟩
  | 2 => ⟨S2x1024x7264, .f32⟩
  | 3 => ⟨S2x192, .f32⟩
  | 4 => ⟨S2x192x384, .f32⟩
  | 5 => ⟨S2x128, .f32⟩
  | 6 => ⟨S2x128x512, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S8192, .f32⟩
  | 16 => ⟨S8192x1, .f32⟩
  | 17 => ⟨S1x16, .f32⟩
  | 18 => ⟨S8192x16, .f32⟩
  | 19 => ⟨S8192x16, .f32⟩
  | 20 => ⟨S8192x16, .f32⟩
  | 21 => ⟨S8192x16, .f32⟩
  | 22 => ⟨S8192x16, .f32⟩
  | 23 => ⟨S_, .f32⟩
  | 24 => ⟨S8192x64, .f32⟩
  | 25 => ⟨S_, .f32⟩
  | 26 => ⟨S8192x64, .f32⟩
  | 27 => ⟨S_, .f32⟩
  | 28 => ⟨S8192x32, .f32⟩
  | 29 => ⟨S8192x128, .f32⟩
  | 30 => ⟨S8192x128, .f32⟩
  | 31 => ⟨S2x1024x256, .f32⟩
  | 32 => ⟨S2x1024x256, .f32⟩
  | 33 => ⟨S2x1024x128, .f32⟩
  | 34 => ⟨S2x1024x128, .f32⟩
  | 35 => ⟨S2x1024x256, .f32⟩
  | 36 => ⟨S2x1024x256, .f32⟩
  | 37 => ⟨S2x1024x256, .f32⟩
  | 38 => ⟨S2x1024x192, .f32⟩
  | 39 => ⟨S2x1024x128, .f32⟩
  | 40 => ⟨S2x1024x32, .f32⟩
  | 41 => ⟨S2x1024x256, .f32⟩
  | 42 => ⟨S2x1024x5120, .f32⟩
  | 43 => ⟨S2x1024x16, .f32⟩
  | 44 => ⟨S2x1024x16, .f32⟩
  | 45 => ⟨S_, .f32⟩
  | 46 => ⟨S1024x64, .f32⟩
  | 47 => ⟨S_, .f32⟩
  | 48 => ⟨S1024x32, .f32⟩
  | 49 => ⟨S2x1024x64, .f32⟩
  | 50 => ⟨S2x1024x32, .f32⟩
  | 51 => ⟨S2x1024x128, .f32⟩
  | 52 => ⟨S_, .f32⟩
  | 53 => ⟨S1024x64, .f32⟩
  | 54 => ⟨S2x1024x16, .f32⟩
  | 55 => ⟨S_, .f32⟩
  | 56 => ⟨S1024x32, .f32⟩
  | 57 => ⟨S2x1024x64, .f32⟩
  | 58 => ⟨S2x1024x32, .f32⟩
  | 59 => ⟨S2x1024x128, .f32⟩
  | 60 => ⟨S2x1024x64, .f32⟩
  | 61 => ⟨S2x1024x64, .f32⟩
  | 62 => ⟨S2x1024x256, .f32⟩
  | 63 => ⟨S2x1024x64, .f32⟩
  | 64 => ⟨S2x1024x64, .f32⟩
  | 65 => ⟨S2x1024x256, .f32⟩
  | 66 => ⟨S_, .f32⟩
  | 67 => ⟨S1024x64, .f32⟩
  | 68 => ⟨S2x1024x64, .f32⟩
  | 69 => ⟨S2x1024x2432, .f32⟩
  | 70 => ⟨S2x256x1024, .f32⟩
  | 71 => ⟨S2x256x1024, .bf16⟩
  | 72 => ⟨S2x1024x2432, .bf16⟩
  | 73 => ⟨S2x1024x5120, .bf16⟩
  | 74 => ⟨S2x192x96, .f32⟩
  | 75 => ⟨S2x192x64, .f32⟩
  | 76 => ⟨S2x192x16, .f32⟩
  | 77 => ⟨S2x192x16, .f32⟩
  | 78 => ⟨S_, .f32⟩
  | 79 => ⟨S192x32, .f32⟩
  | 80 => ⟨S2x192x32, .f32⟩
  | 81 => ⟨S2x192x128, .f32⟩
  | 82 => ⟨S_, .f32⟩
  | 83 => ⟨S192x64, .f32⟩
  | 84 => ⟨S2x192x16, .f32⟩
  | 85 => ⟨S_, .f32⟩
  | 86 => ⟨S192x32, .f32⟩
  | 87 => ⟨S2x192x64, .f32⟩
  | 88 => ⟨S2x192x32, .f32⟩
  | 89 => ⟨S2x192x128, .f32⟩
  | 90 => ⟨S2x192x96, .f32⟩
  | 91 => ⟨S2x192x64, .f32⟩
  | 92 => ⟨S2x192x16, .f32⟩
  | 93 => ⟨S2x192x16, .f32⟩
  | 94 => ⟨S_, .f32⟩
  | 95 => ⟨S192x32, .f32⟩
  | 96 => ⟨S2x192x32, .f32⟩
  | 97 => ⟨S2x192x128, .f32⟩
  | 98 => ⟨S_, .f32⟩
  | 99 => ⟨S192x64, .f32⟩
  | 100 => ⟨S2x192x16, .f32⟩
  | 101 => ⟨S_, .f32⟩
  | 102 => ⟨S192x32, .f32⟩
  | 103 => ⟨S2x192x64, .f32⟩
  | 104 => ⟨S2x192x32, .f32⟩
  | 105 => ⟨S2x192x128, .f32⟩
  | 106 => ⟨S2x192x96, .f32⟩
  | 107 => ⟨S2x192x64, .f32⟩
  | 108 => ⟨S2x192x16, .f32⟩
  | 109 => ⟨S2x192x16, .f32⟩
  | 110 => ⟨S_, .f32⟩
  | 111 => ⟨S192x32, .f32⟩
  | 112 => ⟨S2x192x32, .f32⟩
  | 113 => ⟨S2x192x128, .f32⟩
  | 114 => ⟨S_, .f32⟩
  | 115 => ⟨S192x64, .f32⟩
  | 116 => ⟨S2x192x16, .f32⟩
  | 117 => ⟨S_, .f32⟩
  | 118 => ⟨S192x32, .f32⟩
  | 119 => ⟨S2x192x64, .f32⟩
  | 120 => ⟨S2x192x32, .f32⟩
  | 121 => ⟨S2x192x128, .f32⟩
  | 122 => ⟨S2x192x96, .f32⟩
  | 123 => ⟨S2x192x64, .f32⟩
  | 124 => ⟨S2x192x16, .f32⟩
  | 125 => ⟨S2x192x16, .f32⟩
  | 126 => ⟨S_, .f32⟩
  | 127 => ⟨S192x32, .f32⟩
  | _ => ⟨S16384x1024, .f32⟩

abbrev hbmTy0_1 (i : Nat) : BufTy := match i % 128 with
  | 0 => ⟨S2x192x32, .f32⟩
  | 1 => ⟨S2x192x128, .f32⟩
  | 2 => ⟨S_, .f32⟩
  | 3 => ⟨S192x64, .f32⟩
  | 4 => ⟨S2x192x16, .f32⟩
  | 5 => ⟨S_, .f32⟩
  | 6 => ⟨S192x32, .f32⟩
  | 7 => ⟨S2x192x64, .f32⟩
  | 8 => ⟨S2x192x32, .f32⟩
  | 9 => ⟨S2x192x128, .f32⟩
  | 10 => ⟨S2x192x1024, .f32⟩
  | 11 => ⟨S_, .i32⟩
  | 12 => ⟨S_, .f32⟩
  | 13 => ⟨S2x256x1024, .f32⟩
  | 14 => ⟨S_, .f32⟩
  | 15 => ⟨S128x64, .f32⟩
  | 16 => ⟨S2x128x128, .f32⟩
  | 17 => ⟨S2x128x64, .f32⟩
  | 18 => ⟨S2x128x64, .f32⟩
  | 19 => ⟨S2x128x128, .f32⟩
  | 20 => ⟨S2x128x64, .f32⟩
  | 21 => ⟨S2x128x128, .f32⟩
  | 22 => ⟨S2x128x64, .f32⟩
  | 23 => ⟨S2x128x64, .f32⟩
  | 24 => ⟨S2x128x128, .f32⟩
  | 25 => ⟨S2x128x64, .f32⟩
  | 26 => ⟨S2x128x128, .f32⟩
  | 27 => ⟨S2x128x64, .f32⟩
  | 28 => ⟨S2x128x64, .f32⟩
  | 29 => ⟨S2x128x128, .f32⟩
  | 30 => ⟨S2x128x64, .f32⟩
  | 31 => ⟨S2x128x128, .f32⟩
  | 32 => ⟨S2x128x64, .f32⟩
  | 33 => ⟨S2x128x64, .f32⟩
  | 34 => ⟨S2x128x128, .f32⟩
  | 35 => ⟨S2x128x64, .f32⟩
  | 36 => ⟨S2x128x768, .f32⟩
  | 37 => ⟨S2x256x1024, .bf16⟩
  | 38 => ⟨S2x128x768, .bf16⟩
  | 39 => ⟨S_, .i32⟩
  | 40 => ⟨S_, .f32⟩
  | 41 => ⟨S2x256, .f32⟩
  | 42 => ⟨S2x1x256, .f32⟩
  | 43 => ⟨S2x1x1024, .f32⟩
  | 44 => ⟨S2x1x128, .f32⟩
  | 45 => ⟨S256x16384, .f32⟩
  | 46 => ⟨S16384x768, .bf16⟩
  | 47 => ⟨S16384x768, .bf16⟩
  | 48 => ⟨S16384x256, .bf16⟩
  | 49 => ⟨S16384x512, .bf16⟩
  | 50 => ⟨S16384x512, .bf16⟩
  | 51 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x256x1024, .bf16⟩
  | .local _ .vmem, ⟨4, _⟩ => ⟨S1x1024x2432, .bf16⟩
  | .local _ .vmem, ⟨5, _⟩ => ⟨S1x256x1024, .bf16⟩
  | .local _ .vmem, ⟨6, _⟩ => ⟨S1x128x768, .bf16⟩
  | .local _ .vmem, ⟨7, _⟩ => ⟨S1x1x256, .f32⟩
  | .local _ .vmem, ⟨8, _⟩ => ⟨S1x1x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S256x512, .f32⟩
  | .local _ .vmem, ⟨14, _⟩ => ⟨S256x512, .f32⟩
  | .local _ .vmem, ⟨15, _⟩ => ⟨S512x768, .bf16⟩
  | .local _ .vmem, ⟨16, _⟩ => ⟨S512x768, .bf16⟩
  | .local _ .vmem, ⟨17, _⟩ => ⟨S512x768, .bf16⟩
  | .local _ .vmem, ⟨18, _⟩ => ⟨S512x768, .bf16⟩
  | .local _ .vmem, ⟨19, _⟩ => ⟨S512x256, .bf16⟩
  | .local _ .vmem, ⟨20, _⟩ => ⟨S512x256, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x256, .bf16⟩
  | .local _ .vmem, ⟨26, _⟩ => ⟨S512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_v78 : Ref sig .tc := ⟨.hbm, 100, rfl⟩
abbrev main_cst_14 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_15 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_16 : Ref sig .tc := ⟨.hbm, 114, rfl⟩
abbrev main_v90 : Ref sig .tc := ⟨.hbm, 115, rfl⟩
abbrev main_v91 : Ref sig .tc := ⟨.hbm, 116, rfl⟩
abbrev main_cst_17 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_18 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_19 : Ref sig .tc := ⟨.hbm, 130, rfl⟩
abbrev main_v103 : Ref sig .tc := ⟨.hbm, 131, rfl⟩
abbrev main_v104 : Ref sig .tc := ⟨.hbm, 132, rfl⟩
abbrev main_cst_20 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_c : Ref sig .tc := ⟨.hbm, 139, rfl⟩
abbrev main_call0_v0 : Ref sig .tc := ⟨.hbm, 140, rfl⟩
abbrev main_v110 : Ref sig .tc := ⟨.hbm, 141, rfl⟩
abbrev main_cst_21 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_c_22 : Ref sig .tc := ⟨.hbm, 167, rfl⟩
abbrev main_call1_v0 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139_0 : Ref sig .tc := ⟨.hbm, 173, rfl⟩
abbrev main_v139_1 : Ref sig .tc := ⟨.hbm, 174, rfl⟩
abbrev main_v139_2 : Ref sig .tc := ⟨.hbm, 175, rfl⟩
abbrev main_v139_3 : Ref sig .tc := ⟨.hbm, 176, rfl⟩
abbrev main_v139_4 : Ref sig .tc := ⟨.hbm, 177, rfl⟩
abbrev main_v139_5 : Ref sig .tc := ⟨.hbm, 178, rfl⟩
abbrev main_v139_6 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel8Ideal.lean ====
variable {F : FTy → Type} [FloatOps F] [Named F]
def κ : String → Option EReal := fun
  | "query_rank_inverse" => some ((192⁻¹ : ℝ) : EReal)
  | "query_scale" => some ((((Real.sqrt 96) * (Real.log 2))⁻¹ : ℝ) : EReal)
  | _ => none
-- ==== Reference8Ideal.lean ====
abbrev S16384x1024 : Shape := ⟨2, ![16384, 1024]⟩
abbrev S2x1024 : Shape := ⟨2, ![2, 1024]⟩
abbrev S2x1024x7264 : Shape := ⟨3, ![2, 1024, 7264]⟩
abbrev S2x192 : Shape := ⟨2, ![2, 192]⟩
abbrev S2x192x384 : Shape := ⟨3, ![2, 192, 384]⟩
abbrev S2x128 : Shape := ⟨2, ![2, 128]⟩
abbrev S2x128x512 : Shape := ⟨3, ![2, 128, 512]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x7264 : Shape := ⟨3, ![1, 1024, 7264]⟩
abbrev S1024x7264 : Shape := ⟨2, ![1024, 7264]⟩
abbrev S16384x7264 : Shape := ⟨2, ![16384, 7264]⟩
abbrev S16384x256 : Shape := ⟨2, ![16384, 256]⟩
abbrev S16384x128 : Shape := ⟨2, ![16384, 128]⟩
abbrev S16384x192 : Shape := ⟨2, ![16384, 192]⟩
abbrev S16384x32 : Shape := ⟨2, ![16384, 32]⟩
abbrev S16384x5120 : Shape := ⟨2, ![16384, 5120]⟩
abbrev S8192 : Shape := ⟨1, ![8192]⟩
abbrev S1x192 : Shape := ⟨2, ![1, 192]⟩
abbrev S192 : Shape := ⟨1, ![192]⟩
abbrev S1x192x384 : Shape := ⟨3, ![1, 192, 384]⟩
abbrev S192x384 : Shape := ⟨2, ![192, 384]⟩
abbrev S16384x384 : Shape := ⟨2, ![16384, 384]⟩
abbrev S2x8192x4x96 : Shape := ⟨4, ![2, 8192, 4, 96]⟩
abbrev S1x128 : Shape := ⟨2, ![1, 128]⟩
abbrev S128 : Shape := ⟨1, ![128]⟩
abbrev S1x128x512 : Shape := ⟨3, ![1, 128, 512]⟩
abbrev S128x512 : Shape := ⟨2, ![128, 512]⟩
abbrev S16384x512 : Shape := ⟨2, ![16384, 512]⟩
abbrev S2x8192x4x128 : Shape := ⟨4, ![2, 8192, 4, 128]⟩
abbrev S2x8192x4x64 : Shape := ⟨4, ![2, 8192, 4, 64]⟩
abbrev S2x8192x4x32 : Shape := ⟨4, ![2, 8192, 4, 32]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S2x8192x4x16 : Shape := ⟨4, ![2, 8192, 4, 16]⟩
abbrev S1x8192x1x16 : Shape := ⟨4, ![1, 8192, 1, 16]⟩
abbrev S2x8192x1x32 : Shape := ⟨4, ![2, 8192, 1, 32]⟩
abbrev S2x8192x1x16 : Shape := ⟨4, ![2, 8192, 1, 16]⟩

abbrev nBuf : Space → Nat
  | .hbm => 182
  | .vmem => 0
  | .smem => 0
  | _ => 0

abbrev hbmTy0_0 (i : Nat) : BufTy := match i % 128 with
  | 0 => ⟨S16384x1024, .f32⟩
  | 1 => ⟨S2x1024, .f32⟩
  | 2 => ⟨S2x1024x7264, .f32⟩
  | 3 => ⟨S2x192, .f32⟩
  | 4 => ⟨S2x192x384, .f32⟩
  | 5 => ⟨S2x128, .f32⟩
  | 6 => ⟨S2x128x512, .f32⟩
  | 7 => ⟨S1x1024, .f32⟩
  | 8 => ⟨S1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S1x1024, .f32⟩
  | 23 => ⟨S16384x1024, .f32⟩
  | 24 => ⟨S16384x1024, .f32⟩
  | 25 => ⟨S1x1024x7264, .f32⟩
  | 26 => ⟨S1024x7264, .f32⟩
  | 27 => ⟨S16384x7264, .f32⟩
  | 28 => ⟨S16384x256, .f32⟩
  | 29 => ⟨S16384x256, .f32⟩
  | 30 => ⟨S16384x128, .f32⟩
  | 31 => ⟨S16384x128, .f32⟩
  | 32 => ⟨S16384x256, .f32⟩
  | 33 => ⟨S16384x256, .f32⟩
  | 34 => ⟨S16384x256, .f32⟩
  | 35 => ⟨S16384x192, .f32⟩
  | 36 => ⟨S16384x128, .f32⟩
  | 37 => ⟨S16384x32, .f32⟩
  | 38 => ⟨S16384x256, .f32⟩
  | 39 => ⟨S16384x5120, .f32⟩
  | 40 => ⟨S8192, .i32⟩
  | 41 => ⟨S1x192, .f32⟩
  | 42 => ⟨S192, .f32⟩
  | 43 => ⟨S16384x192, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S_, .f32⟩
  | 51 => ⟨S16384x1, .f32⟩
  | 52 => ⟨S16384x1, .f32⟩
  | 53 => ⟨S16384x1, .f32⟩
  | 54 => ⟨S16384x192, .f32⟩
  | 55 => ⟨S16384x192, .f32⟩
  | 56 => ⟨S1x192, .f32⟩
  | 57 => ⟨S16384x192, .f32⟩
  | 58 => ⟨S16384x192, .f32⟩
  | 59 => ⟨S1x192x384, .f32⟩
  | 60 => ⟨S192x384, .f32⟩
  | 61 => ⟨S16384x384, .f32⟩
  | 62 => ⟨S2x8192x4x96, .f32⟩
  | 63 => ⟨S1x128, .f32⟩
  | 64 => ⟨S128, .f32⟩
  | 65 => ⟨S16384x128, .f32⟩
  | 66 => ⟨S_, .f32⟩
  | 67 => ⟨S16384, .f32⟩
  | 68 => ⟨S16384x1, .f32⟩
  | 69 => ⟨S_, .f32⟩
  | 70 => ⟨S16384x1, .f32⟩
  | 71 => ⟨S16384x1, .f32⟩
  | 72 => ⟨S_, .f32⟩
  | 73 => ⟨S16384x1, .f32⟩
  | 74 => ⟨S16384x1, .f32⟩
  | 75 => ⟨S16384x1, .f32⟩
  | 76 => ⟨S16384x128, .f32⟩
  | 77 => ⟨S16384x128, .f32⟩
  | 78 => ⟨S1x128, .f32⟩
  | 79 => ⟨S16384x128, .f32⟩
  | 80 => ⟨S16384x128, .f32⟩
  | 81 => ⟨S1x128x512, .f32⟩
  | 82 => ⟨S128x512, .f32⟩
  | 83 => ⟨S16384x512, .f32⟩
  | 84 => ⟨S2x8192x4x128, .f32⟩
  | 85 => ⟨S2x8192x4x64, .f32⟩
  | 86 => ⟨S2x8192x4x32, .f32⟩
  | 87 => ⟨S16, .f32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S8192, .f32⟩
  | 96 => ⟨S8192x1, .f32⟩
  | 97 => ⟨S1x16, .f32⟩
  | 98 => ⟨S8192x16, .f32⟩
  | 99 => ⟨S8192x16, .f32⟩
  | 100 => ⟨S8192x16, .f32⟩
  | 101 => ⟨S8192x16, .f32⟩
  | 102 => ⟨S8192x1x16, .f32⟩
  | 103 => ⟨S8192x16, .f32⟩
  | 104 => ⟨S8192x1x16, .f32⟩
  | 105 => ⟨S2x8192x4x16, .f32⟩
  | 106 => ⟨S2x8192x4x16, .f32⟩
  | 107 => ⟨S1x8192x1x16, .f32⟩
  | 108 => ⟨S2x8192x4x16, .f32⟩
  | 109 => ⟨S2x8192x4x16, .f32⟩
  | 110 => ⟨S1x8192x1x16, .f32⟩
  | 111 => ⟨S2x8192x4x16, .f32⟩
  | 112 => ⟨S2x8192x4x16, .f32⟩
  | 113 => ⟨S2x8192x4x16, .f32⟩
  | 114 => ⟨S1x8192x1x16, .f32⟩
  | 115 => ⟨S2x8192x4x16, .f32⟩
  | 116 => ⟨S2x8192x4x16, .f32⟩
  | 117 => ⟨S1x8192x1x16, .f32⟩
  | 118 => ⟨S2x8192x4x16, .f32⟩
  | 119 => ⟨S2x8192x4x16, .f32⟩
  | 120 => ⟨S2x8192x4x16, .f32⟩
  | 121 => ⟨S2x8192x4x32, .f32⟩
  | 122 => ⟨S2x8192x4x96, .f32⟩
  | 123 => ⟨S2x8192x1x32, .f32⟩
  | 124 => ⟨S16, .f32⟩
  | 125 => ⟨S16, .f32⟩
  | 126 => ⟨S_, .f32⟩
  | 127 => ⟨S16, .f32⟩
  | _ => ⟨S16384x1024, .f32⟩

abbrev hbmTy0_1 (i : Nat) : BufTy := match i % 128 with
  | 0 => ⟨S16, .f32⟩
  | 1 => ⟨S_, .f32⟩
  | 2 => ⟨S16, .f32⟩
  | 3 => ⟨S16, .f32⟩
  | 4 => ⟨S8192, .f32⟩
  | 5 => ⟨S8192x1, .f32⟩
  | 6 => ⟨S1x16, .f32⟩
  | 7 => ⟨S8192x16, .f32⟩
  | 8 => ⟨S8192x16, .f32⟩
  | 9 => ⟨S8192x16, .f32⟩
  | 10 => ⟨S8192x16, .f32⟩
  | 11 => ⟨S8192x1x16, .f32⟩
  | 12 => ⟨S8192x16, .f32⟩
  | 13 => ⟨S8192x1x16, .f32⟩
  | 14 => ⟨S2x8192x1x16, .f32⟩
  | 15 => ⟨S2x8192x1x16, .f32⟩
  | 16 => ⟨S1x8192x1x16, .f32⟩
  | 17 => ⟨S2x8192x1x16, .f32⟩
  | 18 => ⟨S2x8192x1x16, .f32⟩
  | 19 => ⟨S1x8192x1x16, .f32⟩
  | 20 => ⟨S2x8192x1x16, .f32⟩
  | 21 => ⟨S2x8192x1x16, .f32⟩
  | 22 => ⟨S2x8192x1x16, .f32⟩
  | 23 => ⟨S1x8192x1x16, .f32⟩
  | 24 => ⟨S2x8192x1x16, .f32⟩
  | 25 => ⟨S2x8192x1x16, .f32⟩
  | 26 => ⟨S1x8192x1x16, .f32⟩
  | 27 => ⟨S2x8192x1x16, .f32⟩
  | 28 => ⟨S2x8192x1x16, .f32⟩
  | 29 => ⟨S2x8192x1x16, .f32⟩
  | 30 => ⟨S2x8192x1x32, .f32⟩
  | 31 => ⟨S2x8192x4x32, .f32⟩
  | 32 => ⟨S2x8192x4x64, .f32⟩
  | 33 => ⟨S2x8192x4x96, .f32⟩
  | 34 => ⟨S_, .f32⟩
  | 35 => ⟨S_, .f32⟩
  | 36 => ⟨S_, .f32⟩
  | 37 => ⟨S_, .f32⟩
  | 38 => ⟨S_, .f32⟩
  | 39 => ⟨S2x8192x4x96, .f32⟩
  | 40 => ⟨S2x8192x4x96, .f32⟩
  | 41 => ⟨S_, .i32⟩
  | 42 => ⟨S_, .f32⟩
  | 43 => ⟨S2x8192x4x128, .f32⟩
  | 44 => ⟨S2x8192x4x128, .bf16⟩
  | 45 => ⟨S16384x512, .bf16⟩
  | 46 => ⟨S_, .i32⟩
  | 47 => ⟨S_, .f32⟩
  | 48 => ⟨S2x8192x4x128, .f32⟩
  | 49 => ⟨S2x8192x4x128, .bf16⟩
  | 50 => ⟨S16384x512, .bf16⟩
  | 51 => ⟨S2x8192x4x64, .f32⟩
  | 52 => ⟨S2x8192x4x64, .bf16⟩
  | 53 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_cst_9 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_10 : Ref sig .tc := ⟨.hbm, 126, rfl⟩
abbrev main_v108 : Ref sig .tc := ⟨.hbm, 127, rfl⟩
abbrev main_v109 : Ref sig .tc := ⟨.hbm, 128, rfl⟩
abbrev main_cst_11 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_cst_12 : Ref sig .tc := ⟨.hbm, 162, rfl⟩
abbrev main_v142 : Ref sig .tc := ⟨.hbm, 163, rfl⟩
abbrev main_cst_13 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_c : Ref sig .tc := ⟨.hbm, 169, rfl⟩
abbrev main_call0_v0 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_c_14 : Ref sig .tc := ⟨.hbm, 174, rfl⟩
abbrev main_call1_v0 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩

abbrev nD : Nat := 1
abbrev τ : Topo := Topo.v7x

variable {F : FTy → Type} [FloatOps F]
-- ==== Proof.Softmax.lean ====
/- The mathematics of a softmax-weighted sum taken in one pass over the keys, on extended reals: a running maximum, a
   running denominator and a running weighted sum, corrected whenever the maximum grows. No program is mentioned here. -/
module

public import Idealize.ShloMosaic.PureOps.Ideal

@[expose] public section
noncomputable section
namespace Cert.Softmax
open Idealize.ShloMosaic

/-- A nonnegative real factor enters a finite sum of extended reals. -/
theorem coe_mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert i s hi ih =>
    rw [Finset.sum_insert hi, Finset.sum_insert hi,
      EReal.left_distrib_of_nonneg_of_ne_top (EReal.coe_nonneg.2 hr) (EReal.coe_ne_top r), ih]

/-- A finite sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem exp2_real (r : ℝ) : Ideal.exp2 (r : EReal) = (((2 : ℝ) ^ r : ℝ) : EReal) := rfl

/-- The state after the first `n` keys of the scores `S` and the values `V`: the maximum of the scores, the sum of the
    powers of two of the scores less that maximum, and the values' sum with those weights. -/
structure After (S V : ℕ → EReal) (n : ℕ) (m l a : EReal) : Prop where
  top : m = (Finset.range n).sup S
  den : l = ∑ j ∈ Finset.range n, Ideal.exp2 (S j - m)
  acc : a = ∑ j ∈ Finset.range n, Ideal.exp2 (S j - m) * V j

/-- Before any key. -/
theorem After.none (S V : ℕ → EReal) : After S V 0 ⊥ 0 0 := ⟨by simp, by simp, by simp⟩

/-- The greatest of finitely many reals, at least one, is one of them. -/
theorem sup_real (s : ℕ → ℝ) {n : ℕ} (hn : 0 < n) :
    ∃ M : ℝ, (Finset.range n).sup (fun j => (s j : EReal)) = M ∧ (∀ j < n, s j ≤ M) ∧ ∃ j < n, s j = M := by
  obtain ⟨j, hj, hmax⟩ := Finset.exists_max_image (Finset.range n) s ⟨0, Finset.mem_range.2 hn⟩
  refine ⟨s j, le_antisymm (Finset.sup_le fun k hk => EReal.coe_le_coe_iff.2 (hmax k hk))
    (Finset.le_sup (f := fun j => (s j : EReal)) hj), fun k hk => hmax k (Finset.mem_range.2 hk),
    j, Finset.mem_range.1 hj, rfl⟩

/-- A maximum folded over a block from minus infinity is the block's supremum. -/
theorem fold_max_eq_sup {B : ℕ} (f : Fin B → EReal) : Finset.univ.fold max ⊥ f = Finset.univ.sup f := rfl

theorem sup_range_fin {B : ℕ} (f : ℕ → EReal) :
    (Finset.univ : Finset (Fin B)).sup (fun j => f j) = (Finset.range B).sup f := by
  refine le_antisymm (Finset.sup_le fun j _ => Finset.le_sup (f := f) (Finset.mem_range.2 j.isLt))
    (Finset.sup_le fun j hj => ?_)
  exact Finset.le_sup (f := fun j : Fin B => f j) (Finset.mem_univ (⟨j, Finset.mem_range.1 hj⟩ : Fin B))

theorem sup_range_add (f : ℕ → EReal) (n B : ℕ) :
    (Finset.range (n + B)).sup f = (Finset.range n).sup f ⊔ (Finset.range B).sup fun j => f (n + j) := by
  induction B with
  | zero => simp
  | succ B ih =>
    rw [← Nat.add_assoc, Finset.range_add_one, Finset.sup_insert, ih, Finset.range_add_one (n := B), Finset.sup_insert]
    exact sup_left_comm _ _ _

/-- One block of `B` keys more: the maximum is raised, the old sums are scaled by the power of two of the old maximum less
    the new one, and the block's own terms are added. -/
theorem After.step {S V : ℕ → EReal} {n : ℕ} {m l a : EReal} {B : ℕ} (h : After S V n m l a)
    (s : ℕ → ℝ) (hs : ∀ j, S j = (s j : EReal)) (hB : 0 < B) (f g : Fin B → EReal)
    (hf : ∀ j : Fin B, f j = S (n + j)) (hg : ∀ j : Fin B, g j = V (n + j)) (M : EReal)
    (hM : M = max m (Finset.univ.fold max ⊥ f)) :
    After S V (n + B) M (Ideal.exp2 (m - M) * l + ∑ j, Ideal.exp2 (f j - M))
      (Ideal.exp2 (m - M) * a + ∑ j, Ideal.exp2 (f j - M) * g j) := by
  obtain rfl : S = fun j => (s j : EReal) := funext hs
  have hMsup : M = (Finset.range (n + B)).sup fun j => (s j : EReal) := by
    rw [hM, h.top, fold_max_eq_sup, sup_range_add, ← sup_range_fin (B := B) fun j => ((s (n + j) : ℝ) : EReal)]
    exact congrArg _ (congrArg _ (funext hf))
  obtain ⟨M', hM', -, -⟩ := sup_real s (n := n + B) (by omega)
  rw [hM'] at hMsup
  have scale : ∀ (x : ℕ → EReal), Ideal.exp2 (m - M) * ∑ j ∈ Finset.range n, Ideal.exp2 ((s j : EReal) - m) * x j
      = ∑ j ∈ Finset.range n, Ideal.exp2 ((s j : EReal) - M) * x j := by
    intro x
    rcases Nat.eq_zero_or_pos n with rfl | hn
    · simp
    · obtain ⟨m', hm', -, -⟩ := sup_real s hn
      have hm : m = (m' : EReal) := h.top.trans hm'
      rw [hm, hMsup, ← EReal.coe_sub, exp2_real, coe_mul_sum _ (by positivity)]
      refine Finset.sum_congr rfl fun j _ => ?_
      rw [← mul_assoc, ← EReal.coe_sub, ← EReal.coe_sub, exp2_real, exp2_real, ← EReal.coe_mul,
        ← Real.rpow_add (by norm_num)]
      congr 3; ring_nf
  refine ⟨hMsup.trans hM'.symm, ?_, ?_⟩
  · rw [h.den, Finset.sum_range_add]
    have := scale fun _ => 1
    simp only [mul_one] at this
    rw [this, ← Fin.sum_univ_eq_sum_range (fun j => Ideal.exp2 ((s (n + j) : EReal) - M))]
    simp only [hf]
  · rw [h.acc, Finset.sum_range_add, scale V,
      ← Fin.sum_univ_eq_sum_range (fun j => Ideal.exp2 ((s (n + j) : EReal) - M) * V (n + j))]
    simp only [hf, hg]

/-- After all `N` keys the weighted sum over the denominator is the softmax's: the scores `T` are `S` times `ln 2`, their
    maximum is taken off before the exponential, and each weight is divided by the weights' sum. -/
theorem After.softmax {S V : ℕ → EReal} {N : ℕ} {m l a : EReal} (h : After S V N m l a)
    (s : ℕ → ℝ) (hs : ∀ j, S j = (s j : EReal)) (hN : 0 < N) (T W : Fin N → EReal)
    (hT : ∀ j : Fin N, T j = ((s j * Real.log 2 : ℝ) : EReal)) (hW : ∀ j : Fin N, W j = V j) (M : EReal)
    (hM : M = Finset.univ.fold max ⊥ T) :
    a * Ideal.div 1 l = ∑ j, W j * Ideal.div (Ideal.exp (T j - M)) (∑ k, Ideal.exp (T k - M)) := by
  obtain rfl : S = fun j => (s j : EReal) := funext hs
  have hlog : 0 < Real.log 2 := Real.log_pos (by norm_num)
  obtain ⟨m', hm', hle, j₀, hj₀, hj₀m⟩ := sup_real s hN
  have hm : m = (m' : EReal) := h.top.trans hm'
  have hMr : M = ((m' * Real.log 2 : ℝ) : EReal) := by
    rw [hM, fold_max_eq_sup]
    refine le_antisymm (Finset.sup_le fun j _ => ?_) ?_
    · rw [hT]; exact EReal.coe_le_coe_iff.2 (mul_le_mul_of_nonneg_right (hle j j.isLt) hlog.le)
    · rw [← hj₀m, ← hT ⟨j₀, hj₀⟩]; exact Finset.le_sup (Finset.mem_univ _)
  have he : ∀ j : Fin N, Ideal.exp (T j - M) = (((2 : ℝ) ^ (s j - m') : ℝ) : EReal) := by
    intro j
    rw [hT, hMr, ← EReal.coe_sub, Ideal.exp_coe, Real.rpow_def_of_pos (by norm_num)]
    congr 2; ring
  have hl : l = ((∑ j : Fin N, (2 : ℝ) ^ (s j - m') : ℝ) : EReal) := by
    rw [h.den, hm, coe_sum, ← Fin.sum_univ_eq_sum_range (fun j => Ideal.exp2 ((s j : EReal) - (m' : EReal)))]
    exact Finset.sum_congr rfl fun j _ => by rw [← EReal.coe_sub, exp2_real]
  have hpos : 0 < ∑ j : Fin N, (2 : ℝ) ^ (s j - m') :=
    Finset.sum_pos (fun _ _ => by positivity) ⟨⟨0, hN⟩, Finset.mem_univ _⟩
  have hden : (∑ k, Ideal.exp (T k - M)) = ((∑ j : Fin N, (2 : ℝ) ^ (s j - m') : ℝ) : EReal) := by
    rw [coe_sum]; exact Finset.sum_congr rfl fun j _ => he j
  rw [hl, hden, Ideal.div_coe hpos.ne', one_mul, mul_comm, h.acc, hm,
    ← Fin.sum_univ_eq_sum_range (fun j => Ideal.exp2 ((s j : EReal) - (m' : EReal)) * V j), coe_mul_sum _ (by positivity)]
  refine Finset.sum_congr rfl fun j _ => ?_
  rw [Ideal.div_coe hpos.ne', he, hW, ← EReal.coe_sub, exp2_real, mul_left_comm, mul_comm _ (V j), mul_left_comm]

end Cert.Softmax
-- ==== Proof.Trip.lean ====
/- One trip of the attention kernel's loop over the keys, read at one query row: each of the four heads takes a block of
   2048 keys into its running maximum, denominator and weighted sum. -/
module

public import proofs.«01_k».proof.Proof.Gen.KernelIdeal.Value
public import proofs.«01_k».proof.Proof.Softmax
public import Idealize.ShloMosaic.Lib.Pipeline.ValueKit
public import Idealize.ShloMosaic.Lib.WholeRead

@[expose] public section
set_option maxRecDepth 16384
noncomputable section
namespace Cert.KernelIdeal.Att
open Cert.KernelIdeal Cert.KernelIdeal.Gen Idealize.ShloMosaic Idealize.ShloMosaic.TcCoe Idealize.SL.Sem Cert.Softmax

theorem negInf : Ideal.ofBits .f32 0xFF800000#32 = ⊥ := by
  simp [Ideal.ofBits, Ideal.ieee]

theorem score_at (q : Vec Ideal S1x512x128 .bf16) (k : Vec Ideal S1x2048x128 .bf16) (r : Fin 512) (j : Fin 2048) :
    k0_pay1 q k (ix2 r j) = ∑ d : Fin 128, q (ix3 0 r d) * k (ix3 0 j d) := by
  pointwise [k0_pay1]

theorem max_at (m : FVec Ideal S512x1 .f32) (q : Vec Ideal S1x512x128 .bf16) (k : Vec Ideal S1x2048x128 .bf16) (r : Fin 512) :
    k0_pay2 m q k (ix2 r 0) = max (m (ix2 r 0))
      (Finset.univ.fold max ⊥ fun j : Fin 2048 => ∑ d : Fin 128, q (ix3 0 r d) * k (ix3 0 j d)) := by
  have h : ∀ f : Fin 2048 → EReal, f = (fun j => k0_pay1 q k (ix2 r j)) → k0_pay2 m q k (ix2 r 0) = max (m (ix2 r 0)) (Finset.univ.fold max ⊥ f) := by
    rintro f rfl
    unfold k0_pay2
    generalize k0_pay1 q k = s
    pointwise
    rw [negInf]
  exact h _ (funext fun j => (score_at q k r j).symm)

theorem den_at (m l : FVec Ideal S512x1 .f32) (q : Vec Ideal S1x512x128 .bf16) (k : Vec Ideal S1x2048x128 .bf16) (r : Fin 512) :
    k0_pay5 m l q k (ix2 r 0) = Ideal.exp2 (m (ix2 r 0) - k0_pay2 m q k (ix2 r 0)) * l (ix2 r 0)
      + ∑ j : Fin 2048, Ideal.exp2 ((∑ d : Fin 128, q (ix3 0 r d) * k (ix3 0 j d)) - k0_pay2 m q k (ix2 r 0)) := by
  pointwise [k0_pay5, k0_pay3, k0_pay4, k0_pay1]
  rfl

theorem acc_at (m : FVec Ideal S512x1 .f32) (a : FVec Ideal S512x128 .f32) (q : Vec Ideal S1x512x128 .bf16)
    (k v : Vec Ideal S1x2048x128 .bf16) (r : Fin 512) (d : Fin 128) :
    k0_pay6 m a q k v (ix2 r d) = Ideal.exp2 (m (ix2 r 0) - k0_pay2 m q k (ix2 r 0)) * a (ix2 r d)
      + ∑ j : Fin 2048, Ideal.exp2 ((∑ d : Fin 128, q (ix3 0 r d) * k (ix3 0 j d)) - k0_pay2 m q k (ix2 r 0))
        * v (ix3 0 j d) := by
  pointwise [k0_pay6, k0_pay3, k0_pay4, k0_pay1]
  rfl

/-- A trip's three payloads take the block's 2048 keys into one row's running state. -/
theorem pay_step (m l : FVec Ideal S512x1 .f32) (a : FVec Ideal S512x128 .f32) (q : Vec Ideal S1x512x128 .bf16)
    (k v : Vec Ideal S1x2048x128 .bf16) (r : Fin 512) (d : Fin 128) (S V : ℕ → EReal) (n : ℕ) (s : ℕ → ℝ)
    (hs : ∀ j, S j = (s j : EReal)) (hk : ∀ j : Fin 2048, ∑ d : Fin 128, q (ix3 0 r d) * k (ix3 0 j d) = S (n + j))
    (hv : ∀ j : Fin 2048, v (ix3 0 j d) = V (n + j))
    (h : After S V n (m (ix2 r 0)) (l (ix2 r 0)) (a (ix2 r d))) :
    After S V (n + 2048) (k0_pay2 m q k (ix2 r 0)) (k0_pay5 m l q k (ix2 r 0)) (k0_pay6 m a q k v (ix2 r d)) := by
  rw [den_at, acc_at]
  exact h.step s hs (by norm_num) _ _ hk hv _ (max_at m q k r)

section
variable (𝒱 : Variants) (c : Dev nD) (bd : Option 𝒱.V) (i : grid0.Coords) (arg2 : Memref sig .tc .vmem S1x512x512 .bf16)
  (harg2 : arg2.IsWhole) (arg3 : Memref sig .tc .vmem S1x8192x512 .bf16) (harg3 : arg3.IsWhole)
  (arg4 : Memref sig .tc .vmem S1x8192x256 .bf16) (harg4 : arg4.IsWhole) (arg5 : Memref sig .tc .vmem S1x512x256 .bf16)
  (harg5 : arg5.IsWhole) (X2 : BufTy.Contents (Elt Ideal) arg2.view.ty) (X3 : BufTy.Contents (Elt Ideal) arg3.view.ty)
  (X4 : BufTy.Contents (Elt Ideal) arg4.view.ty)

/-- The 128 lanes of the queries from lane `off 2`. -/
abbrev ldQ (off : Fin 3 → ℕ) (inb : ∀ a, off a + S1x512x128.size a ≤ S1x512x512.size a) : Vec Ideal S1x512x128 .bf16 :=
  View.readAt (Elt Ideal) arg2.view (Rect.unit (s := S1x512x512) off S1x512x128.size inb).toLoadRect X2
/-- A block of 2048 keys, 128 lanes of each. -/
abbrev ldK (off : Fin 3 → ℕ) (inb : ∀ a, off a + S1x2048x128.size a ≤ S1x8192x512.size a) : Vec Ideal S1x2048x128 .bf16 :=
  View.readAt (Elt Ideal) arg3.view (Rect.unit (s := S1x8192x512) off S1x2048x128.size inb).toLoadRect X3
/-- The values of those keys, 128 lanes of each. -/
abbrev ldV (off : Fin 3 → ℕ) (inb : ∀ a, off a + S1x2048x128.size a ≤ S1x8192x256.size a) : Vec Ideal S1x2048x128 .bf16 :=
  View.readAt (Elt Ideal) arg4.view (Rect.unit (s := S1x8192x256) off S1x2048x128.size inb).toLoadRect X4

theorem trip_m0 (k : Fin k0_t1_loop.trips) (acc) :
    (tripR_k0_t1 (F := Ideal) 𝒱 c bd i arg2 harg2 arg3 harg3 arg4 harg4 arg5 harg5 X2 X3 X4 k acc).1
      = k0_pay2 acc.1 (ldQ arg2 X2 ![0, 0, 0] inb_S1x512x512_S1x512x128_0_0_0) (ldK arg3 X3 (k0_off1 k) (k0_off1_inb k)) := by
  unfold tripR_k0_t1 trip_k0_t1
  rfl

theorem trip_l0 (k : Fin k0_t1_loop.trips) (acc) :
    (tripR_k0_t1 (F := Ideal) 𝒱 c bd i arg2 harg2 arg3 harg3 arg4 harg4 arg5 harg5 X2 X3 X4 k acc).2.1
      = k0_pay5 acc.1 acc.2.1 (ldQ arg2 X2 ![0, 0, 0] inb_S1x512x512_S1x512x128_0_0_0) (ldK arg3 X3 (k0_off1 k) (k0_off1_inb k)) := by
  unfold tripR_k0_t1 trip_k0_t1
  rfl

theorem trip_a0 (k : Fin k0_t1_loop.trips) (acc) :
    (tripR_k0_t1 (F := Ideal) 𝒱 c bd i arg2 harg2 arg3 harg3 arg4 harg4 arg5 harg5 X2 X3 X4 k acc).2.2.1
      = k0_pay6 acc.1 acc.2.2.1 (ldQ arg2 X2 ![0, 0, 0] inb_S1x512x512_S1x512x128_0_0_0) (ldK arg3 X3 (k0_off1 k) (k0_off1_inb k)) (ldV arg4 X4 (k0_off2 k) (k0_off2_inb k)) := by
  unfold tripR_k0_t1 trip_k0_t1
  rfl

theorem trip_m1 (k : Fin k0_t1_loop.trips) (acc) :
    (tripR_k0_t1 (F := Ideal) 𝒱 c bd i arg2 harg2 arg3 harg3 arg4 harg4 arg5 harg5 X2 X3 X4 k acc).2.2.2.1
      = k0_pay2 acc.2.2.2.1 (ldQ arg2 X2 ![0, 0, 128] inb_S1x512x512_S1x512x128_0_0_128) (ldK arg3 X3 (k0_off3 k) (k0_off3_inb k)) := by
  unfold tripR_k0_t1 trip_k0_t1
  rfl

theorem trip_l1 (k : Fin k0_t1_loop.trips) (acc) :
    (tripR_k0_t1 (F := Ideal) 𝒱 c bd i arg2 harg2 arg3 harg3 arg4 harg4 arg5 harg5 X2 X3 X4 k acc).2.2.2.2.1
      = k0_pay5 acc.2.2.2.1 acc.2.2.2.2.1 (ldQ arg2 X2 ![0, 0, 128] inb_S1x512x512_S1x512x128_0_0_128) (ldK arg3 X3 (k0_off3 k) (k0_off3_inb k)) := by
  unfold tripR_k0_t1 trip_k0_t1
  rfl

theorem trip_a1 (k : Fin k0_t1_loop.trips) (acc) :
    (tripR_k0_t1 (F := Ideal) 𝒱 c bd i arg2 harg2 arg3 harg3 arg4 harg4 arg5 harg5 X2 X3 X4 k acc).2.2.2.2.2.1
      = k0_pay6 acc.2.2.2.1 acc.2.2.2.2.2.1 (ldQ arg2 X2 ![0, 0, 128] inb_S1x512x512_S1x512x128_0_0_128) (ldK arg3 X3 (k0_off3 k) (k0_off3_inb k)) (ldV arg4 X4 (k0_off2 k) (k0_off2_inb k)) := by
  unfold tripR_k0_t1 trip_k0_t1
  rfl

theorem trip_m2 (k : Fin k0_t1_loop.trips) (acc) :
    (tripR_k0_t1 (F := Ideal) 𝒱 c bd i arg2 harg2 arg3 harg3 arg4 harg4 arg5 harg5 X2 X3 X4 k acc).2.2.2.2.2.2.1
      = k0_pay2 acc.2.2.2.2.2.2.1 (ldQ arg2 X2 ![0, 0, 256] inb_S1x512x512_S1x512x128_0_0_256) (ldK arg3 X3 (k0_off4 k) (k0_off4_inb k)) := by
  unfold tripR_k0_t1 trip_k0_t1
  rfl

theorem trip_l2 (k : Fin k0_t1_loop.trips) (acc) :
    (tripR_k0_t1 (F := Ideal) 𝒱 c bd i arg2 harg2 arg3 harg3 arg4 harg4 arg5 harg5 X2 X3 X4 k acc).2.2.2.2.2.2.2.1
      = k0_pay5 acc.2.2.2.2.2.2.1 acc.2.2.2.2.2.2.2.1 (ldQ arg2 X2 ![0, 0, 256] inb_S1x512x512_S1x512x128_0_0_256) (ldK arg3 X3 (k0_off4 k) (k0_off4_inb k)) := by
  unfold tripR_k0_t1 trip_k0_t1
  rfl

theorem trip_a2 (k : Fin k0_t1_loop.trips) (acc) :
    (tripR_k0_t1 (F := Ideal) 𝒱 c bd i arg2 harg2 arg3 harg3 arg4 harg4 arg5 harg5 X2 X3 X4 k acc).2.2.2.2.2.2.2.2.1
      = k0_pay6 acc.2.2.2.2.2.2.1 acc.2.2.2.2.2.2.2.2.1 (ldQ arg2 X2 ![0, 0, 256] inb_S1x512x512_S1x512x128_0_0_256) (ldK arg3 X3 (k0_off4 k) (k0_off4_inb k)) (ldV arg4 X4 (k0_off5 k) (k0_off5_inb k)) := by
  unfold tripR_k0_t1 trip_k0_t1
  rfl

theorem trip_m3 (k : Fin k0_t1_loop.trips) (acc) :
    (tripR_k0_t1 (F := Ideal) 𝒱 c bd i arg2 harg2 arg3 harg3 arg4 harg4 arg5 harg5 X2 X3 X4 k acc).2.2.2.2.2.2.2.2.2.1
      = k0_pay2 acc.2.2.2.2.2.2.2.2.2.1 (ldQ arg2 X2 ![0, 0, 384] inb_S1x512x512_S1x512x128_0_0_384) (ldK arg3 X3 (k0_off6 k) (k0_off6_inb k)) := by
  unfold tripR_k0_t1 trip_k0_t1
  rfl

theorem trip_l3 (k : Fin k0_t1_loop.trips) (acc) :
    (tripR_k0_t1 (F := Ideal) 𝒱 c bd i arg2 harg2 arg3 harg3 arg4 harg4 arg5 harg5 X2 X3 X4 k acc).2.2.2.2.2.2.2.2.2.2.1
      = k0_pay5 acc.2.2.2.2.2.2.2.2.2.1 acc.2.2.2.2.2.2.2.2.2.2.1 (ldQ arg2 X2 ![0, 0, 384] inb_S1x512x512_S1x512x128_0_0_384) (ldK arg3 X3 (k0_off6 k) (k0_off6_inb k)) := by
  unfold tripR_k0_t1 trip_k0_t1
  rfl

theorem trip_a3 (k : Fin k0_t1_loop.trips) (acc) :
    (tripR_k0_t1 (F := Ideal) 𝒱 c bd i arg2 harg2 arg3 harg3 arg4 harg4 arg5 harg5 X2 X3 X4 k acc).2.2.2.2.2.2.2.2.2.2.2
      = k0_pay6 acc.2.2.2.2.2.2.2.2.2.1 acc.2.2.2.2.2.2.2.2.2.2.2 (ldQ arg2 X2 ![0, 0, 384] inb_S1x512x512_S1x512x128_0_0_384) (ldK arg3 X3 (k0_off6 k) (k0_off6_inb k)) (ldV arg4 X4 (k0_off5 k) (k0_off5_inb k)) := by
  unfold tripR_k0_t1 trip_k0_t1
  rfl

end

end Cert.KernelIdeal.Att
-- ==== Proof.Loop.lean ====
/- The attention kernel's loop over the keys, read at one query row and one lane: after its four trips each head holds the
   softmax state of all 8192 keys. -/
module

public import proofs.«01_k».proof.Proof.Trip

@[expose] public section
set_option maxRecDepth 16384
noncomputable section
namespace Cert.KernelIdeal.Att
open Cert.KernelIdeal Cert.KernelIdeal.Gen Idealize.ShloMosaic Idealize.ShloMosaic.TcCoe Idealize.SL.Sem Cert.Softmax

theorem off1 : ∀ k : Fin k0_t1_loop.trips, k0_off1 k = ![0, 2048 * k.val, 0] := by decide +kernel
theorem off2 : ∀ k : Fin k0_t1_loop.trips, k0_off2 k = ![0, 2048 * k.val, 0] := by decide +kernel
theorem off3 : ∀ k : Fin k0_t1_loop.trips, k0_off3 k = ![0, 2048 * k.val, 128] := by decide +kernel
theorem off4 : ∀ k : Fin k0_t1_loop.trips, k0_off4 k = ![0, 2048 * k.val, 256] := by decide +kernel
theorem off5 : ∀ k : Fin k0_t1_loop.trips, k0_off5 k = ![0, 2048 * k.val, 128] := by decide +kernel
theorem off6 : ∀ k : Fin k0_t1_loop.trips, k0_off6 k = ![0, 2048 * k.val, 384] := by decide +kernel
theorem trips4 : k0_t1_loop.trips = 4 := by decide +kernel

/-- The score of query row `r` against key `j` in the head whose lanes begin at `o`. -/
def score (A : S1x512x512.Idx → EReal) (K : S1x8192x512.Idx → EReal) (o : Fin 385) (r : Fin 512) (j : ℕ) : EReal :=
  ∑ d : Fin 128, A (ix3 0 r ⟨o + d, by omega⟩) * K (ix3 0 ⟨j % 8192, by omega⟩ ⟨o + d, by omega⟩)

/-- Lane `e` of key `j`'s values. -/
def val (V : S1x8192x256.Idx → EReal) (e : Fin 256) (j : ℕ) : EReal := V (ix3 0 ⟨j % 8192, by omega⟩ e)

section
variable (arg2 : Memref sig .tc .vmem S1x512x512 .bf16)
  (harg2 : arg2.IsWhole) (arg3 : Memref sig .tc .vmem S1x8192x512 .bf16) (harg3 : arg3.IsWhole)
  (arg4 : Memref sig .tc .vmem S1x8192x256 .bf16) (harg4 : arg4.IsWhole)
  (A : S1x512x512.Idx → EReal) (K : S1x8192x512.Idx → EReal) (V : S1x8192x256.Idx → EReal)

theorem ldQ_at (o : ℕ) (off) (ho : off = ![0, 0, o]) (inb) (r : Fin 512) (d : Fin 128) (h : o + d < 512) :
    ldQ arg2 (harg2.unread A) off inb (ix3 0 r d) = A (ix3 0 r ⟨o + d, h⟩) := by
  subst ho
  refine (harg2.readAt_unread (Val := Elt Ideal) A (Rect.unit (s := S1x512x512) ![0, 0, o] S1x512x128.size inb).toLoadRect (ix3 0 r d)).trans ?_
  refine congrArg A ?_
  funext a; fin_cases a <;> apply Fin.ext <;> simp [LoadRect.idx, ix3]

theorem ldK_at (k : Fin k0_t1_loop.trips) (o : ℕ) (off) (ho : off = ![0, 2048 * k.val, o]) (inb) (j : Fin 2048) (d : Fin 128) (h : o + d < 512) :
    ldK arg3 (harg3.unread K) off inb (ix3 0 j d) = K (ix3 0 ⟨(2048 * k.val + j) % 8192, by omega⟩ ⟨o + d, h⟩) := by
  subst ho
  have hk : k.val < 4 := trips4 ▸ k.isLt
  refine (harg3.readAt_unread (Val := Elt Ideal) K (Rect.unit (s := S1x8192x512) ![0, 2048 * k.val, o] S1x2048x128.size inb).toLoadRect (ix3 0 j d)).trans ?_
  refine congrArg K ?_
  funext a; fin_cases a <;> apply Fin.ext <;> simp [LoadRect.idx, ix3]; omega

theorem ldV_at (k : Fin k0_t1_loop.trips) (o : ℕ) (off) (ho : off = ![0, 2048 * k.val, o]) (inb) (j : Fin 2048) (d : Fin 128) (h : o + d < 256) :
    ldV arg4 (harg4.unread V) off inb (ix3 0 j d) = val V ⟨o + d, h⟩ (2048 * k.val + j) := by
  subst ho
  have hk : k.val < 4 := trips4 ▸ k.isLt
  refine (harg4.readAt_unread (Val := Elt Ideal) V (Rect.unit (s := S1x8192x256) ![0, 2048 * k.val, o] S1x2048x128.size inb).toLoadRect (ix3 0 j d)).trans ?_
  unfold val
  refine congrArg V ?_
  funext a; fin_cases a <;> apply Fin.ext <;> simp [LoadRect.idx, ix3]; omega

variable (𝒱 : Variants) (c : Dev nD) (bd : Option 𝒱.V) (i : grid0.Coords) (arg5 : Memref sig .tc .vmem S1x512x256 .bf16)
  (harg5 : arg5.IsWhole)

/-- The four heads' states at row `r`, lane `d`, after the first `n` keys. -/
def Heads (r : Fin 512) (d : Fin 128) (n : ℕ) (s : FVec Ideal S512x1 .f32 × FVec Ideal S512x1 .f32 × FVec Ideal S512x128 .f32 × FVec Ideal S512x1 .f32 × FVec Ideal S512x1 .f32 × FVec Ideal S512x128 .f32 × FVec Ideal S512x1 .f32 × FVec Ideal S512x1 .f32 × FVec Ideal S512x128 .f32 × FVec Ideal S512x1 .f32 × FVec Ideal S512x1 .f32 × FVec Ideal S512x128 .f32) : Prop :=
  After (score A K 0 r) (val V ⟨0 + d, by omega⟩) n (s.1 (ix2 r 0)) (s.2.1 (ix2 r 0)) (s.2.2.1 (ix2 r d))
  ∧ After (score A K 128 r) (val V ⟨0 + d, by omega⟩) n (s.2.2.2.1 (ix2 r 0)) (s.2.2.2.2.1 (ix2 r 0)) (s.2.2.2.2.2.1 (ix2 r d))
  ∧ After (score A K 256 r) (val V ⟨128 + d, by omega⟩) n (s.2.2.2.2.2.2.1 (ix2 r 0)) (s.2.2.2.2.2.2.2.1 (ix2 r 0)) (s.2.2.2.2.2.2.2.2.1 (ix2 r d))
  ∧ After (score A K 384 r) (val V ⟨128 + d, by omega⟩) n (s.2.2.2.2.2.2.2.2.2.1 (ix2 r 0)) (s.2.2.2.2.2.2.2.2.2.2.1 (ix2 r 0)) (s.2.2.2.2.2.2.2.2.2.2.2 (ix2 r d))

theorem heads_init (r : Fin 512) (d : Fin 128) :
    Heads A K V r d 0 (k0_pay21 (F := Ideal), k0_pay22 (F := Ideal), k0_pay23 (F := Ideal), k0_pay21 (F := Ideal), k0_pay22 (F := Ideal), k0_pay23 (F := Ideal), k0_pay21 (F := Ideal), k0_pay22 (F := Ideal), k0_pay23 (F := Ideal), k0_pay21 (F := Ideal), k0_pay22 (F := Ideal), k0_pay23 (F := Ideal)) := by
  have h1 : k0_pay21 (F := Ideal) (ix2 r 0) = ⊥ := by pointwise [k0_pay21]; exact negInf
  have h2 : k0_pay22 (F := Ideal) (ix2 r 0) = 0 := by pointwise [k0_pay22]
  have h3 : k0_pay23 (F := Ideal) (ix2 r d) = 0 := by pointwise [k0_pay23]
  unfold Heads
  simp only [h1, h2, h3]
  exact ⟨After.none _ _, After.none _ _, After.none _ _, After.none _ _⟩

theorem heads_step (r : Fin 512) (d : Fin 128) (real : ∀ o r j, ∃ x : ℝ, score A K o r j = x) (k : Fin k0_t1_loop.trips) (s)
    (h : Heads A K V r d (2048 * k.val) s) :
    Heads A K V r d (2048 * k.val + 2048)
      (tripR_k0_t1 (F := Ideal) 𝒱 c bd i arg2 harg2 arg3 harg3 arg4 harg4 arg5 harg5 (harg2.unread A) (harg3.unread K) (harg4.unread V) k s) := by
  choose x hx using real
  obtain ⟨g0, g1, g2, g3⟩ := h
  unfold Heads
  rw [trip_m0, trip_l0, trip_a0, trip_m1, trip_l1, trip_a1, trip_m2, trip_l2, trip_a2, trip_m3, trip_l3, trip_a3]
  refine ⟨pay_step _ _ _ _ _ _ r d _ _ _ (x 0 r) (hx 0 r) (fun j => ?_) (fun j => ?_) g0,
    pay_step _ _ _ _ _ _ r d _ _ _ (x 128 r) (hx 128 r) (fun j => ?_) (fun j => ?_) g1,
    pay_step _ _ _ _ _ _ r d _ _ _ (x 256 r) (hx 256 r) (fun j => ?_) (fun j => ?_) g2,
    pay_step _ _ _ _ _ _ r d _ _ _ (x 384 r) (hx 384 r) (fun j => ?_) (fun j => ?_) g3⟩
  · exact Finset.sum_congr rfl fun e _ => by
      rw [ldQ_at arg2 harg2 A 0 _ rfl _ r e (by omega), ldK_at arg3 harg3 K k 0 _ (off1 k) _ j e (by omega)]; rfl
  · exact ldV_at arg4 harg4 V k 0 _ (off2 k) _ j d (by omega)
  · exact Finset.sum_congr rfl fun e _ => by
      rw [ldQ_at arg2 harg2 A 128 _ rfl _ r e (by omega), ldK_at arg3 harg3 K k 128 _ (off3 k) _ j e (by omega)]; rfl
  · exact ldV_at arg4 harg4 V k 0 _ (off2 k) _ j d (by omega)
  · exact Finset.sum_congr rfl fun e _ => by
      rw [ldQ_at arg2 harg2 A 256 _ rfl _ r e (by omega), ldK_at arg3 harg3 K k 256 _ (off4 k) _ j e (by omega)]; rfl
  · exact ldV_at arg4 harg4 V k 128 _ (off5 k) _ j d (by omega)
  · exact Finset.sum_congr rfl fun e _ => by
      rw [ldQ_at arg2 harg2 A 384 _ rfl _ r e (by omega), ldK_at arg3 harg3 K k 384 _ (off6 k) _ j e (by omega)]; rfl
  · exact ldV_at arg4 harg4 V k 128 _ (off5 k) _ j d (by omega)

theorem heads_upto (r : Fin 512) (d : Fin 128) (real : ∀ o r j, ∃ x : ℝ, score A K o r j = x) (init) (h0 : Heads A K V r d 0 init) :
    ∀ k, k ≤ 4 → Heads A K V r d (2048 * k)
      (st_k0_t1 (F := Ideal) 𝒱 c bd i arg2 harg2 arg3 harg3 arg4 harg4 arg5 harg5 (harg2.unread A) (harg3.unread K) (harg4.unread V) init k)
  | 0, _ => h0
  | k + 1, hk => by
    have ih := heads_upto r d real init h0 k (by omega)
    have hk' : k < k0_t1_loop.trips := by rw [trips4]; omega
    rw [st_k0_t1_succ 𝒱 c bd i arg2 harg2 arg3 harg3 arg4 harg4 arg5 harg5 _ _ _ init ⟨k, hk'⟩]
    exact heads_step arg2 harg2 arg3 harg3 arg4 harg4 A K V 𝒱 c bd i arg5 harg5 r d real ⟨k, hk'⟩ _ ih
end

end Cert.KernelIdeal.Att
-- ==== Proof.Attend.lean ====
/- Attention of one query over 8192 keys as the reference states it, and the running state of a softmax in base two over
   scores padded to 128 lanes: the two agree on real queries and keys. -/
module

public import proofs.«01_k».proof.Proof.Softmax

@[expose] public section
set_option maxRecDepth 16384
noncomputable section
namespace Cert.Softmax
open Idealize.ShloMosaic

theorem bits96 : Ideal.ofBits .f32 0x42C00000#32 = ((96 : ℝ) : EReal) := by
  simp [Ideal.ofBits, Ideal.ieee]
  rw [← EReal.coe_mul]
  norm_num

theorem bits2 : Ideal.ofBits .f32 0x40000000#32 = ((2 : ℝ) : EReal) := by
  simp [Ideal.ofBits, Ideal.ieee]
  rw [← EReal.coe_mul]
  norm_num

/-- The score of a query against a key, over the square root of the 96 lanes. -/
def logit (q k : Fin 96 → EReal) : EReal := Ideal.div (∑ d, q d * k d) (Ideal.sqrt (Ideal.ofBits .f32 0x42C00000#32))

/-- The greatest score of a query. -/
def top (q : Fin 96 → EReal) (k : Fin 8192 → Fin 96 → EReal) : EReal := Finset.univ.fold max ⊥ fun j => logit q (k j)

/-- One lane of a query's attention: the keys' values weighed by the softmax of their scores. -/
def attend (q : Fin 96 → EReal) (k : Fin 8192 → Fin 96 → EReal) (w : Fin 8192 → EReal) : EReal :=
  ∑ j, w j * Ideal.div (Ideal.exp (logit q (k j) - top q k)) (∑ i, Ideal.exp (logit q (k i) - top q k))

theorem sqrt96 : Ideal.sqrt (Ideal.ofBits .f32 0x42C00000#32) = ((√96 : ℝ) : EReal) := by
  rw [bits96, Ideal.sqrt_coe, if_neg (by norm_num)]

theorem log2 : Ideal.log (Ideal.ofBits .f32 0x40000000#32) = ((Real.log 2 : ℝ) : EReal) := by
  rw [bits2, Ideal.log_coe, if_neg (by norm_num)]

theorem root_pos : (0 : ℝ) < √96 := Real.sqrt_pos.2 (by norm_num)
theorem log_pos : (0 : ℝ) < Real.log 2 := Real.log_pos (by norm_num)

/-- A query lane of the padded, scaled array. -/
def lane (q : Fin 96 → EReal) (d : Fin 128) : EReal := if h : d.val < 96 then q ⟨d, h⟩ else 0
def scaled (q : Fin 96 → EReal) (d : Fin 128) : EReal :=
  Ideal.div (lane q d) (Ideal.sqrt (Ideal.ofBits .f32 0x42C00000#32) * Ideal.log (Ideal.ofBits .f32 0x40000000#32))

theorem lane_real (q : Fin 96 → EReal) (hq : ∀ d, ∃ x : ℝ, q d = x) (d : Fin 128) : ∃ x : ℝ, lane q d = x := by
  unfold lane
  split
  · exact hq _
  · exact ⟨0, rfl⟩

theorem scaled_real (q : Fin 96 → EReal) (hq : ∀ d, ∃ x : ℝ, q d = x) (d : Fin 128) : ∃ x : ℝ, scaled q d = x := by
  obtain ⟨x, hx⟩ := lane_real q hq d
  refine ⟨x * (1 / (√96 * Real.log 2)), ?_⟩
  rw [scaled, sqrt96, log2, ← EReal.coe_mul, Ideal.div_coe (mul_pos root_pos log_pos).ne', hx, ← EReal.coe_mul]

theorem score_lanes (q k : Fin 96 → ℝ) :
    ∑ d : Fin 128, scaled (fun d => q d) d * lane (fun d => k d) d = (((∑ d, q d * k d) / (√96 * Real.log 2) : ℝ) : EReal) := by
  have e : ∀ d : Fin 128, scaled (fun d => q d) d * lane (fun d => k d) d
      = ((if h : d.val < 96 then q ⟨d, h⟩ * k ⟨d, h⟩ / (√96 * Real.log 2) else 0 : ℝ) : EReal) := by
    intro d
    rw [scaled, sqrt96, log2, ← EReal.coe_mul, Ideal.div_coe (mul_pos root_pos log_pos).ne']
    unfold lane
    split
    · rw [← EReal.coe_mul, ← EReal.coe_mul]
      congr 1
      ring
    · simp
  rw [Finset.sum_congr rfl fun d _ => e d, ← coe_sum]
  congr 1
  rw [Fin.sum_univ_add (a := 96) (b := 32)]
  simp [Finset.sum_div]

/-- The running state after all the keys gives the reference's attention. -/
theorem attend_of_after (q : Fin 96 → EReal) (k : Fin 8192 → Fin 96 → EReal) (w : Fin 8192 → EReal)
    (hq : ∀ d, ∃ x : ℝ, q d = x) (hk : ∀ j d, ∃ x : ℝ, k j d = x) {S V : ℕ → EReal} {m l a : EReal} (h : After S V 8192 m l a)
    (hS : ∀ j, S j = ∑ d : Fin 128, scaled q d * lane (k ⟨j % 8192, by omega⟩) d) (hV : ∀ j : Fin 8192, w j = V j) :
    a * Ideal.div 1 l = attend q k w := by
  choose q' hq' using hq
  choose k' hk' using hk
  obtain rfl : q = fun d => (q' d : EReal) := funext hq'
  obtain rfl : k = fun j d => (k' j d : EReal) := funext fun j => funext (hk' j)
  refine h.softmax (fun j => (∑ d, q' d * k' ⟨j % 8192, by omega⟩ d) / (√96 * Real.log 2)) (fun j => (hS j).trans (score_lanes _ _)) (by norm_num)
    (fun j => logit (fun d => q' d) fun d => k' j d) w (fun j => ?_) hV _ rfl
  have hj : (⟨j.val % 8192, by omega⟩ : Fin 8192) = j := Fin.ext (Nat.mod_eq_of_lt j.isLt)
  rw [logit, sqrt96, Ideal.div_coe root_pos.ne']
  simp only [← EReal.coe_mul, ← coe_sum]
  congr 1
  rw [hj]
  have := root_pos.ne'
  have := log_pos.ne'
  field_simp

end Cert.Softmax
-- ==== Proof.Block.lean ====
/- The attention kernel's blocks: the host-prepared operands at an index, the block each grid point reads, and the block
   it writes. -/
module

public import proofs.«01_k».proof.Proof.Loop
public import proofs.«01_k».proof.Proof.Attend
public import proofs.«01_k».proof.Proof.Gen.KernelIdeal.Value
public import Idealize.ShloMosaic.Lib.Pipeline.ValueKit

@[expose] public section
set_option maxRecDepth 16384
noncomputable section
open Idealize.ShloMosaic Idealize.ShloMosaic.TcCoe Idealize.SL.Sem
namespace Cert.KernelIdeal.Att
open Cert.KernelIdeal Cert.KernelIdeal.Gen
variable (m : (ℓ : Loc nD τ sig) → Buf (Elt Ideal) ℓ)

theorem pad_at (x : FVec Ideal S2x8192x4x96 .f32) (z : FVec Ideal S_ .f32) (b : Fin 2) (s : Fin 8192) (h : Fin 4) (d : Fin 128) (hz : z ix0 = (0 : EReal)) :
    pad S2x8192x4x128 ![0, 0, 0, 0] ![0, 0, 0, 32] ![0, 0, 0, 0] x z pads_S2x8192x4x96_S2x8192x4x128_000_000_000_0320 h_S_ (ix4 b s h d)
      = Softmax.lane (fun e => x (ix4 b s h e)) d := by
  have hi : Shape.Idx.first h_S_ = ix0 := funext fun a => a.elim0
  pointwise
  rw [hi, hz]
  rfl

theorem zero_at : sitofp (F := Ideal) FTy.f32 (constantI S_ 32 0#32) ix0 = (0 : EReal) := by
  show (((0#32).toInt : ℝ) : EReal) = 0
  simp

abbrev Q (c : Dev nD) : S2x8192x4x96.Idx → EReal := m ((c : Thread nD τ).loc main_arg0)
abbrev K (c : Dev nD) : S2x8192x4x96.Idx → EReal := m ((c : Thread nD τ).loc main_arg1)
abbrev W (c : Dev nD) : S2x8192x4x64.Idx → EReal := m ((c : Thread nD τ).loc main_arg2)

theorem v_at (c : Dev nD) (b : Fin 2) (s : Fin 8192) (e : Fin 256) :
    V m c main_v12 (ix3 b s e) = W m c (ix4 b s ⟨e / 64, by omega⟩ ⟨e % 64, by omega⟩) := by
  dsimp only [V, hostOps0, hostOps0_1, hostOps0_2, hostOps0_3, hostOps0_4, List.flatten_cons, List.flatten_nil, List.cons_append, List.nil_append, List.append_nil]
  entry_read
  pointwise

theorem k_at (c : Dev nD) (b : Fin 2) (s : Fin 8192) (e : Fin 512) :
    V m c main_v10 (ix3 b s e) = Softmax.lane (fun d => K m c (ix4 b s ⟨e / 128, by omega⟩ d)) ⟨e % 128, by omega⟩ := by
  dsimp only [V, hostOps0, hostOps0_1, hostOps0_2, hostOps0_3, hostOps0_4, List.flatten_cons, List.flatten_nil, List.cons_append, List.nil_append, List.append_nil]
  entry_read
  pointwise
  simp only [StableHlo.TRef.toBuf, StableHlo.TRef.ofBuf, cast_eq]
  exact pad_at _ _ _ _ _ _ zero_at

theorem q_at (c : Dev nD) (b : Fin 2) (s : Fin 8192) (e : Fin 512) :
    V m c main_v7 (ix3 b s e) = Softmax.scaled (fun d => Q m c (ix4 b s ⟨e / 128, by omega⟩ d)) ⟨e % 128, by omega⟩ := by
  dsimp only [V, hostOps0, hostOps0_1, hostOps0_2, hostOps0_3, hostOps0_4, List.flatten_cons, List.flatten_nil, List.cons_append, List.nil_append, List.append_nil]
  entry_read
  pointwise
  simp only [StableHlo.TRef.toBuf, StableHlo.TRef.ofBuf, cast_eq]
  rw [pad_at _ _ _ _ _ _ zero_at]
  rfl

theorem idx : ∀ t : Fin cfg0.N, win0_0.index t = ![t.val / 16, t.val % 16, 0] ∧ win0_1.index t = ![t.val / 16, 0, 0]
   ∧ win0_2.index t = ![t.val / 16, 0, 0] ∧ win0_3.index t = ![t.val / 16, t.val % 16, 0] :=
  (by decide +kernel : ∀ t : Fin grid0.N, _)

theorem q_emb (t : Fin cfg0.N) (ht : t.val < 32) (r : Fin 512) (e : Fin 512) : (win0_0.blk t).view.emb (ix3 0 r e) = (ix3 ⟨t / 16, by omega⟩ ⟨t % 16 * 512 + r, by omega⟩ e : S2x8192x512.Idx) := by
  funext a
  fin_cases a <;> apply Fin.ext <;> blk_simp [idx t]
  all_goals simp [ix3]
theorem q_blk (c : Dev nD) (t : Fin cfg0.N) (ht : t.val < 32) (r : Fin 512) (e : Fin 512) : (iblk m c 0 t : S1x512x512.Idx → EReal) (ix3 0 r e) = V m c main_v7 (ix3 ⟨t / 16, by omega⟩ ⟨t % 16 * 512 + r, by omega⟩ e) :=
  congrArg (V m c main_v7) (q_emb t ht r e)

theorem k_emb (t : Fin cfg0.N) (ht : t.val < 32) (r : Fin 8192) (e : Fin 512) : (win0_1.blk t).view.emb (ix3 0 r e) = (ix3 ⟨t / 16, by omega⟩ r e : S2x8192x512.Idx) := by
  funext a
  fin_cases a <;> apply Fin.ext <;> blk_simp [idx t]
  all_goals simp [ix3]
theorem k_blk (c : Dev nD) (t : Fin cfg0.N) (ht : t.val < 32) (r : Fin 8192) (e : Fin 512) : (iblk m c 1 t : S1x8192x512.Idx → EReal) (ix3 0 r e) = V m c main_v10 (ix3 ⟨t / 16, by omega⟩ r e) := by
  unfold iblk
  rw [← k_emb t ht r e]
  exact (View.read_apply _ _).trans (cast_eq _ _)

theorem v_emb (t : Fin cfg0.N) (ht : t.val < 32) (r : Fin 8192) (e : Fin 256) : (win0_2.blk t).view.emb (ix3 0 r e) = (ix3 ⟨t / 16, by omega⟩ r e : S2x8192x256.Idx) := by
  funext a
  fin_cases a <;> apply Fin.ext <;> blk_simp [idx t]
  all_goals simp [ix3]
theorem v_blk (c : Dev nD) (t : Fin cfg0.N) (ht : t.val < 32) (r : Fin 8192) (e : Fin 256) : (iblk m c 2 t : S1x8192x256.Idx → EReal) (ix3 0 r e) = V m c main_v12 (ix3 ⟨t / 16, by omega⟩ r e) := by
  unfold iblk
  rw [← v_emb t ht r e]
  exact (View.read_apply _ _).trans (cast_eq _ _)

theorem o_emb (t : Fin cfg0.N) (ht : t.val < 32) (r : Fin 512) (e : Fin 256) : (win0_3.blk t).view.emb (ix3 0 r e) = (ix3 ⟨t / 16, by omega⟩ ⟨t % 16 * 512 + r, by omega⟩ e : S2x8192x256.Idx) := by
  funext a
  fin_cases a <;> apply Fin.ext <;> blk_simp [idx t]
  all_goals simp [ix3]

/-- The first store: lanes 0 to 63 are the first head's, lanes 64 to 127 the second's. -/
theorem out31 (l0 : FVec Ideal S512x1 .f32) (a0 : FVec Ideal S512x128 .f32) (l1 : FVec Ideal S512x1 .f32) (a1 : FVec Ideal S512x128 .f32) (r : Fin 512) (d : Fin 128) :
    k0_pay31 l0 a0 l1 a1 (ix3 0 r d) = if d.val < 64 then (a0 (ix2 r d) * Ideal.div 1 (l0 (ix2 r 0)) : EReal) else (a1 (ix2 r d) * Ideal.div 1 (l1 (ix2 r 0)) : EReal) := by
  pointwise [k0_pay31, k0_pay30]
  have h : IntOp.cmpi CmpIPredicate.slt (BitVec.ofNat 32 d.val) 64#32 = if d.val < 64 then 1#1 else 0#1 := by
    revert d; decide +kernel
  rw [h]
  split <;> rfl

theorem out32 (l0 : FVec Ideal S512x1 .f32) (a0 : FVec Ideal S512x128 .f32) (l1 : FVec Ideal S512x1 .f32) (a1 : FVec Ideal S512x128 .f32) (r : Fin 512) (d : Fin 128) :
    k0_pay32 l0 a0 l1 a1 (ix3 0 r d) = if d.val < 64 then (a0 (ix2 r d) * Ideal.div 1 (l0 (ix2 r 0)) : EReal) else (a1 (ix2 r d) * Ideal.div 1 (l1 (ix2 r 0)) : EReal) :=
  out31 l0 a0 l1 a1 r d

end Cert.KernelIdeal.Att
-- ==== Proof.Attention.lean ====
/- The attention kernel's result array: every grid point's two stores hold the reference's attention. -/
module

public import proofs.«01_k».proof.Proof.Block

@[expose] public section
set_option maxRecDepth 16384
noncomputable section
open Idealize.ShloMosaic Idealize.ShloMosaic.TcCoe Idealize.SL.Sem
namespace Cert.KernelIdeal.Att
open Cert.KernelIdeal Cert.KernelIdeal.Gen
variable (m : (ℓ : Loc nD τ sig) → Buf (Elt Ideal) ℓ)

/-- The attention of batch `b` at row `s` and lane `e`: lane `e % 64` of head `e / 64`. -/
def att (Q K : S2x8192x4x96.Idx → EReal) (W : S2x8192x4x64.Idx → EReal) (b : Fin 2) (s : Fin 8192) (e : Fin 256) : EReal :=
  Softmax.attend (fun d => Q (ix4 b s ⟨e / 64, by omega⟩ d))
    (fun j d => K (ix4 b j ⟨e / 64, by omega⟩ d)) (fun j => W (ix4 b j ⟨e / 64, by omega⟩ ⟨e % 64, by omega⟩))

def attArr (Q K : S2x8192x4x96.Idx → EReal) (W : S2x8192x4x64.Idx → EReal) (i : S2x8192x256.Idx) : EReal := att Q K W (i 0) (i 1) (i 2)

section
variable (c : Dev nD) (hQ : ∀ i, ∃ x : ℝ, Q m c i = x) (hK : ∀ i, ∃ x : ℝ, K m c i = x)
  (t : Fin cfg0.N) (ht : t.val < 32)
include hQ hK ht

theorem score_blk (o : Fin 385) (r : Fin 512) (j : ℕ) (h : Fin 4) (ho : o.val = 128 * h.val) :
    score (iblk m c 0 t) (iblk m c 1 t) o r j = ∑ d : Fin 128,
      Softmax.scaled (fun d => Q m c (ix4 ⟨t / 16, by omega⟩ ⟨t % 16 * 512 + r, by omega⟩ h d)) d
        * Softmax.lane (fun d => K m c (ix4 ⟨t / 16, by omega⟩ ⟨j % 8192, by omega⟩ h d)) d := by
  unfold score
  refine Finset.sum_congr rfl fun d _ => ?_
  have e1 : (⟨(o + d) / 128, by omega⟩ : Fin 4) = h := Fin.ext (by show (o.val + d.val) / 128 = h.val; omega)
  have e2 : (⟨(o + d) % 128, by omega⟩ : Fin 128) = d := Fin.ext (by show (o.val + d.val) % 128 = d.val; omega)
  rw [q_blk m c t ht, k_blk m c t ht, q_at, k_at]
  simp only [e1, e2]

theorem score_real (o : Fin 385) (r : Fin 512) (j : ℕ) : ∃ x : ℝ, score (iblk m c 0 t) (iblk m c 1 t) o r j = x := by
  have a : ∀ d : Fin 128, ∃ x : ℝ, (show EReal from iblk m c 0 t (ix3 0 r ⟨o + d, by omega⟩)) * (show EReal from iblk m c 1 t (ix3 0 ⟨j % 8192, by omega⟩ ⟨o + d, by omega⟩)) = x := by
    intro d
    rw [q_blk m c t ht, k_blk m c t ht, q_at, k_at]
    obtain ⟨x, hx⟩ := Softmax.scaled_real (fun e => Q m c (ix4 ⟨t / 16, by omega⟩ ⟨t % 16 * 512 + r, by omega⟩ ⟨(o + d) / 128, by omega⟩ e)) (fun _ => hQ _) ⟨(o + d) % 128, by omega⟩
    obtain ⟨y, hy⟩ := Softmax.lane_real (fun e => K m c (ix4 ⟨t / 16, by omega⟩ ⟨j % 8192, by omega⟩ ⟨(o + d) / 128, by omega⟩ e)) (fun _ => hK _) ⟨(o + d) % 128, by omega⟩
    exact ⟨x * y, by rw [EReal.coe_mul, ← hx, ← hy]⟩
  choose f hf using a
  exact ⟨∑ d, f d, by rw [Softmax.coe_sum]; exact Finset.sum_congr rfl fun d _ => hf d⟩

theorem head_value (o : Fin 385) (r : Fin 512) (h : Fin 4) (ho : o.val = 128 * h.val) (e : Fin 256) (he : e.val / 64 = h.val) {x l a : EReal}
    (st : Softmax.After (score (iblk m c 0 t) (iblk m c 1 t) o r) (val (iblk m c 2 t) e) 8192 x l a) :
    a * Ideal.div 1 l = att (Q m c) (K m c) (W m c) ⟨t / 16, by omega⟩ ⟨t % 16 * 512 + r, by omega⟩ e := by
  have eh : (⟨e / 64, by omega⟩ : Fin 4) = h := Fin.ext he
  unfold att
  rw [eh]
  refine Softmax.attend_of_after _ _ _ (fun _ => hQ _) (fun _ _ => hK _) st (fun j => score_blk m c hQ hK t ht o r j _ ho) fun j => ?_
  have hj : (⟨j.val % 8192, by omega⟩ : Fin 8192) = j := Fin.ext (Nat.mod_eq_of_lt j.isLt)
  unfold val
  rw [v_blk m c t ht, v_at, hj, eh]
end

theorem final (c : Dev nD) (hQ : ∀ i, ∃ x : ℝ, Q m c i = x) (hK : ∀ i, ∃ x : ℝ, K m c i = x) :
    (dats m 0 c).arrAt 3 cfg0.N = attArr (Q m c) (K m c) (W m c) := by
  refine (dats m 0 c).arrAt_eq_of_covers 3 _ (by decide +kernel) fun t _ y => ?_
  blk_simp
  rw [after0_3]
  have ht : t.val < 32 := t.isLt
  have hs := fun r d => heads_upto (ms0_0 t) (hs0_0 t) (ms0_1 t) (hs0_1 t) (ms0_2 t) (hs0_2 t) (iblk m c 0 t) (iblk m c 1 t) (iblk m c 2 t)
    Variants.none c none (grid0.coords t) (ms0_3 t) (hs0_3 t) r d (score_real m c hQ hK t ht) _ (heads_init (iblk m c 0 t) (iblk m c 1 t) (iblk m c 2 t) r d) 4 le_rfl
  have h4 : Scf.trips (0#32) (Scalar.addi 0#32 4#32) 1#32 = 4 := by decide +kernel
  unfold outsAt0
  frame_out
  canon_tiles x h using Gen.cover0_A_3 ..
  all_goals rw [h4]
  all_goals revert hs
  all_goals generalize st_k0_t1 (F := Ideal) Variants.none c none (grid0.coords t) (ms0_0 t) _ (ms0_1 t) _ (ms0_2 t) _ (ms0_3 t) _ _ _ _ _ 4 = Z
  all_goals intro hs
  · idx_vars x
    have hy : ((View.whole main_v13).slice (win0_3.rect t)).emb y = (ix3 ⟨t / 16, by omega⟩ ⟨t % 16 * 512 + x1, by omega⟩ ⟨128 + x2, by omega⟩ : S2x8192x256.Idx) := by
      funext a
      fin_cases a <;> apply Fin.ext <;> blk_simp [idx t]
      · rfl
      · exact congrArg (t.val % 16 * 512 + ·) h1
      · exact h2
    obtain ⟨ha, hb, hc, hd⟩ := hs x1 x2
    obtain rfl : x0 = 0 := Subsingleton.elim _ _
    rw [hy, out32]
    split
    · exact head_value m c hQ hK t ht 256 x1 2 rfl ⟨128 + x2, by omega⟩ (by show (128 + x2.val) / 64 = 2; omega) hc
    · exact head_value m c hQ hK t ht 384 x1 3 rfl ⟨128 + x2, by omega⟩ (by show (128 + x2.val) / 64 = 3; omega) hd
  · idx_vars x
    have hy : ((View.whole main_v13).slice (win0_3.rect t)).emb y = (ix3 ⟨t / 16, by omega⟩ ⟨t % 16 * 512 + x1, by omega⟩ ⟨0 + x2, by omega⟩ : S2x8192x256.Idx) := by
      funext a
      fin_cases a <;> apply Fin.ext <;> blk_simp [idx t]
      · rfl
      · exact congrArg (t.val % 16 * 512 + ·) h1
      · exact h2
    obtain ⟨ha, hb, hc, hd⟩ := hs x1 x2
    obtain rfl : x0 = 0 := Subsingleton.elim _ _
    rw [hy, out31]
    split
    · exact head_value m c hQ hK t ht 0 x1 0 rfl ⟨0 + x2, by omega⟩ (by show (0 + x2.val) / 64 = 0; omega) ha
    · exact head_value m c hQ hK t ht 128 x1 1 rfl ⟨0 + x2, by omega⟩ (by show (0 + x2.val) / 64 = 1; omega) hb
end Cert.KernelIdeal.Att
-- ==== Proof.Reference.lean ====
/- The reference's attention at one index: the softmax-weighed sum of the keys' values. -/
module

public import proofs.«01_k».proof.Proof.Attend
public import proofs.«01_k».proof.Proof.Gen.ReferenceIdeal.Run
public import Idealize.ShloMosaic.Lib.Pipeline.ValueKit

@[expose] public section
set_option maxRecDepth 16384
noncomputable section
open Idealize.ShloMosaic Idealize.ShloMosaic.TcCoe Idealize.SL.Sem
namespace Cert.ReferenceIdeal.Att
open Cert.ReferenceIdeal Cert.ReferenceIdeal.Gen

def logits (Q K : FVec Ideal S2x8192x4x96 .f32) : FVec Ideal S2x4x8192x8192 .f32 :=
  Host.divf (Host.dotGeneral dot_S2x8192x4x96_S2x8192x4x96_S2x4x8192x8192_3_3_1_1_02_02 none Q K) (broadcastInDim S2x4x8192x8192 ![] bcast_S_S2x4x8192x8192 (Host.sqrt (constant S_ .f32 0x42C00000#32)))

theorem logits_at (Q K : FVec Ideal S2x8192x4x96 .f32) (b : Fin 2) (h : Fin 4) (s j : Fin 8192) :
    logits Q K (ix4 b h s j) = Ideal.div (∑ d : Fin 96, Q (ix4 b s h d) * K (ix4 b j h d)) (Ideal.sqrt (Ideal.ofBits .f32 0x42C00000#32)) := by
  pointwise [logits]

def top (L : FVec Ideal S2x4x8192x8192 .f32) : FVec Ideal S2x4x8192 .f32 :=
  maximumf (broadcastInDim S2x4x8192 ![] bcast_S_S2x4x8192 (constant S_ .f32 0xFF800000#32)) (Host.reduce FloatOps.maximumf L (constant S_ .f32 0xFF800000#32) reducesTo_S2x4x8192x8192_S2x4x8192_d3 h_S_)

theorem row_max {n0 n1 n2 n3 : ℕ} {u : Shape} (L : (⟨4, ![n0, n1, n2, n3]⟩ : Shape).Idx → EReal) (z : u.Idx → EReal)
    (hr : (⟨4, ![n0, n1, n2, n3]⟩ : Shape).ReducesTo [3] ⟨3, ![n0, n1, n2]⟩) (hu : 0 < u.numel) (b : Fin n0) (h : Fin n1) (s : Fin n2) :
    Host.reduce max L z hr hu (ix3 b h s) = Finset.univ.fold max (z (Shape.Idx.first hu)) fun j : Fin n3 => L (ix4 b h s j) := by
  rw [Host.reduce_eq_fold]
  exact Shape.ReducesTo.fold_fiber_r4_a3 _ _ _ _ _

theorem op_max : (FloatOps.maximumf (F := Ideal) (φ := .f32) : Ideal .f32 → Ideal .f32 → Ideal .f32) = (max : EReal → EReal → EReal) := rfl
theorem max_apply {s : Shape} (x y : FVec Ideal s .f32) (i : s.Idx) : maximumf x y i = max (x i : EReal) (y i) := rfl
theorem neg_apply (i : S2x4x8192.Idx) : broadcastInDim S2x4x8192 ![] bcast_S_S2x4x8192 (constant (F := Ideal) S_ .f32 0xFF800000#32) i = Ideal.ofBits .f32 0xFF800000#32 := rfl

theorem top_at (L : FVec Ideal S2x4x8192x8192 .f32) (b : Fin 2) (h : Fin 4) (s : Fin 8192) :
    top L (ix3 b h s) = max (Ideal.ofBits .f32 0xFF800000#32) (Finset.univ.fold max (Ideal.ofBits .f32 0xFF800000#32) fun j : Fin 8192 => (L (ix4 b h s j) : EReal)) := by
  unfold top
  rw [max_apply, neg_apply, op_max]
  refine congrArg _ ?_
  have := row_max L (constant (F := Ideal) S_ .f32 0xFF800000#32) reducesTo_S2x4x8192x8192_S2x4x8192_d3 h_S_ b h s
  have hz : constant (F := Ideal) S_ .f32 0xFF800000#32 (Shape.Idx.first h_S_) = Ideal.ofBits .f32 0xFF800000#32 := rfl
  rw [hz] at this
  exact this

def weight (L : FVec Ideal S2x4x8192x8192 .f32) : FVec Ideal S2x4x8192x8192 .f32 :=
  Host.exp (subf L (broadcastInDim S2x4x8192x8192 ![0, 1, 2, 3] bcast_S2x4x8192x1_S2x4x8192x8192_0_1_2_3 (broadcastInDim S2x4x8192x1 ![0, 1, 2] bcast_S2x4x8192_S2x4x8192x1_0_1_2 (top L))))

theorem weight_at (L : FVec Ideal S2x4x8192x8192 .f32) (b : Fin 2) (h : Fin 4) (s j : Fin 8192) :
    weight L (ix4 b h s j) = Ideal.exp (L (ix4 b h s j) - top L (ix3 b h s)) := by
  pointwise [weight]

def out (W : FVec Ideal S2x8192x4x64 .f32) (P : FVec Ideal S2x4x8192x8192 .f32) : FVec Ideal S2x8192x256 .bf16 :=
  truncf .bf16 (shapeCast _ (transpose S2x8192x4x64 [0, 3, 1, 2] (Host.dotGeneral dot_S2x8192x4x64_S2x4x8192x8192_S2x4x64x8192_1_3_3_2_02_01 none W
    (Host.divf P (broadcastInDim S2x4x8192x8192 ![0, 1, 2, 3] bcast_S2x4x8192x1_S2x4x8192x8192_0_1_2_3 (broadcastInDim S2x4x8192x1 ![0, 1, 2] bcast_S2x4x8192_S2x4x8192x1_0_1_2
      (Host.reduceAdd P (constant S_ .f32 0x00000000#32) reducesTo_S2x4x8192x8192_S2x4x8192_d3 h_S_))))) transposes_S2x4x64x8192_S2x8192x4x64_0_3_1_2) shapeCasts_S2x8192x4x64_S2x8192x256) bitsLt_bf16_f32

theorem out_at (W : FVec Ideal S2x8192x4x64 .f32) (P : FVec Ideal S2x4x8192x8192 .f32) (b : Fin 2) (s : Fin 8192) (e : Fin 256) :
    out W P (ix3 b s e) = ∑ j : Fin 8192, (W (ix4 b j ⟨e / 64, by omega⟩ ⟨e % 64, by omega⟩) : EReal) * Ideal.div (P (ix4 b ⟨e / 64, by omega⟩ s j)) (∑ k : Fin 8192, (P (ix4 b ⟨e / 64, by omega⟩ s k) : EReal)) := by
  pointwise [out]

theorem negInf : Ideal.ofBits .f32 0xFF800000#32 = ⊥ := by
  simp [Ideal.ofBits, Ideal.ieee]

/-- The reference's result at batch `b`, row `s` and lane `e`: lane `e % 64` of head `e / 64`. -/
theorem ref_at (Q K : FVec Ideal S2x8192x4x96 .f32) (W : FVec Ideal S2x8192x4x64 .f32) (b : Fin 2) (s : Fin 8192) (e : Fin 256) :
    out W (weight (logits Q K)) (ix3 b s e) = Softmax.attend (fun d => Q (ix4 b s ⟨e / 64, by omega⟩ d))
      (fun j d => K (ix4 b j ⟨e / 64, by omega⟩ d)) (fun j => W (ix4 b j ⟨e / 64, by omega⟩ ⟨e % 64, by omega⟩)) := by
  have ht : top (logits Q K) (ix3 b ⟨e / 64, by omega⟩ s)
      = Softmax.top (fun d => Q (ix4 b s ⟨e / 64, by omega⟩ d)) fun j d => K (ix4 b j ⟨e / 64, by omega⟩ d) := by
    rw [top_at, negInf, max_eq_right bot_le]
    exact congrArg (Finset.fold max ⊥ · Finset.univ) (funext fun j => logits_at Q K b _ s j)
  rw [out_at]
  simp only [weight_at, logits_at, ht]
  rfl

end Cert.ReferenceIdeal.Att
-- ==== Proof.Finite.lean ====
/- What the precondition says: every query and every key is a real number. -/
module

public import proofs.«01_k».proof.Defs
public import Idealize.ShloMosaic.Lib.ReduceAll

@[expose] public section
set_option maxRecDepth 16384
noncomputable section
namespace Cert.Finite
open Idealize.ShloMosaic Cert.Pre_finite_queries_and_keys

theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | coe r => exact ⟨r, rfl⟩
  | bot => simp [Ideal.cmp] at h
  | top => simp [Ideal.cmp] at h

theorem and_left {a b : BitVec 1} (h : IntOp.andi a b = 1#1) : a = 1#1 ∧ b = 1#1 := by
  revert h a b; decide

theorem real [Facts] (Q K : FVec Ideal S2x8192x4x96 .f32) (W : FVec Ideal S2x8192x4x64 .f32)
    (h : fn (F := Ideal) Q K W = fun _ => 1#1) : (∀ i, ∃ x : ℝ, (Q i : EReal) = x) ∧ ∀ i, ∃ x : ℝ, (K i : EReal) = x := by
  dsimp only [fn] at h
  have e := and_left (congrFun h fun a => a.elim0)
  haveI : Subsingleton S_.Idx := ⟨fun a b => funext fun x => x.elim0⟩
  refine ⟨fun i => ?_, fun i => ?_⟩
  · exact real_of_lt _ (Host.reduce_andi_all _ _ _ _ _ e.1 i)
  · exact real_of_lt _ (Host.reduce_andi_all _ _ _ _ _ e.2 i)

end Cert.Finite
-- ==== Proof.Ffn.lean ====
/- The feed-forward half-step on one token: root mean square norm, gated linear unit, and the sum over the hidden lanes in chunks. -/
module

public import Idealize.ShloMosaic.Lib.Pipeline.ValueKit

@[expose] public section
set_option maxRecDepth 16384
noncomputable section
open Idealize.ShloMosaic Idealize.ShloMosaic.TcCoe Idealize.SL.Sem
namespace Cert.Ffn

/-- The root mean square norm of a token `x` with the gains `g`. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- The inner product of a token with one column of a weight. -/
def col (x w : Fin 1024 → EReal) : EReal := ∑ k, x k * w k

/-- One hidden lane: the gate's product through the logistic gate, times the other product. -/
def hidden (x g u : Fin 1024 → EReal) : EReal := col x g * Ideal.div 1 (1 + Ideal.exp (-col x g)) * col x u

/-- The token plus half of its feed-forward value. -/
def half (x g : Fin 1024 → EReal) (G U : Fin 1024 → Fin 2816 → EReal) (D : Fin 2816 → Fin 1024 → EReal) (d : Fin 1024) : EReal :=
  x d + Ideal.ofBits .f32 0x3F000000#32 * ∑ j, hidden (rms x g) (fun k => G k j) (fun k => U k j) * D j d

/-- A sum over the 2816 hidden lanes is the sum over eleven chunks of 256 lanes, added up from the first. -/
theorem sum_chunks (f : Fin 2816 → EReal) (s : Fin 11 → EReal) (hs : ∀ c : Fin 11, s c = ∑ j : Fin 256, f ⟨256 * c + j, by omega⟩) :
    0 + s 0 + s 1 + s 2 + s 3 + s 4 + s 5 + s 6 + s 7 + s 8 + s 9 + s 10 = ∑ j, f j := by
  have h : ∑ j, f j = ∑ c : Fin 11, ∑ j : Fin 256, f ⟨256 * c + j, by omega⟩ := by
    rw [← Finset.sum_product', ← Equiv.sum_comp (finProdFinEquiv : Fin 11 × Fin 256 ≃ Fin 2816)]
    refine Finset.sum_congr rfl fun p _ => congrArg f (Fin.ext ?_)
    show p.2.val + 256 * p.1.val = 256 * p.1.val + p.2.val
    omega
  rw [h]
  simp only [← hs, Fin.sum_univ_succ, Finset.univ_eq_empty, Finset.sum_empty, add_zero, zero_add]
  simp only [add_assoc]
  rfl

end Cert.Ffn
-- ==== Proof.FfnBlock.lean ====
/- The feed-forward kernel's result array: each grid point's block of 512 tokens, and all of them. -/
module

public import proofs.«01_k».proof.Proof.Ffn
public import proofs.«01_k».proof.Proof.Gen.Kernel2Ideal.Value

@[expose] public section
set_option maxRecDepth 16384
noncomputable section
open Idealize.ShloMosaic Idealize.ShloMosaic.TcCoe Idealize.SL.Sem
namespace Cert.Kernel2Ideal.Ffn
open Cert.Kernel2Ideal Cert.Kernel2Ideal.Gen

/-- The product of the block's tokens with a chunk of 256 columns. -/
def gate (X : FVec Ideal S512x1024 .bf16) (a : FVec Ideal S1x1024x256 .bf16) : FVec Ideal S512x256 .f32 :=
  matmul dot_S512x1024_S1024x256_S512x256_1_0_0_1_n_n none X (shapeCast S1024x256 a shapeCasts_S1x1024x256_S1024x256) (constant S512x256 .f32 0x00000000#32)

/-- The hidden lanes of a chunk. -/
def lanes (P Q : FVec Ideal S512x256 .f32) : FVec Ideal S512x256 .bf16 :=
  truncf .bf16 (mulf (mulf P (divf (broadcast S512x256 (Scalar.ofBits .f32 0x3F800000#32)) (addf (broadcast S512x256 (Scalar.ofBits .f32 0x3F800000#32))
    (exp (subf (broadcast S512x256 (Scalar.ofBits .f32 0x00000000#32)) P))))) Q) bitsLt_bf16_f32

/-- A chunk's share of the second product. -/
def chunk (X : FVec Ideal S512x1024 .bf16) (a b : FVec Ideal S1x1024x256 .bf16) (w : FVec Ideal S1x256x1024 .bf16) : FVec Ideal S512x1024 .f32 :=
  matmul dot_S512x256_S256x1024_S512x1024_1_0_0_1_n_n none (lanes (gate X a) (gate X b)) (shapeCast S256x1024 w shapeCasts_S1x256x1024_S256x1024) (constant S512x1024 .f32 0x00000000#32)

theorem gate_at (X : FVec Ideal S512x1024 .bf16) (a : FVec Ideal S1x1024x256 .bf16) (r : Fin 512) (j : Fin 256) :
    gate X a (ix2 r j) = Cert.Ffn.col (fun k => X (ix2 r k)) (fun k => a (ix3 0 k j)) := by
  pointwise [gate]
  rfl

theorem lanes_at (P Q : FVec Ideal S512x256 .f32) (r : Fin 512) (j : Fin 256) :
    lanes P Q (ix2 r j) = (P (ix2 r j) * Ideal.div 1 (1 + Ideal.exp (-P (ix2 r j))) * Q (ix2 r j) : EReal) := by
  pointwise [lanes]
  rw [zero_sub]

theorem chunk_at (X : FVec Ideal S512x1024 .bf16) (a b : FVec Ideal S1x1024x256 .bf16) (w : FVec Ideal S1x256x1024 .bf16) (r : Fin 512) (d : Fin 1024) :
    chunk X a b w (ix2 r d) = ∑ j : Fin 256, (Cert.Ffn.hidden (fun k => X (ix2 r k)) (fun k => a (ix3 0 k j)) (fun k => b (ix3 0 k j)) * w (ix3 0 j d) : EReal) := by
  pointwise [chunk]
  simp only [lanes_at, gate_at]
  rfl

theorem norm_at (x : Vec Ideal S512x1024 .f32) (g : Vec Ideal S1x1x1024 .f32) (r : Fin 512) (d : Fin 1024) :
    k0_pay2 x g (ix2 r d) = Cert.Ffn.rms (fun k => x (ix2 r k)) (fun k => g (ix3 0 0 k)) d := by
  pointwise [k0_pay2]
  rfl

theorem last_at (x : Vec Ideal S512x1024 .f32) (g : Vec Ideal S1x1024 .f32) (r : Fin 512) (d : Fin 1024) :
    k0_pay1 x (k0_pay22 g) (ix2 r d) = Cert.Ffn.rms (fun k => x (ix2 r k)) (fun k => g (ix2 0 k)) d := by
  pointwise [k0_pay1, k0_pay22]
  rfl

/-- The block's tokens after the half-step, from eleven chunks. -/
def step (x0 : Vec Ideal S512x1024 .f32) (s : Fin 11 → FVec Ideal S512x1024 .f32) : FVec Ideal S512x1024 .f32 :=
  addf x0 (mulf (broadcast S512x1024 (Scalar.ofBits .f32 0x3F000000#32))
    (addf (addf (addf (addf (addf (addf (addf (addf (addf (addf (addf (broadcast S512x1024 (Scalar.ofBits .f32 0x00000000#32)) (s 0)) (s 1)) (s 2)) (s 3)) (s 4)) (s 5)) (s 6)) (s 7)) (s 8)) (s 9)) (s 10)))

theorem step_at (x0 : Vec Ideal S512x1024 .f32) (s : Fin 11 → FVec Ideal S512x1024 .f32) (r : Fin 512) (d : Fin 1024) :
    step x0 s (ix2 r d) = (x0 (ix2 r d) + Ideal.ofBits .f32 0x3F000000#32 * (0 + s 0 (ix2 r d) + s 1 (ix2 r d) + s 2 (ix2 r d) + s 3 (ix2 r d) + s 4 (ix2 r d) + s 5 (ix2 r d)
      + s 6 (ix2 r d) + s 7 (ix2 r d) + s 8 (ix2 r d) + s 9 (ix2 r d) + s 10 (ix2 r d)) : EReal) := by
  pointwise [step]

/-- The chunks that the body loads: columns and rows `256 c` to `256 c + 255` of the weights. -/
def chunks (X : FVec Ideal S512x1024 .bf16) (x2 x3 : Vec Ideal S1x1024x2816 .bf16) (x4 : Vec Ideal S1x2816x1024 .bf16) : Fin 11 → FVec Ideal S512x1024 .f32 :=
  ![chunk X (View.ld x2 r0_2) (View.ld x3 r0_2) (View.ld x4 r0_3), chunk X (View.ld x2 r0_4) (View.ld x3 r0_4) (View.ld x4 r0_5),
    chunk X (View.ld x2 r0_6) (View.ld x3 r0_6) (View.ld x4 r0_7), chunk X (View.ld x2 r0_8) (View.ld x3 r0_8) (View.ld x4 r0_9),
    chunk X (View.ld x2 r0_10) (View.ld x3 r0_10) (View.ld x4 r0_11), chunk X (View.ld x2 r0_12) (View.ld x3 r0_12) (View.ld x4 r0_13),
    chunk X (View.ld x2 r0_14) (View.ld x3 r0_14) (View.ld x4 r0_15), chunk X (View.ld x2 r0_16) (View.ld x3 r0_16) (View.ld x4 r0_17),
    chunk X (View.ld x2 r0_18) (View.ld x3 r0_18) (View.ld x4 r0_19), chunk X (View.ld x2 r0_20) (View.ld x3 r0_20) (View.ld x4 r0_21),
    chunk X (View.ld x2 r0_22) (View.ld x3 r0_22) (View.ld x4 r0_23)]

theorem chunks_at (X : FVec Ideal S512x1024 .bf16) (x2 x3 : Vec Ideal S1x1024x2816 .bf16) (x4 : Vec Ideal S1x2816x1024 .bf16) (c : Fin 11) (r : Fin 512) (d : Fin 1024) :
    chunks X x2 x3 x4 c (ix2 r d) = ∑ j : Fin 256, (Cert.Ffn.hidden (fun k => X (ix2 r k)) (fun k => x2 (ix3 0 k ⟨256 * c + j, by omega⟩)) (fun k => x3 (ix3 0 k ⟨256 * c + j, by omega⟩))
      * x4 (ix3 0 ⟨256 * c + j, by omega⟩ d) : EReal) := by
  fin_cases c
  all_goals refine (chunk_at X _ _ _ r d).trans (Finset.sum_congr rfl fun j _ => ?_)
  all_goals pointwise
  all_goals rfl

theorem out_eq (x0 : Vec Ideal S512x1024 .f32) (x1 : Vec Ideal S1x1x1024 .f32) (x2 x3 : Vec Ideal S1x1024x2816 .bf16) (x4 : Vec Ideal S1x2816x1024 .bf16) (x5 : Vec Ideal S1x1024 .f32) :
    out0_6 x0 x1 x2 x3 x4 x5 = k0_pay1 (step x0 (chunks (k0_pay2 x0 x1) x2 x3 x4)) (k0_pay22 x5) := by
  unfold_out out0_6
  rw [View.canon_unit_zero (by decide)]
  have h0 : View.ld x0 r0_0 = x0 := View.ld_unit_lit _ _ (by decide)
  have h1 : View.ld x1 r0_1 = x1 := View.ld_unit_lit _ _ (by decide)
  have h5 : View.ld x5 r0_24 = x5 := View.ld_unit_lit _ _ (by decide)
  rw [h0, h1, h5]
  rfl

variable (m : (ℓ : Loc nD τ sig) → Buf (Elt Ideal) ℓ)

abbrev X (c : Dev nD) : S16384x1024.Idx → EReal := m ((c : Thread nD τ).loc main_arg0)
abbrev gains (c : Dev nD) : S2x1024.Idx → EReal := m ((c : Thread nD τ).loc main_arg1)
abbrev WG (c : Dev nD) : S2x1024x2816.Idx → EReal := m ((c : Thread nD τ).loc main_arg2)
abbrev WU (c : Dev nD) : S2x1024x2816.Idx → EReal := m ((c : Thread nD τ).loc main_arg3)
abbrev WD (c : Dev nD) : S2x2816x1024.Idx → EReal := m ((c : Thread nD τ).loc main_arg4)
abbrev lastGains (c : Dev nD) : S1024.Idx → EReal := m ((c : Thread nD τ).loc main_arg5)

theorem gains_at (c : Dev nD) (l : Fin 2) (d : Fin 1024) : V m c main_v0 (ix3 l 0 d) = gains m c (ix2 l d) := by
  dsimp only [V, hostOps0]
  entry_read
  pointwise

theorem wg_at (c : Dev nD) (i : S2x1024x2816.Idx) : V m c main_v1 i = WG m c i := by
  dsimp only [V, hostOps0]
  entry_read
  pointwise

theorem wu_at (c : Dev nD) (i : S2x1024x2816.Idx) : V m c main_v2 i = WU m c i := by
  dsimp only [V, hostOps0]
  entry_read
  pointwise

theorem wd_at (c : Dev nD) (i : S2x2816x1024.Idx) : V m c main_v3 i = WD m c i := by
  dsimp only [V, hostOps0]
  entry_read
  pointwise

theorem last_gains_at (c : Dev nD) (d : Fin 1024) : V m c main_v4 (ix2 0 d) = lastGains m c (ix1 d) := by
  dsimp only [V, hostOps0]
  entry_read
  pointwise

theorem idx : ∀ t : Fin cfg0.N, win0_0.index t = ![t.val, 0] ∧ win0_1.index t = ![1, 0, 0] ∧ win0_2.index t = ![1, 0, 0] ∧ win0_3.index t = ![1, 0, 0]
    ∧ win0_4.index t = ![1, 0, 0] ∧ win0_5.index t = ![0, 0] ∧ win0_6.index t = ![t.val, 0] :=
  (by decide +kernel : ∀ t : Fin grid0.N, _)

theorem x_emb (t : Fin cfg0.N) (ht : t.val < 32) (r : Fin 512) (d : Fin 1024) : (win0_0.blk t).view.emb (ix2 r d) = (ix2 ⟨t * 512 + r, by omega⟩ d : S16384x1024.Idx) := by
  funext a
  fin_cases a <;> apply Fin.ext <;> blk_simp [idx t]
  all_goals simp [ix2]
theorem x_blk (c : Dev nD) (t : Fin cfg0.N) (ht : t.val < 32) (r : Fin 512) (d : Fin 1024) : (iblk m c 0 t : S512x1024.Idx → EReal) (ix2 r d) = X m c (ix2 ⟨t * 512 + r, by omega⟩ d) := by
  have h : X m c = V m c main_arg0 := (V_main_arg0 m c).symm
  rw [h, ← x_emb t ht r d]
  unfold iblk
  exact (View.read_apply _ _).trans (cast_eq _ _)

theorem g_emb (t : Fin cfg0.N) (d : Fin 1024) : (win0_1.blk t).view.emb (ix3 0 0 d) = (ix3 1 0 d : S2x1x1024.Idx) := by
  funext a
  fin_cases a <;> apply Fin.ext <;> blk_simp [idx t]
  all_goals simp [ix3]
theorem g_blk (c : Dev nD) (t : Fin cfg0.N) (d : Fin 1024) : (iblk m c 1 t : S1x1x1024.Idx → EReal) (ix3 0 0 d) = gains m c (ix2 1 d) := by
  rw [← gains_at m c, ← g_emb t d]
  unfold iblk
  exact (View.read_apply _ _).trans (cast_eq _ _)

theorem wg_emb (t : Fin cfg0.N) (k : Fin 1024) (j : Fin 2816) : (win0_2.blk t).view.emb (ix3 0 k j) = (ix3 1 k j : S2x1024x2816.Idx) := by
  funext a
  fin_cases a <;> apply Fin.ext <;> blk_simp [idx t]
  all_goals simp [ix3]
theorem wg_blk (c : Dev nD) (t : Fin cfg0.N) (k : Fin 1024) (j : Fin 2816) : (iblk m c 2 t : S1x1024x2816.Idx → EReal) (ix3 0 k j) = WG m c (ix3 1 k j) := by
  rw [← wg_at m c, ← wg_emb t k j]
  unfold iblk
  exact (View.read_apply _ _).trans (cast_eq _ _)

theorem wu_emb (t : Fin cfg0.N) (k : Fin 1024) (j : Fin 2816) : (win0_3.blk t).view.emb (ix3 0 k j) = (ix3 1 k j : S2x1024x2816.Idx) := by
  funext a
  fin_cases a <;> apply Fin.ext <;> blk_simp [idx t]
  all_goals simp [ix3]
theorem wu_blk (c : Dev nD) (t : Fin cfg0.N) (k : Fin 1024) (j : Fin 2816) : (iblk m c 3 t : S1x1024x2816.Idx → EReal) (ix3 0 k j) = WU m c (ix3 1 k j) := by
  rw [← wu_at m c, ← wu_emb t k j]
  unfold iblk
  exact (View.read_apply _ _).trans (cast_eq _ _)

theorem wd_emb (t : Fin cfg0.N) (j : Fin 2816) (d : Fin 1024) : (win0_4.blk t).view.emb (ix3 0 j d) = (ix3 1 j d : S2x2816x1024.Idx) := by
  funext a
  fin_cases a <;> apply Fin.ext <;> blk_simp [idx t]
  all_goals simp [ix3]
theorem wd_blk (c : Dev nD) (t : Fin cfg0.N) (j : Fin 2816) (d : Fin 1024) : (iblk m c 4 t : S1x2816x1024.Idx → EReal) (ix3 0 j d) = WD m c (ix3 1 j d) := by
  rw [← wd_at m c, ← wd_emb t j d]
  unfold iblk
  exact (View.read_apply _ _).trans (cast_eq _ _)

theorem f_emb (t : Fin cfg0.N) (d : Fin 1024) : (win0_5.blk t).view.emb (ix2 0 d) = (ix2 0 d : S1x1024.Idx) := by
  funext a
  fin_cases a <;> apply Fin.ext <;> blk_simp [idx t]
  all_goals simp [ix2]
theorem f_blk (c : Dev nD) (t : Fin cfg0.N) (d : Fin 1024) : (iblk m c 5 t : S1x1024.Idx → EReal) (ix2 0 d) = lastGains m c (ix1 d) := by
  rw [← last_gains_at m c]
  unfold iblk
  exact ((View.read_apply _ _).trans (cast_eq _ _)).trans (congrArg (V m c main_v4) (f_emb t d))

/-- The value at token `s` and lane `d`: the half-step with layer 1's weights, then the final norm. -/
def value (X : S16384x1024.Idx → EReal) (g : S2x1024.Idx → EReal) (G U : S2x1024x2816.Idx → EReal) (D : S2x2816x1024.Idx → EReal) (f : S1024.Idx → EReal) (s : Fin 16384) (d : Fin 1024) : EReal :=
  Cert.Ffn.rms (Cert.Ffn.half (fun k => X (ix2 s k)) (fun k => g (ix2 1 k)) (fun k j => G (ix3 1 k j)) (fun k j => U (ix3 1 k j)) (fun j d => D (ix3 1 j d))) (fun k => f (ix1 k)) d

def valueArr (X : S16384x1024.Idx → EReal) (g : S2x1024.Idx → EReal) (G U : S2x1024x2816.Idx → EReal) (D : S2x2816x1024.Idx → EReal) (f : S1024.Idx → EReal) (i : S16384x1024.Idx) : EReal :=
  value X g G U D f (i 0) (i 1)

theorem step_value (c : Dev nD) (t : Fin cfg0.N) (ht : t.val < 32) (r : Fin 512) (d : Fin 1024) :
    step (iblk m c 0 t) (chunks (k0_pay2 (iblk m c 0 t) (iblk m c 1 t)) (iblk m c 2 t) (iblk m c 3 t) (iblk m c 4 t)) (ix2 r d)
      = Cert.Ffn.half (fun k => X m c (ix2 ⟨t * 512 + r, by omega⟩ k)) (fun k => gains m c (ix2 1 k)) (fun k j => WG m c (ix3 1 k j)) (fun k j => WU m c (ix3 1 k j)) (fun j d => WD m c (ix3 1 j d)) d := by
  rw [step_at, Cert.Ffn.sum_chunks (fun j => Cert.Ffn.hidden (fun k => k0_pay2 (iblk m c 0 t) (iblk m c 1 t) (ix2 r k)) (fun k => (iblk m c 2 t : S1x1024x2816.Idx → EReal) (ix3 0 k j))
    (fun k => (iblk m c 3 t : S1x1024x2816.Idx → EReal) (ix3 0 k j)) * (iblk m c 4 t : S1x2816x1024.Idx → EReal) (ix3 0 j d))
    (fun i => chunks (k0_pay2 (iblk m c 0 t) (iblk m c 1 t)) (iblk m c 2 t) (iblk m c 3 t) (iblk m c 4 t) i (ix2 r d)) (fun i => chunks_at _ _ _ _ i r d)]
  simp only [norm_at, wg_blk m c t, wu_blk m c t, wd_blk m c t, x_blk m c t ht, g_blk m c t]
  rfl

theorem final (c : Dev nD) : (dats m 0 c).arrAt 6 cfg0.N = valueArr (X m c) (gains m c) (WG m c) (WU m c) (WD m c) (lastGains m c) := by
  refine (dats m 0 c).arrAt_eq_of_covers 6 _ (by decide +kernel) fun t _ y => ?_
  blk_simp
  rw [after0_6]
  have ht : t.val < 32 := t.isLt
  idx_vars y
  have hy : (win0_6.blk t).view.emb (ix2 y0 y1) = (ix2 ⟨t * 512 + y0, by omega⟩ y1 : S16384x1024.Idx) := by
    funext a
    fin_cases a <;> apply Fin.ext <;> blk_simp [idx t]
    all_goals simp [ix2]
  rw [hy, out_eq, last_at]
  simp only [step_value m c t ht, f_blk m c t]
  rfl

end Cert.Kernel2Ideal.Ffn
-- ==== Proof.FfnReference.lean ====
/- The reference's feed-forward half-step with the final norm, at one token and lane. -/
module

public import proofs.«01_k».proof.Proof.Ffn
public import proofs.«01_k».proof.Proof.Gen.Reference2Ideal.Run

@[expose] public section
set_option maxRecDepth 16384
noncomputable section
open Idealize.ShloMosaic Idealize.ShloMosaic.TcCoe Idealize.SL.Sem
namespace Cert.Reference2Ideal.Ffn
open Cert.Reference2Ideal Cert.Reference2Ideal.Gen

/-- The norm of every token. -/
def norm (X : FVec Ideal S16384x1024 .f32) (g : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0
    (Host.reduceAdd (mulf X X) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem norm_at (X : FVec Ideal S16384x1024 .f32) (g : FVec Ideal S1024 .f32) (s : Fin 16384) (d : Fin 1024) :
    norm X g (ix2 s d) = Cert.Ffn.rms (fun k => X (ix2 s k)) (fun k => g (ix1 k)) d := by
  pointwise [norm]
  rfl

/-- Every token's product with a weight of layer 1. -/
def prod (X : FVec Ideal S16384x1024 .f32) (W : FVec Ideal S2x1024x2816 .f32) : FVec Ideal S16384x2816 .f32 :=
  Host.dotGeneral dot_S16384x1024_S1024x2816_S16384x2816_1_0_0_1_n_n none X
    (shapeCast S1024x2816 (extractStridedSlice S1x1024x2816 ![1, 0, 0] W slices_S2x1024x2816_S1x1024x2816_1_0_0) shapeCasts_S1x1024x2816_S1024x2816)

theorem prod_at (X : FVec Ideal S16384x1024 .f32) (W : FVec Ideal S2x1024x2816 .f32) (s : Fin 16384) (j : Fin 2816) :
    prod X W (ix2 s j) = Cert.Ffn.col (fun k => X (ix2 s k)) (fun k => W (ix3 1 k j)) := by
  pointwise [prod]
  rfl

/-- The gate of every hidden lane. -/
def lanes (P Q : FVec Ideal S16384x2816 .f32) : FVec Ideal S16384x2816 .f32 :=
  mulf (mulf P (Host.divf (broadcastInDim S16384x2816 ![] bcast_S_S16384x2816 (constant S_ .f32 0x3F800000#32))
    (addf (broadcastInDim S16384x2816 ![] bcast_S_S16384x2816 (constant S_ .f32 0x3F800000#32)) (Host.exp (Host.negf P))))) Q

theorem lanes_at (P Q : FVec Ideal S16384x2816 .f32) (s : Fin 16384) (j : Fin 2816) :
    lanes P Q (ix2 s j) = (P (ix2 s j) * Ideal.div 1 (1 + Ideal.exp (-P (ix2 s j))) * Q (ix2 s j) : EReal) := by
  pointwise [lanes]

/-- The token plus half of the product with the second weight. -/
def add (X : FVec Ideal S16384x1024 .f32) (A : FVec Ideal S16384x2816 .f32) (W : FVec Ideal S2x2816x1024 .f32) : FVec Ideal S16384x1024 .f32 :=
  addf X (mulf (broadcastInDim S16384x1024 ![] bcast_S_S16384x1024 (constant S_ .f32 0x3F000000#32)) (Host.dotGeneral dot_S16384x2816_S2816x1024_S16384x1024_1_0_0_1_n_n none A
    (shapeCast S2816x1024 (extractStridedSlice S1x2816x1024 ![1, 0, 0] W slices_S2x2816x1024_S1x2816x1024_1_0_0) shapeCasts_S1x2816x1024_S2816x1024)))

theorem add_at (X : FVec Ideal S16384x1024 .f32) (A : FVec Ideal S16384x2816 .f32) (W : FVec Ideal S2x2816x1024 .f32) (s : Fin 16384) (d : Fin 1024) :
    add X A W (ix2 s d) = (X (ix2 s d) + Ideal.ofBits .f32 0x3F000000#32 * ∑ j : Fin 2816, A (ix2 s j) * W (ix3 1 j d) : EReal) := by
  pointwise [add]

def gain (g : FVec Ideal S2x1024 .f32) : FVec Ideal S1024 .f32 :=
  shapeCast S1024 (extractStridedSlice S1x1024 ![1, 0] g slices_S2x1024_S1x1024_1_0) shapeCasts_S1x1024_S1024

theorem gain_at (g : FVec Ideal S2x1024 .f32) (d : Fin 1024) : gain g (ix1 d) = g (ix2 1 d) := by
  pointwise [gain]

def step (X : FVec Ideal S16384x1024 .f32) (g : FVec Ideal S2x1024 .f32) (G U : FVec Ideal S2x1024x2816 .f32) (D : FVec Ideal S2x2816x1024 .f32) : FVec Ideal S16384x1024 .f32 :=
  add X (lanes (prod (norm X (gain g)) G) (prod (norm X (gain g)) U)) D

theorem step_at (X : FVec Ideal S16384x1024 .f32) (g : FVec Ideal S2x1024 .f32) (G U : FVec Ideal S2x1024x2816 .f32) (D : FVec Ideal S2x2816x1024 .f32) (s : Fin 16384) (d : Fin 1024) :
    step X g G U D (ix2 s d) = Cert.Ffn.half (fun k => X (ix2 s k)) (fun k => g (ix2 1 k)) (fun k j => G (ix3 1 k j)) (fun k j => U (ix3 1 k j)) (fun j d => D (ix3 1 j d)) d := by
  unfold step
  rw [add_at]
  simp only [lanes_at, prod_at, norm_at, gain_at]
  rfl

/-- The reference's result at token `s` and lane `d`. -/
theorem ref_at (X : FVec Ideal S16384x1024 .f32) (g : FVec Ideal S2x1024 .f32) (G U : FVec Ideal S2x1024x2816 .f32) (D : FVec Ideal S2x2816x1024 .f32) (f : FVec Ideal S1024 .f32) (s : Fin 16384) (d : Fin 1024) :
    norm (step X g G U D) f (ix2 s d)
      = Cert.Ffn.rms (Cert.Ffn.half (fun k => X (ix2 s k)) (fun k => g (ix2 1 k)) (fun k j => G (ix3 1 k j)) (fun k j => U (ix3 1 k j)) (fun j d => D (ix3 1 j d))) (fun k => f (ix1 k)) d := by
  rw [norm_at]
  simp only [step_at]

/-- What the reference's run leaves is the spelt-out term of its arguments. -/
theorem run_eq (m : (ℓ : Loc nD τ sig) → Buf (Elt Ideal) ℓ) (c : Dev nD) :
    Value.res_out0 m c = norm (step (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5)) := rfl

end Cert.Reference2Ideal.Ffn
-- ==== Proof.Merge.lean ====
/- The gated merge on one token: each branch's product gated by a logistic gate of the normed token, summed, and put through the last product. -/
module

public import proofs.«01_k».proof.Proof.Ffn

@[expose] public section
set_option maxRecDepth 16384
noncomputable section
open Idealize.ShloMosaic Idealize.ShloMosaic.TcCoe Idealize.SL.Sem
namespace Cert.Merge

/-- The logistic gate of an inner product. -/
def gate (x w : Fin 1024 → EReal) : EReal := Ideal.div 1 (1 + Ideal.exp (-Cert.Ffn.col x w))

/-- One lane of a branch: its gate times the branch's product. -/
def term (x w : Fin 1024 → EReal) (b p : Fin 256 → EReal) : EReal := gate x w * ∑ j, b j * p j

/-- One lane of the five branches' sum. -/
def merged (x : Fin 1024 → EReal) (W : Fin 5 → Fin 1024 → EReal) (b P : Fin 5 → Fin 256 → EReal) : EReal :=
  term x (W 0) (b 0) (P 0) + term x (W 1) (b 1) (P 1) + term x (W 2) (b 2) (P 2) + term x (W 3) (b 3) (P 3) + term x (W 4) (b 4) (P 4)

/-- The token plus its merged branches. -/
def out (x g : Fin 1024 → EReal) (W : Fin 5 → Fin 1024 → Fin 1024 → EReal) (b : Fin 5 → Fin 256 → EReal) (P : Fin 5 → Fin 256 → Fin 1024 → EReal) (O : Fin 1024 → Fin 1024 → EReal) (d : Fin 1024) : EReal :=
  x d + ∑ e, merged (Cert.Ffn.rms x g) (fun n k => W n k e) b (fun n j => P n j e) * O e d

/-- The value at token `s` and lane `d` with layer 1's weights; the gates' columns of the projection start at 2144. -/
def value (X : (⟨2, ![16384, 1024]⟩ : Shape).Idx → EReal) (g : (⟨2, ![2, 1024]⟩ : Shape).Idx → EReal) (b0 b1 b2 b3 b4 : (⟨2, ![16384, 256]⟩ : Shape).Idx → EReal)
    (W : (⟨3, ![2, 1024, 7264]⟩ : Shape).Idx → EReal) (P : (⟨4, ![2, 5, 256, 1024]⟩ : Shape).Idx → EReal) (O : (⟨3, ![2, 1024, 1024]⟩ : Shape).Idx → EReal) (s : Fin 16384) (d : Fin 1024) : EReal :=
  out (fun k => X (ix2 s k)) (fun k => g (ix2 1 k)) (fun n k e => W (ix3 1 k ⟨2144 + (n * 1024 + e), by omega⟩)) ![fun j => b0 (ix2 s j), fun j => b1 (ix2 s j), fun j => b2 (ix2 s j), fun j => b3 (ix2 s j), fun j => b4 (ix2 s j)]
    (fun n j e => P (ix4 1 n j e)) (fun e d => O (ix3 1 e d)) d

end Cert.Merge
-- ==== Proof.MergeBlock.lean ====
/- The merge kernel's result array: each grid point's block of 512 tokens, and all of them. -/
module

public import proofs.«01_k».proof.Proof.Merge
public import proofs.«01_k».proof.Proof.Gen.Kernel3Ideal.Value

@[expose] public section
set_option maxRecDepth 16384
noncomputable section
open Idealize.ShloMosaic Idealize.ShloMosaic.TcCoe Idealize.SL.Sem
namespace Cert.Kernel3Ideal.Merge
open Cert.Kernel3Ideal Cert.Kernel3Ideal.Gen

/-- The product of the block's tokens with a gate's columns. -/
def prod (X : FVec Ideal S512x1024 .bf16) (w : FVec Ideal S1x1024x1024 .bf16) : FVec Ideal S512x1024 .f32 :=
  matmul dot_S512x1024_S1024x1024_S512x1024_1_0_0_1_n_n none X (shapeCast S1024x1024 w shapeCasts_S1x1024x1024_S1024x1024) (constant S512x1024 .f32 0x00000000#32)

/-- One branch's gated product. -/
def term (X : FVec Ideal S512x1024 .bf16) (w : FVec Ideal S1x1024x1024 .bf16) (b : FVec Ideal S512x256 .bf16) (p : FVec Ideal S1x1x256x1024 .bf16) : FVec Ideal S512x1024 .f32 :=
  mulf (divf (broadcast S512x1024 (Scalar.ofBits .f32 0x3F800000#32)) (addf (broadcast S512x1024 (Scalar.ofBits .f32 0x3F800000#32))
      (exp (subf (broadcast S512x1024 (Scalar.ofBits .f32 0x00000000#32)) (prod X w)))))
    (matmul dot_S512x256_S256x1024_S512x1024_1_0_0_1_n_n none (shapeCast S512x256 b shapeCasts_S512x256_S512x256) (shapeCast S256x1024 p shapeCasts_S1x1x256x1024_S256x1024) (constant S512x1024 .f32 0x00000000#32))

/-- The five branches' sum. -/
def merged (t : Fin 5 → FVec Ideal S512x1024 .f32) : FVec Ideal S512x1024 .bf16 :=
  truncf .bf16 (addf (addf (addf (addf (t 0) (t 1)) (t 2)) (t 3)) (t 4)) bitsLt_bf16_f32

theorem prod_at (X : FVec Ideal S512x1024 .bf16) (w : FVec Ideal S1x1024x1024 .bf16) (r : Fin 512) (d : Fin 1024) :
    prod X w (ix2 r d) = Cert.Ffn.col (fun k => X (ix2 r k)) (fun k => w (ix3 0 k d)) := by
  pointwise [prod]
  rfl

theorem term_at (X : FVec Ideal S512x1024 .bf16) (w : FVec Ideal S1x1024x1024 .bf16) (b : FVec Ideal S512x256 .bf16) (p : FVec Ideal S1x1x256x1024 .bf16) (r : Fin 512) (d : Fin 1024) :
    term X w b p (ix2 r d) = Cert.Merge.term (fun k => X (ix2 r k)) (fun k => w (ix3 0 k d)) (fun j => b (ix2 r j)) (fun j => p (ix4 0 0 j d)) := by
  pointwise [term]
  rw [zero_sub, prod_at]
  rfl

theorem merged_at (t : Fin 5 → FVec Ideal S512x1024 .f32) (r : Fin 512) (d : Fin 1024) :
    merged t (ix2 r d) = (t 0 (ix2 r d) + t 1 (ix2 r d) + t 2 (ix2 r d) + t 3 (ix2 r d) + t 4 (ix2 r d) : EReal) := by
  pointwise [merged]

theorem norm_at (x : Vec Ideal S512x1024 .f32) (g : Vec Ideal S1x1x1024 .f32) (r : Fin 512) (d : Fin 1024) :
    k0_pay2 x g (ix2 r d) = Cert.Ffn.rms (fun k => x (ix2 r k)) (fun k => g (ix3 0 0 k)) d := by
  pointwise [k0_pay2]
  rfl

theorem add_at (x : Vec Ideal S512x1024 .f32) (M : FVec Ideal S512x1024 .bf16) (w : Vec Ideal S1x1024x1024 .bf16) (r : Fin 512) (d : Fin 1024) :
    k0_pay1 x M w (ix2 r d) = (x (ix2 r d) + ∑ e : Fin 1024, M (ix2 r e) * w (ix3 0 e d) : EReal) := by
  pointwise [k0_pay1]

/-- The branches' terms, from the columns and weights that the body loads. -/
def terms (X : FVec Ideal S512x1024 .bf16) (b : Fin 5 → Vec Ideal S512x256 .bf16) (x7 : Vec Ideal S1x1024x5120 .bf16) (x8 : Vec Ideal S1x5x256x1024 .bf16) : Fin 5 → FVec Ideal S512x1024 .f32 :=
  ![term X (View.ld x7 r0_2) (b 0) (View.ld x8 r0_4), term X (View.ld x7 r0_5) (b 1) (View.ld x8 r0_6), term X (View.ld x7 r0_7) (b 2) (View.ld x8 r0_8),
    term X (View.ld x7 r0_9) (b 3) (View.ld x8 r0_10), term X (View.ld x7 r0_11) (b 4) (View.ld x8 r0_12)]

theorem terms_at (X : FVec Ideal S512x1024 .bf16) (b : Fin 5 → Vec Ideal S512x256 .bf16) (x7 : Vec Ideal S1x1024x5120 .bf16) (x8 : Vec Ideal S1x5x256x1024 .bf16) (n : Fin 5) (r : Fin 512) (d : Fin 1024) :
    terms X b x7 x8 n (ix2 r d) = Cert.Merge.term (fun k => X (ix2 r k)) (fun k => x7 (ix3 0 k ⟨n * 1024 + d, by omega⟩)) (fun j => b n (ix2 r j)) (fun j => x8 (ix4 0 n j d)) := by
  fin_cases n
  all_goals refine (term_at X _ _ _ r d).trans ?_
  all_goals refine congrArg₂ (fun w p => Cert.Merge.term _ w _ p) (funext fun k => ?_) (funext fun j => ?_)
  all_goals pointwise
  all_goals rfl

theorem out_eq (x0 : Vec Ideal S512x1024 .f32) (x1 : Vec Ideal S1x1x1024 .f32) (x2 x3 x4 x5 x6 : Vec Ideal S512x256 .bf16) (x7 : Vec Ideal S1x1024x5120 .bf16) (x8 : Vec Ideal S1x5x256x1024 .bf16) (x9 : Vec Ideal S1x1024x1024 .bf16) :
    out0_10 x0 x1 x2 x3 x4 x5 x6 x7 x8 x9 = k0_pay1 x0 (merged (terms (k0_pay2 x0 x1) ![x2, x3, x4, x5, x6] x7 x8)) x9 := by
  unfold_out out0_10
  rw [View.canon_unit_zero (by decide)]
  have h0 : View.ld x0 r0_0 = x0 := View.ld_unit_lit _ _ (by decide)
  have h1 : View.ld x1 r0_1 = x1 := View.ld_unit_lit _ _ (by decide)
  have h2 : View.ld x2 r0_3 = x2 := View.ld_unit_lit _ _ (by decide)
  have h3 : View.ld x3 r0_3 = x3 := View.ld_unit_lit _ _ (by decide)
  have h4 : View.ld x4 r0_3 = x4 := View.ld_unit_lit _ _ (by decide)
  have h5 : View.ld x5 r0_3 = x5 := View.ld_unit_lit _ _ (by decide)
  have h6 : View.ld x6 r0_3 = x6 := View.ld_unit_lit _ _ (by decide)
  have h9 : View.ld x9 r0_13 = x9 := View.ld_unit_lit _ _ (by decide)
  rw [h0, h1, h2, h3, h4, h5, h6, h9]
  rfl

variable (m : (ℓ : Loc nD τ sig) → Buf (Elt Ideal) ℓ)

abbrev X (c : Dev nD) : S16384x1024.Idx → EReal := m ((c : Thread nD τ).loc main_arg0)
abbrev gains (c : Dev nD) : S2x1024.Idx → EReal := m ((c : Thread nD τ).loc main_arg1)
abbrev B0 (c : Dev nD) : S16384x256.Idx → EReal := m ((c : Thread nD τ).loc main_arg2)
abbrev B1 (c : Dev nD) : S16384x256.Idx → EReal := m ((c : Thread nD τ).loc main_arg3)
abbrev B2 (c : Dev nD) : S16384x256.Idx → EReal := m ((c : Thread nD τ).loc main_arg4)
abbrev B3 (c : Dev nD) : S16384x256.Idx → EReal := m ((c : Thread nD τ).loc main_arg5)
abbrev B4 (c : Dev nD) : S16384x256.Idx → EReal := m ((c : Thread nD τ).loc main_arg6)
abbrev W (c : Dev nD) : S2x1024x7264.Idx → EReal := m ((c : Thread nD τ).loc main_arg7)
abbrev P (c : Dev nD) : S2x5x256x1024.Idx → EReal := m ((c : Thread nD τ).loc main_arg8)
abbrev O (c : Dev nD) : S2x1024x1024.Idx → EReal := m ((c : Thread nD τ).loc main_arg9)

theorem gains_at (c : Dev nD) (l : Fin 2) (d : Fin 1024) : V m c main_v1 (ix3 l 0 d) = gains m c (ix2 l d) := by
  dsimp only [V, hostOps0]
  entry_read
  pointwise

theorem w_at (c : Dev nD) (l : Fin 2) (k : Fin 1024) (j : Fin 5120) : V m c main_v7 (ix3 l k j) = W m c (ix3 l k ⟨2144 + j, by omega⟩) := by
  dsimp only [V, hostOps0]
  entry_read
  pointwise

theorem p_at (c : Dev nD) (i : S2x5x256x1024.Idx) : V m c main_v8 i = P m c i := by
  dsimp only [V, hostOps0]
  entry_read
  pointwise

theorem o_at (c : Dev nD) (i : S2x1024x1024.Idx) : V m c main_v9 i = O m c i := by
  dsimp only [V, hostOps0]
  entry_read
  pointwise

theorem b0_at (c : Dev nD) (i : S16384x256.Idx) : V m c main_v2 i = B0 m c i := by
  dsimp only [V, hostOps0]
  entry_read
  pointwise

theorem b1_at (c : Dev nD) (i : S16384x256.Idx) : V m c main_v3 i = B1 m c i := by
  dsimp only [V, hostOps0]
  entry_read
  pointwise

theorem b2_at (c : Dev nD) (i : S16384x256.Idx) : V m c main_v4 i = B2 m c i := by
  dsimp only [V, hostOps0]
  entry_read
  pointwise

theorem b3_at (c : Dev nD) (i : S16384x256.Idx) : V m c main_v5 i = B3 m c i := by
  dsimp only [V, hostOps0]
  entry_read
  pointwise

theorem b4_at (c : Dev nD) (i : S16384x256.Idx) : V m c main_v6 i = B4 m c i := by
  dsimp only [V, hostOps0]
  entry_read
  pointwise

theorem idx : ∀ t : Fin cfg0.N, win0_0.index t = ![t.val, 0] ∧ win0_1.index t = ![1, 0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![1, 0, 0] ∧ win0_8.index t = ![1, 0, 0, 0] ∧ win0_9.index t = ![1, 0, 0]
    ∧ win0_10.index t = ![t.val, 0] :=
  (by decide +kernel : ∀ t : Fin grid0.N, _)

theorem x_emb (t : Fin cfg0.N) (ht : t.val < 32) (r : Fin 512) (d : Fin 1024) : (win0_0.blk t).view.emb (ix2 r d) = (ix2 ⟨t * 512 + r, by omega⟩ d : S16384x1024.Idx) := by
  funext a
  fin_cases a <;> apply Fin.ext <;> blk_simp [idx t]
  all_goals simp [ix2]
theorem x_blk (c : Dev nD) (t : Fin cfg0.N) (ht : t.val < 32) (r : Fin 512) (d : Fin 1024) : (iblk m c 0 t : S512x1024.Idx → EReal) (ix2 r d) = X m c (ix2 ⟨t * 512 + r, by omega⟩ d) := by
  have h : X m c = V m c main_arg0 := (V_main_arg0 m c).symm
  rw [h, ← x_emb t ht r d]
  unfold iblk
  exact (View.read_apply _ _).trans (cast_eq _ _)

theorem g_emb (t : Fin cfg0.N) (d : Fin 1024) : (win0_1.blk t).view.emb (ix3 0 0 d) = (ix3 1 0 d : S2x1x1024.Idx) := by
  funext a
  fin_cases a <;> apply Fin.ext <;> blk_simp [idx t]
  all_goals simp [ix3]
theorem g_blk (c : Dev nD) (t : Fin cfg0.N) (d : Fin 1024) : (iblk m c 1 t : S1x1x1024.Idx → EReal) (ix3 0 0 d) = gains m c (ix2 1 d) := by
  rw [← gains_at m c, ← g_emb t d]
  unfold iblk
  exact (View.read_apply _ _).trans (cast_eq _ _)

theorem b0_emb (t : Fin cfg0.N) (ht : t.val < 32) (r : Fin 512) (j : Fin 256) : (win0_2.blk t).view.emb (ix2 r j) = (ix2 ⟨t * 512 + r, by omega⟩ j : S16384x256.Idx) := by
  funext a
  fin_cases a <;> apply Fin.ext <;> blk_simp [idx t]
  all_goals simp [ix2]
theorem b0_blk (c : Dev nD) (t : Fin cfg0.N) (ht : t.val < 32) (r : Fin 512) (j : Fin 256) : (iblk m c 2 t : S512x256.Idx → EReal) (ix2 r j) = B0 m c (ix2 ⟨t * 512 + r, by omega⟩ j) := by
  rw [← b0_at m c, ← b0_emb t ht r j]
  unfold iblk
  exact (View.read_apply _ _).trans (cast_eq _ _)

theorem b1_emb (t : Fin cfg0.N) (ht : t.val < 32) (r : Fin 512) (j : Fin 256) : (win0_3.blk t).view.emb (ix2 r j) = (ix2 ⟨t * 512 + r, by omega⟩ j : S16384x256.Idx) := by
  funext a
  fin_cases a <;> apply Fin.ext <;> blk_simp [idx t]
  all_goals simp [ix2]
theorem b1_blk (c : Dev nD) (t : Fin cfg0.N) (ht : t.val < 32) (r : Fin 512) (j : Fin 256) : (iblk m c 3 t : S512x256.Idx → EReal) (ix2 r j) = B1 m c (ix2 ⟨t * 512 + r, by omega⟩ j) := by
  rw [← b1_at m c, ← b1_emb t ht r j]
  unfold iblk
  exact (View.read_apply _ _).trans (cast_eq _ _)

theorem b2_emb (t : Fin cfg0.N) (ht : t.val < 32) (r : Fin 512) (j : Fin 256) : (win0_4.blk t).view.emb (ix2 r j) = (ix2 ⟨t * 512 + r, by omega⟩ j : S16384x256.Idx) := by
  funext a
  fin_cases a <;> apply Fin.ext <;> blk_simp [idx t]
  all_goals simp [ix2]
theorem b2_blk (c : Dev nD) (t : Fin cfg0.N) (ht : t.val < 32) (r : Fin 512) (j : Fin 256) : (iblk m c 4 t : S512x256.Idx → EReal) (ix2 r j) = B2 m c (ix2 ⟨t * 512 + r, by omega⟩ j) := by
  rw [← b2_at m c, ← b2_emb t ht r j]
  unfold iblk
  exact (View.read_apply _ _).trans (cast_eq _ _)

theorem b3_emb (t : Fin cfg0.N) (ht : t.val < 32) (r : Fin 512) (j : Fin 256) : (win0_5.blk t).view.emb (ix2 r j) = (ix2 ⟨t * 512 + r, by omega⟩ j : S16384x256.Idx) := by
  funext a
  fin_cases a <;> apply Fin.ext <;> blk_simp [idx t]
  all_goals simp [ix2]
theorem b3_blk (c : Dev nD) (t : Fin cfg0.N) (ht : t.val < 32) (r : Fin 512) (j : Fin 256) : (iblk m c 5 t : S512x256.Idx → EReal) (ix2 r j) = B3 m c (ix2 ⟨t * 512 + r, by omega⟩ j) := by
  rw [← b3_at m c, ← b3_emb t ht r j]
  unfold iblk
  exact (View.read_apply _ _).trans (cast_eq _ _)

theorem b4_emb (t : Fin cfg0.N) (ht : t.val < 32) (r : Fin 512) (j : Fin 256) : (win0_6.blk t).view.emb (ix2 r j) = (ix2 ⟨t * 512 + r, by omega⟩ j : S16384x256.Idx) := by
  funext a
  fin_cases a <;> apply Fin.ext <;> blk_simp [idx t]
  all_goals simp [ix2]
theorem b4_blk (c : Dev nD) (t : Fin cfg0.N) (ht : t.val < 32) (r : Fin 512) (j : Fin 256) : (iblk m c 6 t : S512x256.Idx → EReal) (ix2 r j) = B4 m c (ix2 ⟨t * 512 + r, by omega⟩ j) := by
  rw [← b4_at m c, ← b4_emb t ht r j]
  unfold iblk
  exact (View.read_apply _ _).trans (cast_eq _ _)

theorem w_emb (t : Fin cfg0.N) (k : Fin 1024) (j : Fin 5120) : (win0_7.blk t).view.emb (ix3 0 k j) = (ix3 1 k j : S2x1024x5120.Idx) := by
  funext a
  fin_cases a <;> apply Fin.ext <;> blk_simp [idx t]
  all_goals simp [ix3]
theorem w_blk (c : Dev nD) (t : Fin cfg0.N) (k : Fin 1024) (j : Fin 5120) : (iblk m c 7 t : S1x1024x5120.Idx → EReal) (ix3 0 k j) = W m c (ix3 1 k ⟨2144 + j, by omega⟩) := by
  rw [← w_at m c, ← w_emb t k j]
  unfold iblk
  exact (View.read_apply _ _).trans (cast_eq _ _)

theorem p_emb (t : Fin cfg0.N) (n : Fin 5) (j : Fin 256) (d : Fin 1024) : (win0_8.blk t).view.emb (ix4 0 n j d) = (ix4 1 n j d : S2x5x256x1024.Idx) := by
  funext a
  fin_cases a <;> apply Fin.ext <;> blk_simp [idx t]
  all_goals simp [ix4]
theorem p_blk (c : Dev nD) (t : Fin cfg0.N) (n : Fin 5) (j : Fin 256) (d : Fin 1024) : (iblk m c 8 t : S1x5x256x1024.Idx → EReal) (ix4 0 n j d) = P m c (ix4 1 n j d) := by
  rw [← p_at m c, ← p_emb t n j d]
  unfold iblk
  exact (View.read_apply _ _).trans (cast_eq _ _)

theorem o_emb (t : Fin cfg0.N) (e : Fin 1024) (d : Fin 1024) : (win0_9.blk t).view.emb (ix3 0 e d) = (ix3 1 e d : S2x1024x1024.Idx) := by
  funext a
  fin_cases a <;> apply Fin.ext <;> blk_simp [idx t]
  all_goals simp [ix3]
theorem o_blk (c : Dev nD) (t : Fin cfg0.N) (e : Fin 1024) (d : Fin 1024) : (iblk m c 9 t : S1x1024x1024.Idx → EReal) (ix3 0 e d) = O m c (ix3 1 e d) := by
  rw [← o_at m c, ← o_emb t e d]
  unfold iblk
  exact (View.read_apply _ _).trans (cast_eq _ _)

def valueArr (X : S16384x1024.Idx → EReal) (g : S2x1024.Idx → EReal) (b0 b1 b2 b3 b4 : S16384x256.Idx → EReal) (W : S2x1024x7264.Idx → EReal) (P : S2x5x256x1024.Idx → EReal) (O : S2x1024x1024.Idx → EReal)
    (i : S16384x1024.Idx) : EReal :=
  Cert.Merge.value X g b0 b1 b2 b3 b4 W P O (i 0) (i 1)

/-- The five branches' blocks at a grid point. -/
def blocks (c : Dev nD) (t : Fin cfg0.N) : Fin 5 → Vec Ideal S512x256 .bf16 :=
  ![iblk m c 2 t, iblk m c 3 t, iblk m c 4 t, iblk m c 5 t, iblk m c 6 t]

theorem merged_value (c : Dev nD) (t : Fin cfg0.N) (ht : t.val < 32) (r : Fin 512) (e : Fin 1024) :
    merged (terms (k0_pay2 (iblk m c 0 t) (iblk m c 1 t)) (blocks m c t) (iblk m c 7 t) (iblk m c 8 t)) (ix2 r e)
      = Cert.Merge.merged (Cert.Ffn.rms (fun k => X m c (ix2 ⟨t * 512 + r, by omega⟩ k)) (fun k => gains m c (ix2 1 k))) (fun n k => W m c (ix3 1 k ⟨2144 + (n * 1024 + e), by omega⟩))
        ![fun j => B0 m c (ix2 ⟨t * 512 + r, by omega⟩ j), fun j => B1 m c (ix2 ⟨t * 512 + r, by omega⟩ j), fun j => B2 m c (ix2 ⟨t * 512 + r, by omega⟩ j), fun j => B3 m c (ix2 ⟨t * 512 + r, by omega⟩ j),
          fun j => B4 m c (ix2 ⟨t * 512 + r, by omega⟩ j)] (fun n j => P m c (ix4 1 n j e)) := by
  have h0 (j : Fin 256) : blocks m c t 0 (ix2 r j) = B0 m c (ix2 ⟨t * 512 + r, by omega⟩ j) := b0_blk m c t ht r j
  have h1 (j : Fin 256) : blocks m c t 1 (ix2 r j) = B1 m c (ix2 ⟨t * 512 + r, by omega⟩ j) := b1_blk m c t ht r j
  have h2 (j : Fin 256) : blocks m c t 2 (ix2 r j) = B2 m c (ix2 ⟨t * 512 + r, by omega⟩ j) := b2_blk m c t ht r j
  have h3 (j : Fin 256) : blocks m c t 3 (ix2 r j) = B3 m c (ix2 ⟨t * 512 + r, by omega⟩ j) := b3_blk m c t ht r j
  have h4 (j : Fin 256) : blocks m c t 4 (ix2 r j) = B4 m c (ix2 ⟨t * 512 + r, by omega⟩ j) := b4_blk m c t ht r j
  rw [merged_at]
  simp only [terms_at, norm_at, x_blk m c t ht, g_blk m c t, w_blk m c t, p_blk m c t, h0, h1, h2, h3, h4]
  rfl

theorem block_value (c : Dev nD) (t : Fin cfg0.N) (ht : t.val < 32) (r : Fin 512) (d : Fin 1024) :
    k0_pay1 (iblk m c 0 t) (merged (terms (k0_pay2 (iblk m c 0 t) (iblk m c 1 t)) (blocks m c t) (iblk m c 7 t) (iblk m c 8 t))) (iblk m c 9 t) (ix2 r d)
      = Cert.Merge.value (X m c) (gains m c) (B0 m c) (B1 m c) (B2 m c) (B3 m c) (B4 m c) (W m c) (P m c) (O m c) ⟨t * 512 + r, by omega⟩ d := by
  rw [add_at]
  simp only [merged_value m c t ht, x_blk m c t ht, o_blk m c t]
  rfl

theorem final (c : Dev nD) : (dats m 0 c).arrAt 10 cfg0.N = valueArr (X m c) (gains m c) (B0 m c) (B1 m c) (B2 m c) (B3 m c) (B4 m c) (W m c) (P m c) (O m c) := by
  refine (dats m 0 c).arrAt_eq_of_covers 10 _ (by decide +kernel) fun t _ y => ?_
  blk_simp
  rw [after0_10]
  have ht : t.val < 32 := t.isLt
  idx_vars y
  have hy : (win0_10.blk t).view.emb (ix2 y0 y1) = (ix2 ⟨t * 512 + y0, by omega⟩ y1 : S16384x1024.Idx) := by
    funext a
    fin_cases a <;> apply Fin.ext <;> blk_simp [idx t]
    all_goals simp [ix2]
  rw [hy, out_eq]
  exact block_value m c t ht y0 y1

end Cert.Kernel3Ideal.Merge
-- ==== Proof.MergeReference.lean ====
/- The reference's gated merge, at one token and lane. -/
module

public import proofs.«01_k».proof.Proof.Merge
public import proofs.«01_k».proof.Proof.Gen.Reference3Ideal.Run

@[expose] public section
set_option maxRecDepth 16384
noncomputable section
open Idealize.ShloMosaic Idealize.ShloMosaic.TcCoe Idealize.SL.Sem
namespace Cert.Reference3Ideal.Merge
open Cert.Reference3Ideal Cert.Reference3Ideal.Gen

/-- The norm of every token, with layer 1's gains. -/
def norm (X : FVec Ideal S16384x1024 .f32) (g : FVec Ideal S2x1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0
    (Host.reduceAdd (mulf X X) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1
      (shapeCast S1024 (extractStridedSlice S1x1024 ![1, 0] g slices_S2x1024_S1x1024_1_0) shapeCasts_S1x1024_S1024)))

theorem norm_at (X : FVec Ideal S16384x1024 .f32) (g : FVec Ideal S2x1024 .f32) (s : Fin 16384) (d : Fin 1024) :
    norm X g (ix2 s d) = Cert.Ffn.rms (fun k => X (ix2 s k)) (fun k => g (ix2 1 k)) d := by
  pointwise [norm]
  rfl

/-- Every token's product with the projection's weight of layer 1. -/
def prod (U : FVec Ideal S16384x1024 .f32) (W : FVec Ideal S2x1024x7264 .f32) : FVec Ideal S16384x7264 .f32 :=
  Host.dotGeneral dot_S16384x1024_S1024x7264_S16384x7264_1_0_0_1_n_n none U
    (shapeCast S1024x7264 (extractStridedSlice S1x1024x7264 ![1, 0, 0] W slices_S2x1024x7264_S1x1024x7264_1_0_0) shapeCasts_S1x1024x7264_S1024x7264)

theorem prod_at (U : FVec Ideal S16384x1024 .f32) (W : FVec Ideal S2x1024x7264 .f32) (s : Fin 16384) (j : Fin 7264) :
    prod U W (ix2 s j) = Cert.Ffn.col (fun k => U (ix2 s k)) (fun k => W (ix3 1 k j)) := by
  pointwise [prod]
  rfl

/-- The five gates of every token and lane. -/
def gates (P : FVec Ideal S16384x7264 .f32) : FVec Ideal S16384x5x1024 .f32 :=
  shapeCast S16384x5x1024 (Host.divf (broadcastInDim S16384x5120 ![] bcast_S_S16384x5120 (constant S_ .f32 0x3F800000#32))
    (addf (broadcastInDim S16384x5120 ![] bcast_S_S16384x5120 (constant S_ .f32 0x3F800000#32))
      (Host.exp (Host.negf (extractStridedSlice S16384x5120 ![0, 2144] P slices_S16384x7264_S16384x5120_0_2144))))) shapeCasts_S16384x5120_S16384x5x1024

theorem gates_at (P : FVec Ideal S16384x7264 .f32) (s : Fin 16384) (n : Fin 5) (d : Fin 1024) :
    gates P (ix3 s n d) = Ideal.div 1 (1 + Ideal.exp (-P (ix2 s ⟨2144 + (n * 1024 + d), by omega⟩))) := by
  pointwise [gates]

/-- One branch's gated product. -/
def term (n : ℕ) (G : FVec Ideal S16384x5x1024 .f32) (hG : S16384x5x1024.Slices ![0, n, 0] S16384x1x1024) (B : FVec Ideal S16384x256 .f32) (P : FVec Ideal S2x5x256x1024 .f32)
    (hP : S2x5x256x1024.Slices ![1, n, 0, 0] S1x1x256x1024) : FVec Ideal S16384x1024 .f32 :=
  mulf (shapeCast S16384x1024 (extractStridedSlice S16384x1x1024 ![0, n, 0] G hG) shapeCasts_S16384x1x1024_S16384x1024)
    (Host.dotGeneral dot_S16384x256_S256x1024_S16384x1024_1_0_0_1_n_n none B
      (shapeCast S256x1024 (extractStridedSlice S1x1x256x1024 ![1, n, 0, 0] P hP) shapeCasts_S1x1x256x1024_S256x1024))

/-- The five branches' sum. -/
def merged (G : FVec Ideal S16384x5x1024 .f32) (b0 b1 b2 b3 b4 : FVec Ideal S16384x256 .f32) (P : FVec Ideal S2x5x256x1024 .f32) : FVec Ideal S16384x1024 .f32 :=
  addf (addf (addf (addf (term 0 G slices_S16384x5x1024_S16384x1x1024_0_0_0 b0 P slices_S2x5x256x1024_S1x1x256x1024_1_0_0_0)
    (term 1 G slices_S16384x5x1024_S16384x1x1024_0_1_0 b1 P slices_S2x5x256x1024_S1x1x256x1024_1_1_0_0))
    (term 2 G slices_S16384x5x1024_S16384x1x1024_0_2_0 b2 P slices_S2x5x256x1024_S1x1x256x1024_1_2_0_0))
    (term 3 G slices_S16384x5x1024_S16384x1x1024_0_3_0 b3 P slices_S2x5x256x1024_S1x1x256x1024_1_3_0_0))
    (term 4 G slices_S16384x5x1024_S16384x1x1024_0_4_0 b4 P slices_S2x5x256x1024_S1x1x256x1024_1_4_0_0)

theorem merged_at (G : FVec Ideal S16384x5x1024 .f32) (b0 b1 b2 b3 b4 : FVec Ideal S16384x256 .f32) (P : FVec Ideal S2x5x256x1024 .f32) (s : Fin 16384) (d : Fin 1024) :
    merged G b0 b1 b2 b3 b4 P (ix2 s d) = (G (ix3 s 0 d) * (∑ j : Fin 256, b0 (ix2 s j) * P (ix4 1 0 j d)) + G (ix3 s 1 d) * (∑ j : Fin 256, b1 (ix2 s j) * P (ix4 1 1 j d))
      + G (ix3 s 2 d) * (∑ j : Fin 256, b2 (ix2 s j) * P (ix4 1 2 j d)) + G (ix3 s 3 d) * (∑ j : Fin 256, b3 (ix2 s j) * P (ix4 1 3 j d))
      + G (ix3 s 4 d) * (∑ j : Fin 256, b4 (ix2 s j) * P (ix4 1 4 j d)) : EReal) := by
  pointwise [merged, term]

/-- The token plus its product with the last weight. -/
def add (X M : FVec Ideal S16384x1024 .f32) (O : FVec Ideal S2x1024x1024 .f32) : FVec Ideal S16384x1024 .f32 :=
  addf X (Host.dotGeneral dot_S16384x1024_S1024x1024_S16384x1024_1_0_0_1_n_n none M
    (shapeCast S1024x1024 (extractStridedSlice S1x1024x1024 ![1, 0, 0] O slices_S2x1024x1024_S1x1024x1024_1_0_0) shapeCasts_S1x1024x1024_S1024x1024))

theorem add_at (X M : FVec Ideal S16384x1024 .f32) (O : FVec Ideal S2x1024x1024 .f32) (s : Fin 16384) (d : Fin 1024) :
    add X M O (ix2 s d) = (X (ix2 s d) + ∑ e : Fin 1024, M (ix2 s e) * O (ix3 1 e d) : EReal) := by
  pointwise [add]

/-- The reference's result at token `s` and lane `d`. -/
theorem ref_at (X : FVec Ideal S16384x1024 .f32) (g : FVec Ideal S2x1024 .f32) (b0 b1 b2 b3 b4 : FVec Ideal S16384x256 .f32) (W : FVec Ideal S2x1024x7264 .f32) (P : FVec Ideal S2x5x256x1024 .f32)
    (O : FVec Ideal S2x1024x1024 .f32) (s : Fin 16384) (d : Fin 1024) :
    add X (merged (gates (prod (norm X g) W)) b0 b1 b2 b3 b4 P) O (ix2 s d) = Cert.Merge.value X g b0 b1 b2 b3 b4 W P O s d := by
  rw [add_at]
  simp only [merged_at, gates_at, prod_at, norm_at]
  rfl

/-- What the reference's run leaves is the spelt-out term of its arguments. -/
theorem run_eq (m : (ℓ : Loc nD τ sig) → Buf (Elt Ideal) ℓ) (c : Dev nD) :
    Value.res_out0 m c = add (m ((c.tc : Thread nD τ).loc main_arg0)) (merged (gates (prod (norm (m ((c.tc : Thread nD τ).loc main_arg0)) (m ((c.tc : Thread nD τ).loc main_arg1))) (m ((c.tc : Thread nD τ).loc main_arg7))))
      (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg8))) (m ((c.tc : Thread nD τ).loc main_arg9)) := rfl

end Cert.Reference3Ideal.Merge
-- ==== Proof.FirstBlock.lean ====
/- The first half-step's result array: each grid point's block of 512 tokens, and all of them. -/
module

public import proofs.«01_k».proof.Proof.Ffn
public import proofs.«01_k».proof.Proof.Gen.Kernel4Ideal.Value

@[expose] public section
set_option maxRecDepth 16384
noncomputable section
open Idealize.ShloMosaic Idealize.ShloMosaic.TcCoe Idealize.SL.Sem
namespace Cert.Kernel4Ideal.Ffn
open Cert.Kernel4Ideal Cert.Kernel4Ideal.Gen

/-- The product of the block's tokens with a chunk of 256 columns. -/
def gate (X : FVec Ideal S512x1024 .bf16) (a : FVec Ideal S1x1024x256 .bf16) : FVec Ideal S512x256 .f32 :=
  matmul dot_S512x1024_S1024x256_S512x256_1_0_0_1_n_n none X (shapeCast S1024x256 a shapeCasts_S1x1024x256_S1024x256) (constant S512x256 .f32 0x00000000#32)

/-- The hidden lanes of a chunk. -/
def lanes (P Q : FVec Ideal S512x256 .f32) : FVec Ideal S512x256 .bf16 :=
  truncf .bf16 (mulf (mulf P (divf (broadcast S512x256 (Scalar.ofBits .f32 0x3F800000#32)) (addf (broadcast S512x256 (Scalar.ofBits .f32 0x3F800000#32))
    (exp (subf (broadcast S512x256 (Scalar.ofBits .f32 0x00000000#32)) P))))) Q) bitsLt_bf16_f32

/-- A chunk's share of the second product. -/
def chunk (X : FVec Ideal S512x1024 .bf16) (a b : FVec Ideal S1x1024x256 .bf16) (w : FVec Ideal S1x256x1024 .bf16) : FVec Ideal S512x1024 .f32 :=
  matmul dot_S512x256_S256x1024_S512x1024_1_0_0_1_n_n none (lanes (gate X a) (gate X b)) (shapeCast S256x1024 w shapeCasts_S1x256x1024_S256x1024) (constant S512x1024 .f32 0x00000000#32)

theorem gate_at (X : FVec Ideal S512x1024 .bf16) (a : FVec Ideal S1x1024x256 .bf16) (r : Fin 512) (j : Fin 256) :
    gate X a (ix2 r j) = Cert.Ffn.col (fun k => X (ix2 r k)) (fun k => a (ix3 0 k j)) := by
  pointwise [gate]
  rfl

theorem lanes_at (P Q : FVec Ideal S512x256 .f32) (r : Fin 512) (j : Fin 256) :
    lanes P Q (ix2 r j) = (P (ix2 r j) * Ideal.div 1 (1 + Ideal.exp (-P (ix2 r j))) * Q (ix2 r j) : EReal) := by
  pointwise [lanes]
  rw [zero_sub]

theorem chunk_at (X : FVec Ideal S512x1024 .bf16) (a b : FVec Ideal S1x1024x256 .bf16) (w : FVec Ideal S1x256x1024 .bf16) (r : Fin 512) (d : Fin 1024) :
    chunk X a b w (ix2 r d) = ∑ j : Fin 256, (Cert.Ffn.hidden (fun k => X (ix2 r k)) (fun k => a (ix3 0 k j)) (fun k => b (ix3 0 k j)) * w (ix3 0 j d) : EReal) := by
  pointwise [chunk]
  simp only [lanes_at, gate_at]
  rfl

theorem norm_at (x : Vec Ideal S512x1024 .f32) (g : Vec Ideal S1x1x1024 .f32) (r : Fin 512) (d : Fin 1024) :
    k0_pay1 x g (ix2 r d) = Cert.Ffn.rms (fun k => x (ix2 r k)) (fun k => g (ix3 0 0 k)) d := by
  pointwise [k0_pay1]
  rfl

/-- The block's tokens after the half-step, from eleven chunks. -/
def step (x0 : Vec Ideal S512x1024 .f32) (s : Fin 11 → FVec Ideal S512x1024 .f32) : FVec Ideal S512x1024 .f32 :=
  addf x0 (mulf (broadcast S512x1024 (Scalar.ofBits .f32 0x3F000000#32))
    (addf (addf (addf (addf (addf (addf (addf (addf (addf (addf (addf (broadcast S512x1024 (Scalar.ofBits .f32 0x00000000#32)) (s 0)) (s 1)) (s 2)) (s 3)) (s 4)) (s 5)) (s 6)) (s 7)) (s 8)) (s 9)) (s 10)))

theorem step_at (x0 : Vec Ideal S512x1024 .f32) (s : Fin 11 → FVec Ideal S512x1024 .f32) (r : Fin 512) (d : Fin 1024) :
    step x0 s (ix2 r d) = (x0 (ix2 r d) + Ideal.ofBits .f32 0x3F000000#32 * (0 + s 0 (ix2 r d) + s 1 (ix2 r d) + s 2 (ix2 r d) + s 3 (ix2 r d) + s 4 (ix2 r d) + s 5 (ix2 r d)
      + s 6 (ix2 r d) + s 7 (ix2 r d) + s 8 (ix2 r d) + s 9 (ix2 r d) + s 10 (ix2 r d)) : EReal) := by
  pointwise [step]

/-- The chunks that the body loads: columns and rows `256 c` to `256 c + 255` of the weights. -/
def chunks (X : FVec Ideal S512x1024 .bf16) (x2 x3 : Vec Ideal S1x1024x2816 .bf16) (x4 : Vec Ideal S1x2816x1024 .bf16) : Fin 11 → FVec Ideal S512x1024 .f32 :=
  ![chunk X (View.ld x2 r0_2) (View.ld x3 r0_2) (View.ld x4 r0_3), chunk X (View.ld x2 r0_4) (View.ld x3 r0_4) (View.ld x4 r0_5),
    chunk X (View.ld x2 r0_6) (View.ld x3 r0_6) (View.ld x4 r0_7), chunk X (View.ld x2 r0_8) (View.ld x3 r0_8) (View.ld x4 r0_9),
    chunk X (View.ld x2 r0_10) (View.ld x3 r0_10) (View.ld x4 r0_11), chunk X (View.ld x2 r0_12) (View.ld x3 r0_12) (View.ld x4 r0_13),
    chunk X (View.ld x2 r0_14) (View.ld x3 r0_14) (View.ld x4 r0_15), chunk X (View.ld x2 r0_16) (View.ld x3 r0_16) (View.ld x4 r0_17),
    chunk X (View.ld x2 r0_18) (View.ld x3 r0_18) (View.ld x4 r0_19), chunk X (View.ld x2 r0_20) (View.ld x3 r0_20) (View.ld x4 r0_21),
    chunk X (View.ld x2 r0_22) (View.ld x3 r0_22) (View.ld x4 r0_23)]

theorem chunks_at (X : FVec Ideal S512x1024 .bf16) (x2 x3 : Vec Ideal S1x1024x2816 .bf16) (x4 : Vec Ideal S1x2816x1024 .bf16) (c : Fin 11) (r : Fin 512) (d : Fin 1024) :
    chunks X x2 x3 x4 c (ix2 r d) = ∑ j : Fin 256, (Cert.Ffn.hidden (fun k => X (ix2 r k)) (fun k => x2 (ix3 0 k ⟨256 * c + j, by omega⟩)) (fun k => x3 (ix3 0 k ⟨256 * c + j, by omega⟩))
      * x4 (ix3 0 ⟨256 * c + j, by omega⟩ d) : EReal) := by
  fin_cases c
  all_goals refine (chunk_at X _ _ _ r d).trans (Finset.sum_congr rfl fun j _ => ?_)
  all_goals pointwise
  all_goals rfl

theorem out_eq (x0 : Vec Ideal S512x1024 .f32) (x1 : Vec Ideal S1x1x1024 .f32) (x2 x3 : Vec Ideal S1x1024x2816 .bf16) (x4 : Vec Ideal S1x2816x1024 .bf16) :
    out0_5 x0 x1 x2 x3 x4 = step x0 (chunks (k0_pay1 x0 x1) x2 x3 x4) := by
  unfold_out out0_5
  rw [View.canon_unit_zero (by decide)]
  have h0 : View.ld x0 r0_0 = x0 := View.ld_unit_lit _ _ (by decide)
  have h1 : View.ld x1 r0_1 = x1 := View.ld_unit_lit _ _ (by decide)
  rw [h0, h1]
  rfl

variable (m : (ℓ : Loc nD τ sig) → Buf (Elt Ideal) ℓ)

abbrev X (c : Dev nD) : S16384x1024.Idx → EReal := m ((c : Thread nD τ).loc main_arg0)
abbrev gains (c : Dev nD) : S2x1024.Idx → EReal := m ((c : Thread nD τ).loc main_arg1)
abbrev WG (c : Dev nD) : S2x1024x2816.Idx → EReal := m ((c : Thread nD τ).loc main_arg2)
abbrev WU (c : Dev nD) : S2x1024x2816.Idx → EReal := m ((c : Thread nD τ).loc main_arg3)
abbrev WD (c : Dev nD) : S2x2816x1024.Idx → EReal := m ((c : Thread nD τ).loc main_arg4)

theorem gains_at (c : Dev nD) (l : Fin 2) (d : Fin 1024) : V m c main_v0 (ix3 l 0 d) = gains m c (ix2 l d) := by
  dsimp only [V, hostOps0]
  entry_read
  pointwise

theorem wg_at (c : Dev nD) (i : S2x1024x2816.Idx) : V m c main_v1 i = WG m c i := by
  dsimp only [V, hostOps0]
  entry_read
  pointwise

theorem wu_at (c : Dev nD) (i : S2x1024x2816.Idx) : V m c main_v2 i = WU m c i := by
  dsimp only [V, hostOps0]
  entry_read
  pointwise

theorem wd_at (c : Dev nD) (i : S2x2816x1024.Idx) : V m c main_v3 i = WD m c i := by
  dsimp only [V, hostOps0]
  entry_read
  pointwise

theorem idx : ∀ t : Fin cfg0.N, win0_0.index t = ![t.val, 0] ∧ win0_1.index t = ![0, 0, 0] ∧ win0_2.index t = ![0, 0, 0] ∧ win0_3.index t = ![0, 0, 0]
    ∧ win0_4.index t = ![0, 0, 0] ∧ win0_5.index t = ![t.val, 0] :=
  (by decide +kernel : ∀ t : Fin grid0.N, _)

theorem x_emb (t : Fin cfg0.N) (ht : t.val < 32) (r : Fin 512) (d : Fin 1024) : (win0_0.blk t).view.emb (ix2 r d) = (ix2 ⟨t * 512 + r, by omega⟩ d : S16384x1024.Idx) := by
  funext a
  fin_cases a <;> apply Fin.ext <;> blk_simp [idx t]
  all_goals simp [ix2]
theorem x_blk (c : Dev nD) (t : Fin cfg0.N) (ht : t.val < 32) (r : Fin 512) (d : Fin 1024) : (iblk m c 0 t : S512x1024.Idx → EReal) (ix2 r d) = X m c (ix2 ⟨t * 512 + r, by omega⟩ d) := by
  have h : X m c = V m c main_arg0 := (V_main_arg0 m c).symm
  rw [h, ← x_emb t ht r d]
  unfold iblk
  exact (View.read_apply _ _).trans (cast_eq _ _)

theorem g_emb (t : Fin cfg0.N) (d : Fin 1024) : (win0_1.blk t).view.emb (ix3 0 0 d) = (ix3 0 0 d : S2x1x1024.Idx) := by
  funext a
  fin_cases a <;> apply Fin.ext <;> blk_simp [idx t]
  all_goals simp [ix3]
theorem g_blk (c : Dev nD) (t : Fin cfg0.N) (d : Fin 1024) : (iblk m c 1 t : S1x1x1024.Idx → EReal) (ix3 0 0 d) = gains m c (ix2 0 d) := by
  rw [← gains_at m c, ← g_emb t d]
  unfold iblk
  exact (View.read_apply _ _).trans (cast_eq _ _)

theorem wg_emb (t : Fin cfg0.N) (k : Fin 1024) (j : Fin 2816) : (win0_2.blk t).view.emb (ix3 0 k j) = (ix3 0 k j : S2x1024x2816.Idx) := by
  funext a
  fin_cases a <;> apply Fin.ext <;> blk_simp [idx t]
  all_goals simp [ix3]
theorem wg_blk (c : Dev nD) (t : Fin cfg0.N) (k : Fin 1024) (j : Fin 2816) : (iblk m c 2 t : S1x1024x2816.Idx → EReal) (ix3 0 k j) = WG m c (ix3 0 k j) := by
  rw [← wg_at m c, ← wg_emb t k j]
  unfold iblk
  exact (View.read_apply _ _).trans (cast_eq _ _)

theorem wu_emb (t : Fin cfg0.N) (k : Fin 1024) (j : Fin 2816) : (win0_3.blk t).view.emb (ix3 0 k j) = (ix3 0 k j : S2x1024x2816.Idx) := by
  funext a
  fin_cases a <;> apply Fin.ext <;> blk_simp [idx t]
  all_goals simp [ix3]
theorem wu_blk (c : Dev nD) (t : Fin cfg0.N) (k : Fin 1024) (j : Fin 2816) : (iblk m c 3 t : S1x1024x2816.Idx → EReal) (ix3 0 k j) = WU m c (ix3 0 k j) := by
  rw [← wu_at m c, ← wu_emb t k j]
  unfold iblk
  exact (View.read_apply _ _).trans (cast_eq _ _)

theorem wd_emb (t : Fin cfg0.N) (j : Fin 2816) (d : Fin 1024) : (win0_4.blk t).view.emb (ix3 0 j d) = (ix3 0 j d : S2x2816x1024.Idx) := by
  funext a
  fin_cases a <;> apply Fin.ext <;> blk_simp [idx t]
  all_goals simp [ix3]
theorem wd_blk (c : Dev nD) (t : Fin cfg0.N) (j : Fin 2816) (d : Fin 1024) : (iblk m c 4 t : S1x2816x1024.Idx → EReal) (ix3 0 j d) = WD m c (ix3 0 j d) := by
  rw [← wd_at m c, ← wd_emb t j d]
  unfold iblk
  exact (View.read_apply _ _).trans (cast_eq _ _)

/-- The value at token `s` and lane `d`: the half-step with layer 0's weights. -/
def value (X : S16384x1024.Idx → EReal) (g : S2x1024.Idx → EReal) (G U : S2x1024x2816.Idx → EReal) (D : S2x2816x1024.Idx → EReal) (s : Fin 16384) (d : Fin 1024) : EReal :=
  Cert.Ffn.half (fun k => X (ix2 s k)) (fun k => g (ix2 0 k)) (fun k j => G (ix3 0 k j)) (fun k j => U (ix3 0 k j)) (fun j d => D (ix3 0 j d)) d

def valueArr (X : S16384x1024.Idx → EReal) (g : S2x1024.Idx → EReal) (G U : S2x1024x2816.Idx → EReal) (D : S2x2816x1024.Idx → EReal) (i : S16384x1024.Idx) : EReal :=
  value X g G U D (i 0) (i 1)

theorem step_value (c : Dev nD) (t : Fin cfg0.N) (ht : t.val < 32) (r : Fin 512) (d : Fin 1024) :
    step (iblk m c 0 t) (chunks (k0_pay1 (iblk m c 0 t) (iblk m c 1 t)) (iblk m c 2 t) (iblk m c 3 t) (iblk m c 4 t)) (ix2 r d)
      = Cert.Ffn.half (fun k => X m c (ix2 ⟨t * 512 + r, by omega⟩ k)) (fun k => gains m c (ix2 0 k)) (fun k j => WG m c (ix3 0 k j)) (fun k j => WU m c (ix3 0 k j)) (fun j d => WD m c (ix3 0 j d)) d := by
  rw [step_at, Cert.Ffn.sum_chunks (fun j => Cert.Ffn.hidden (fun k => k0_pay1 (iblk m c 0 t) (iblk m c 1 t) (ix2 r k)) (fun k => (iblk m c 2 t : S1x1024x2816.Idx → EReal) (ix3 0 k j))
    (fun k => (iblk m c 3 t : S1x1024x2816.Idx → EReal) (ix3 0 k j)) * (iblk m c 4 t : S1x2816x1024.Idx → EReal) (ix3 0 j d))
    (fun i => chunks (k0_pay1 (iblk m c 0 t) (iblk m c 1 t)) (iblk m c 2 t) (iblk m c 3 t) (iblk m c 4 t) i (ix2 r d)) (fun i => chunks_at _ _ _ _ i r d)]
  simp only [norm_at, wg_blk m c t, wu_blk m c t, wd_blk m c t, x_blk m c t ht, g_blk m c t]
  rfl

theorem final (c : Dev nD) : (dats m 0 c).arrAt 5 cfg0.N = valueArr (X m c) (gains m c) (WG m c) (WU m c) (WD m c) := by
  refine (dats m 0 c).arrAt_eq_of_covers 5 _ (by decide +kernel) fun t _ y => ?_
  blk_simp
  rw [after0_5]
  have ht : t.val < 32 := t.isLt
  idx_vars y
  have hy : (win0_5.blk t).view.emb (ix2 y0 y1) = (ix2 ⟨t * 512 + y0, by omega⟩ y1 : S16384x1024.Idx) := by
    funext a
    fin_cases a <;> apply Fin.ext <;> blk_simp [idx t]
    all_goals simp [ix2]
  rw [hy, out_eq]
  exact step_value m c t ht y0 y1

end Cert.Kernel4Ideal.Ffn
-- ==== Proof.FirstReference.lean ====
/- The reference's first feed-forward half-step, at one token and lane. -/
module

public import proofs.«01_k».proof.Proof.Ffn
public import proofs.«01_k».proof.Proof.Gen.Reference4Ideal.Run

@[expose] public section
set_option maxRecDepth 16384
noncomputable section
open Idealize.ShloMosaic Idealize.ShloMosaic.TcCoe Idealize.SL.Sem
namespace Cert.Reference4Ideal.Ffn
open Cert.Reference4Ideal Cert.Reference4Ideal.Gen

/-- The norm of every token. -/
def norm (X : FVec Ideal S16384x1024 .f32) (g : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0
    (Host.reduceAdd (mulf X X) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem norm_at (X : FVec Ideal S16384x1024 .f32) (g : FVec Ideal S1024 .f32) (s : Fin 16384) (d : Fin 1024) :
    norm X g (ix2 s d) = Cert.Ffn.rms (fun k => X (ix2 s k)) (fun k => g (ix1 k)) d := by
  pointwise [norm]
  rfl

/-- Every token's product with a weight of layer 0. -/
def prod (X : FVec Ideal S16384x1024 .f32) (W : FVec Ideal S2x1024x2816 .f32) : FVec Ideal S16384x2816 .f32 :=
  Host.dotGeneral dot_S16384x1024_S1024x2816_S16384x2816_1_0_0_1_n_n none X
    (shapeCast S1024x2816 (extractStridedSlice S1x1024x2816 ![0, 0, 0] W slices_S2x1024x2816_S1x1024x2816_0_0_0) shapeCasts_S1x1024x2816_S1024x2816)

theorem prod_at (X : FVec Ideal S16384x1024 .f32) (W : FVec Ideal S2x1024x2816 .f32) (s : Fin 16384) (j : Fin 2816) :
    prod X W (ix2 s j) = Cert.Ffn.col (fun k => X (ix2 s k)) (fun k => W (ix3 0 k j)) := by
  pointwise [prod]
  rfl

/-- The gate of every hidden lane. -/
def lanes (P Q : FVec Ideal S16384x2816 .f32) : FVec Ideal S16384x2816 .f32 :=
  mulf (mulf P (Host.divf (broadcastInDim S16384x2816 ![] bcast_S_S16384x2816 (constant S_ .f32 0x3F800000#32))
    (addf (broadcastInDim S16384x2816 ![] bcast_S_S16384x2816 (constant S_ .f32 0x3F800000#32)) (Host.exp (Host.negf P))))) Q

theorem lanes_at (P Q : FVec Ideal S16384x2816 .f32) (s : Fin 16384) (j : Fin 2816) :
    lanes P Q (ix2 s j) = (P (ix2 s j) * Ideal.div 1 (1 + Ideal.exp (-P (ix2 s j))) * Q (ix2 s j) : EReal) := by
  pointwise [lanes]

/-- The token plus half of the product with the second weight. -/
def add (X : FVec Ideal S16384x1024 .f32) (A : FVec Ideal S16384x2816 .f32) (W : FVec Ideal S2x2816x1024 .f32) : FVec Ideal S16384x1024 .f32 :=
  addf X (mulf (broadcastInDim S16384x1024 ![] bcast_S_S16384x1024 (constant S_ .f32 0x3F000000#32)) (Host.dotGeneral dot_S16384x2816_S2816x1024_S16384x1024_1_0_0_1_n_n none A
    (shapeCast S2816x1024 (extractStridedSlice S1x2816x1024 ![0, 0, 0] W slices_S2x2816x1024_S1x2816x1024_0_0_0) shapeCasts_S1x2816x1024_S2816x1024)))

theorem add_at (X : FVec Ideal S16384x1024 .f32) (A : FVec Ideal S16384x2816 .f32) (W : FVec Ideal S2x2816x1024 .f32) (s : Fin 16384) (d : Fin 1024) :
    add X A W (ix2 s d) = (X (ix2 s d) + Ideal.ofBits .f32 0x3F000000#32 * ∑ j : Fin 2816, A (ix2 s j) * W (ix3 0 j d) : EReal) := by
  pointwise [add]

def gain (g : FVec Ideal S2x1024 .f32) : FVec Ideal S1024 .f32 :=
  shapeCast S1024 (extractStridedSlice S1x1024 ![0, 0] g slices_S2x1024_S1x1024_0_0) shapeCasts_S1x1024_S1024

theorem gain_at (g : FVec Ideal S2x1024 .f32) (d : Fin 1024) : gain g (ix1 d) = g (ix2 0 d) := by
  pointwise [gain]

def step (X : FVec Ideal S16384x1024 .f32) (g : FVec Ideal S2x1024 .f32) (G U : FVec Ideal S2x1024x2816 .f32) (D : FVec Ideal S2x2816x1024 .f32) : FVec Ideal S16384x1024 .f32 :=
  add X (lanes (prod (norm X (gain g)) G) (prod (norm X (gain g)) U)) D

theorem step_at (X : FVec Ideal S16384x1024 .f32) (g : FVec Ideal S2x1024 .f32) (G U : FVec Ideal S2x1024x2816 .f32) (D : FVec Ideal S2x2816x1024 .f32) (s : Fin 16384) (d : Fin 1024) :
    step X g G U D (ix2 s d) = Cert.Ffn.half (fun k => X (ix2 s k)) (fun k => g (ix2 0 k)) (fun k j => G (ix3 0 k j)) (fun k j => U (ix3 0 k j)) (fun j d => D (ix3 0 j d)) d := by
  unfold step
  rw [add_at]
  simp only [lanes_at, prod_at, norm_at, gain_at]
  rfl

end Cert.Reference4Ideal.Ffn
-- ==== Proof.Input.lean ====
/- The input projection at one token and column, and the columns that the sliding-window attention reads. -/
module

public import proofs.«01_k».proof.Proof.Ffn

@[expose] public section
set_option maxRecDepth 16384
noncomputable section
open Idealize.ShloMosaic Idealize.ShloMosaic.TcCoe Idealize.SL.Sem
namespace Cert.Input

/-- The normed token's product with column `j` of layer 1's projection. -/
def proj (X : (⟨2, ![16384, 1024]⟩ : Shape).Idx → EReal) (g : (⟨2, ![2, 1024]⟩ : Shape).Idx → EReal) (W : (⟨3, ![2, 1024, 7264]⟩ : Shape).Idx → EReal) (s : Fin 16384) (j : Fin 7264) : EReal :=
  Cert.Ffn.col (Cert.Ffn.rms (fun k => X (ix2 s k)) (fun k => g (ix2 1 k))) (fun k => W (ix3 1 k j))

/-- The projection's column that lane `j` of the sliding-window operand holds: the keys and values of the two key heads once per query head, then the queries. -/
def lane (j : Fin 768) : Fin 7264 :=
  if j.val < 256 then ⟨512 + (j / 128 * 64 + j % 64), by omega⟩
  else if j.val < 512 then ⟨640 + ((j - 256) / 128 * 64 + (j - 256) % 64), by omega⟩ else ⟨j - 256, by omega⟩

/-- What holds of the keys', the values' and the queries' lanes holds of every lane. -/
theorem lanes (P : Fin 768 → Fin 7264 → Prop) (h0 : ∀ j : Fin 256, P ⟨j, by omega⟩ ⟨512 + (j / 128 * 64 + j % 64), by omega⟩)
    (h1 : ∀ j : Fin 256, P ⟨256 + j, by omega⟩ ⟨640 + (j / 128 * 64 + j % 64), by omega⟩) (h2 : ∀ j : Fin 256, P ⟨512 + j, by omega⟩ ⟨256 + j, by omega⟩) (j : Fin 768) : P j (lane j) := by
  by_cases a : j.val < 256
  · have e : lane j = ⟨512 + (j / 128 * 64 + j % 64), by omega⟩ := by unfold lane; rw [if_pos a]
    rw [e]
    exact h0 ⟨j, a⟩
  · by_cases b : j.val < 512
    · have e : lane j = ⟨640 + ((j - 256) / 128 * 64 + (j - 256) % 64), by omega⟩ := by unfold lane; rw [if_neg a, if_pos b]
      rw [e]
      have h := h1 ⟨j - 256, by omega⟩
      have e' : (⟨256 + (j.val - 256), by omega⟩ : Fin 768) = j := Fin.ext (Nat.add_sub_cancel' (by omega))
      exact (congrArg (fun i => P i _) e').mp h
    · have e : lane j = ⟨j - 256, by omega⟩ := by unfold lane; rw [if_neg a, if_neg b]
      rw [e]
      have h := h2 ⟨j - 512, by omega⟩
      have e' : (⟨512 + (j.val - 512), by omega⟩ : Fin 768) = j := Fin.ext (Nat.add_sub_cancel' (by omega))
      have e'' : (⟨256 + (j.val - 512), by omega⟩ : Fin 7264) = ⟨j - 256, by omega⟩ := Fin.ext (show 256 + (j.val - 512) = j.val - 256 by omega)
      exact (congrArg₂ P e' e'').mp h

end Cert.Input
-- ==== Proof.InputWeights.lean ====
/- The projection kernel's operands: the gains and the columns of the packed weight, as entries of its arguments. -/
module

public import proofs.«01_k».proof.Proof.Input
public import proofs.«01_k».proof.Proof.Gen.Kernel5Ideal.Value

@[expose] public section
set_option maxRecDepth 16384
noncomputable section
open Idealize.ShloMosaic Idealize.ShloMosaic.TcCoe Idealize.SL.Sem
namespace Cert.Kernel5Ideal.Input
open Cert.Kernel5Ideal Cert.Kernel5Ideal.Gen

variable (m : (ℓ : Loc nD τ sig) → Buf (Elt Ideal) ℓ)

abbrev X (c : Dev nD) : S16384x1024.Idx → EReal := m ((c : Thread nD τ).loc main_arg0)
abbrev gains (c : Dev nD) : S2x1024.Idx → EReal := m ((c : Thread nD τ).loc main_arg1)
abbrev W (c : Dev nD) : S2x1024x7264.Idx → EReal := m ((c : Thread nD τ).loc main_arg2)

theorem after_append (l k : List (HloOp τ sig (Elt Ideal))) (G : Valuation τ sig (Elt Ideal)) : StableHlo.after (l ++ k) G = StableHlo.after k (StableHlo.after l G) := by
  induction l generalizing G with
  | nil => rfl
  | cons o l ih => exact ih _

/-- The buffers once the packed weight's pieces are cut. -/
def pieces (c : Dev nD) : Valuation τ sig (Elt Ideal) := StableHlo.after (List.take 62 hostOps0) (fun b => m (c, b))

/-- The packed weight, from its pieces. -/
def pack (G : Valuation τ sig (Elt Ideal)) : FVec Ideal S2x1024x2432 .bf16 :=
  truncf .bf16 (concatenate S2x1024x2432 2 [⟨S2x1024x256, (G main_v46 : FVec Ideal S2x1024x256 .f32)⟩, ⟨S2x1024x256, (G main_v49 : FVec Ideal S2x1024x256 .f32)⟩, ⟨S2x1024x256, (G main_v20 : FVec Ideal S2x1024x256 .f32)⟩,
    ⟨S2x1024x256, (G main_v23 : FVec Ideal S2x1024x256 .f32)⟩, ⟨S2x1024x256, (G main_v24 : FVec Ideal S2x1024x256 .f32)⟩, ⟨S2x1024x256, (G main_v25 : FVec Ideal S2x1024x256 .f32)⟩, ⟨S2x1024x256, (G main_v29 : FVec Ideal S2x1024x256 .f32)⟩,
    ⟨S2x1024x192, (G main_v26 : FVec Ideal S2x1024x192 .f32)⟩, ⟨S2x1024x64, (G main_v51 : FVec Ideal S2x1024x64 .f32)⟩, ⟨S2x1024x128, (G main_v27 : FVec Ideal S2x1024x128 .f32)⟩, ⟨S2x1024x128, (G main_v37 : FVec Ideal S2x1024x128 .f32)⟩,
    ⟨S2x1024x128, (G main_v43 : FVec Ideal S2x1024x128 .f32)⟩] concatenates_S2x1024x256_S2x1024x256_S2x1024x256_S2x1024x256_S2x1024x256_S2x1024x256_S2x1024x256_S2x1024x192_S2x1024x64_S2x1024x128_S2x1024x128_S2x1024x128_S2x1024x2432_d2) bitsLt_bf16_f32

theorem pack_eq (c : Dev nD) : V m c main_v55 = pack (pieces m c) := by
  have h : V m c main_v55 = StableHlo.after (List.drop 62 hostOps0 ++ (hostOps0_1 ++ (hostOps0_2 ++ (hostOps0_3 ++ hostOps0_4)))) (pieces m c) main_v55 := by
    unfold pieces
    rw [← after_append, ← List.append_assoc, List.take_append_drop]
    simp only [V, List.flatten_cons, List.flatten_nil, List.append_nil]
  rw [h]
  generalize pieces m c = G
  simp only [hostOps0, hostOps0_1, hostOps0_2, hostOps0_3, hostOps0_4, List.drop_succ_cons, List.drop_zero, List.append_nil, List.cons_append, List.nil_append]
  after_results
  rfl

theorem v20_eq (c : Dev nD) : pieces m c main_v20 = extractStridedSlice S2x1024x256 ![0, 0, 256] (W m c : FVec Ideal S2x1024x7264 .f32) slices_S2x1024x7264_S2x1024x256_0_0_256 := by
  unfold pieces
  simp only [hostOps0, List.take_succ_cons, List.take_zero]
  after_results

theorem v23_eq (c : Dev nD) : pieces m c main_v23 = extractStridedSlice S2x1024x256 ![0, 0, 768] (W m c : FVec Ideal S2x1024x7264 .f32) slices_S2x1024x7264_S2x1024x256_0_0_768 := by
  unfold pieces
  simp only [hostOps0, List.take_succ_cons, List.take_zero]
  after_results

theorem v24_eq (c : Dev nD) : pieces m c main_v24 = extractStridedSlice S2x1024x256 ![0, 0, 1024] (W m c : FVec Ideal S2x1024x7264 .f32) slices_S2x1024x7264_S2x1024x256_0_0_1024 := by
  unfold pieces
  simp only [hostOps0, List.take_succ_cons, List.take_zero]
  after_results

theorem v25_eq (c : Dev nD) : pieces m c main_v25 = extractStridedSlice S2x1024x256 ![0, 0, 1280] (W m c : FVec Ideal S2x1024x7264 .f32) slices_S2x1024x7264_S2x1024x256_0_0_1280 := by
  unfold pieces
  simp only [hostOps0, List.take_succ_cons, List.take_zero]
  after_results

theorem v29_eq (c : Dev nD) : pieces m c main_v29 = extractStridedSlice S2x1024x256 ![0, 0, 1888] (W m c : FVec Ideal S2x1024x7264 .f32) slices_S2x1024x7264_S2x1024x256_0_0_1888 := by
  unfold pieces
  simp only [hostOps0, List.take_succ_cons, List.take_zero]
  after_results

/-- Two heads' columns, each twice. -/
def twice (h : FVec Ideal S2x1024x128 .f32) : FVec Ideal S2x1024x256 .f32 :=
  concatenate S2x1024x256 2 [⟨S2x1024x64, extractStridedSlice S2x1024x64 ![0, 0, 0] h slices_S2x1024x128_S2x1024x64_0_0_0⟩, ⟨S2x1024x64, extractStridedSlice S2x1024x64 ![0, 0, 0] h slices_S2x1024x128_S2x1024x64_0_0_0⟩,
    ⟨S2x1024x64, extractStridedSlice S2x1024x64 ![0, 0, 64] h slices_S2x1024x128_S2x1024x64_0_0_64⟩, ⟨S2x1024x64, extractStridedSlice S2x1024x64 ![0, 0, 64] h slices_S2x1024x128_S2x1024x64_0_0_64⟩] concatenates_S2x1024x64_S2x1024x64_S2x1024x64_S2x1024x64_S2x1024x256_d2

theorem v46_eq (c : Dev nD) : pieces m c main_v46 = twice (extractStridedSlice S2x1024x128 ![0, 0, 512] (W m c : FVec Ideal S2x1024x7264 .f32) slices_S2x1024x7264_S2x1024x128_0_0_512) := by
  unfold pieces
  simp only [hostOps0, List.take_succ_cons, List.take_zero]
  after_results
  rfl

theorem v49_eq (c : Dev nD) : pieces m c main_v49 = twice (extractStridedSlice S2x1024x128 ![0, 0, 640] (W m c : FVec Ideal S2x1024x7264 .f32) slices_S2x1024x7264_S2x1024x128_0_0_640) := by
  unfold pieces
  simp only [hostOps0, List.take_succ_cons, List.take_zero]
  after_results
  rfl

theorem twice_at (h : FVec Ideal S2x1024x128 .f32) (l : Fin 2) (k : Fin 1024) (j : Fin 256) : twice h (ix3 l k j) = h (ix3 l k ⟨j / 128 * 64 + j % 64, by omega⟩) := by
  pointwise [twice]
  split_ifs
  all_goals refine congrArg (fun j => h (ix3 l k j)) (Fin.ext ?_)
  all_goals dsimp only
  all_goals omega

theorem cut_at (h : FVec Ideal S2x1024x7264 .f32) (o : ℕ) (hs : S2x1024x7264.Slices ![0, 0, o] S2x1024x256) (ho : o + 256 ≤ 7264) (l : Fin 2) (k : Fin 1024) (j : Fin 256) :
    extractStridedSlice S2x1024x256 ![0, 0, o] h hs (ix3 l k j) = h (ix3 l k ⟨o + j, by omega⟩) := by
  pointwise

theorem heads_at (h : FVec Ideal S2x1024x7264 .f32) (o : ℕ) (hs : S2x1024x7264.Slices ![0, 0, o] S2x1024x128) (ho : o + 128 ≤ 7264) (l : Fin 2) (k : Fin 1024) (j : Fin 128) :
    extractStridedSlice S2x1024x128 ![0, 0, o] h hs (ix3 l k j) = h (ix3 l k ⟨o + j, by omega⟩) := by
  pointwise

theorem pack_v46 (G : Valuation τ sig (Elt Ideal)) (l : Fin 2) (k : Fin 1024) (j : Fin 256) : pack G (ix3 l k ⟨j, by omega⟩) = (G main_v46 : FVec Ideal S2x1024x256 .f32) (ix3 l k j) := by
  pointwise [pack]

theorem pack_v49 (G : Valuation τ sig (Elt Ideal)) (l : Fin 2) (k : Fin 1024) (j : Fin 256) : pack G (ix3 l k ⟨256 + j, by omega⟩) = (G main_v49 : FVec Ideal S2x1024x256 .f32) (ix3 l k j) := by
  pointwise [pack]

theorem pack_v20 (G : Valuation τ sig (Elt Ideal)) (l : Fin 2) (k : Fin 1024) (j : Fin 256) : pack G (ix3 l k ⟨512 + j, by omega⟩) = (G main_v20 : FVec Ideal S2x1024x256 .f32) (ix3 l k j) := by
  pointwise [pack]
  rw [dif_neg (by omega), dif_neg (by omega), dif_pos (by omega)]
  exact congrArg (fun j => (G main_v20 : FVec Ideal S2x1024x256 .f32) (ix3 l k j)) (Fin.ext (show 512 + j.val - 256 - 256 = j.val by omega))

theorem pack_v23 (G : Valuation τ sig (Elt Ideal)) (l : Fin 2) (k : Fin 1024) (j : Fin 256) : pack G (ix3 l k ⟨768 + j, by omega⟩) = (G main_v23 : FVec Ideal S2x1024x256 .f32) (ix3 l k j) := by
  pointwise [pack]
  rw [dif_neg (by omega), dif_neg (by omega), dif_neg (by omega), dif_pos (by omega)]
  exact congrArg (fun j => (G main_v23 : FVec Ideal S2x1024x256 .f32) (ix3 l k j)) (Fin.ext (show 768 + j.val - 256 - 256 - 256 = j.val by omega))

theorem pack_v24 (G : Valuation τ sig (Elt Ideal)) (l : Fin 2) (k : Fin 1024) (j : Fin 256) : pack G (ix3 l k ⟨1024 + j, by omega⟩) = (G main_v24 : FVec Ideal S2x1024x256 .f32) (ix3 l k j) := by
  pointwise [pack]
  rw [dif_neg (by omega), dif_neg (by omega), dif_neg (by omega), dif_neg (by omega), dif_pos (by omega)]
  exact congrArg (fun j => (G main_v24 : FVec Ideal S2x1024x256 .f32) (ix3 l k j)) (Fin.ext (show 1024 + j.val - 256 - 256 - 256 - 256 = j.val by omega))

theorem pack_v25 (G : Valuation τ sig (Elt Ideal)) (l : Fin 2) (k : Fin 1024) (j : Fin 256) : pack G (ix3 l k ⟨1280 + j, by omega⟩) = (G main_v25 : FVec Ideal S2x1024x256 .f32) (ix3 l k j) := by
  pointwise [pack]
  rw [dif_neg (by omega), dif_neg (by omega), dif_neg (by omega), dif_neg (by omega), dif_neg (by omega), dif_pos (by omega)]
  exact congrArg (fun j => (G main_v25 : FVec Ideal S2x1024x256 .f32) (ix3 l k j)) (Fin.ext (show 1280 + j.val - 256 - 256 - 256 - 256 - 256 = j.val by omega))

theorem pack_v29 (G : Valuation τ sig (Elt Ideal)) (l : Fin 2) (k : Fin 1024) (j : Fin 256) : pack G (ix3 l k ⟨1536 + j, by omega⟩) = (G main_v29 : FVec Ideal S2x1024x256 .f32) (ix3 l k j) := by
  pointwise [pack]
  rw [dif_neg (by omega), dif_neg (by omega), dif_neg (by omega), dif_neg (by omega), dif_neg (by omega), dif_neg (by omega), dif_pos (by omega)]
  exact congrArg (fun j => (G main_v29 : FVec Ideal S2x1024x256 .f32) (ix3 l k j)) (Fin.ext (show 1536 + j.val - 256 - 256 - 256 - 256 - 256 - 256 = j.val by omega))

theorem gains_at (c : Dev nD) (l : Fin 2) (d : Fin 1024) : V m c main_v137 (ix3 l 0 d) = gains m c (ix2 l d) := by
  simp only [V, hostOps0, hostOps0_1, hostOps0_2, hostOps0_3, hostOps0_4, List.flatten_cons, List.flatten_nil, List.append_nil, List.cons_append, List.nil_append]
  after_results
  pointwise

theorem wa_at (c : Dev nD) (l : Fin 2) (j : Fin 256) (k : Fin 1024) : V m c main_v54 (ix3 l j k) = W m c (ix3 l k ⟨j, by omega⟩) := by
  simp only [V, hostOps0, hostOps0_1, hostOps0_2, hostOps0_3, hostOps0_4, List.flatten_cons, List.flatten_nil, List.append_nil, List.cons_append, List.nil_append]
  after_results
  pointwise

theorem key_at (c : Dev nD) (l : Fin 2) (k : Fin 1024) (j : Fin 256) : V m c main_v55 (ix3 l k ⟨j, by omega⟩) = W m c (ix3 l k ⟨512 + (j / 128 * 64 + j % 64), by omega⟩) := by
  rw [pack_eq]
  exact (pack_v46 _ l k j).trans ((congrFun (v46_eq m c) _).trans ((twice_at _ l k j).trans (heads_at _ _ _ (by omega) l k _)))

theorem value_at (c : Dev nD) (l : Fin 2) (k : Fin 1024) (j : Fin 256) : V m c main_v55 (ix3 l k ⟨256 + j, by omega⟩) = W m c (ix3 l k ⟨640 + (j / 128 * 64 + j % 64), by omega⟩) := by
  rw [pack_eq]
  exact (pack_v49 _ l k j).trans ((congrFun (v49_eq m c) _).trans ((twice_at _ l k j).trans (heads_at _ _ _ (by omega) l k _)))

theorem query_at (c : Dev nD) (l : Fin 2) (k : Fin 1024) (j : Fin 256) : V m c main_v55 (ix3 l k ⟨512 + j, by omega⟩) = W m c (ix3 l k ⟨256 + j, by omega⟩) := by
  rw [pack_eq]
  exact (pack_v20 _ l k j).trans ((congrFun (v20_eq m c) _).trans (cut_at _ _ _ (by omega) l k j))

theorem near0_at (c : Dev nD) (l : Fin 2) (k : Fin 1024) (j : Fin 256) : V m c main_v55 (ix3 l k ⟨768 + j, by omega⟩) = W m c (ix3 l k ⟨768 + j, by omega⟩) := by
  rw [pack_eq]
  exact (pack_v23 _ l k j).trans ((congrFun (v23_eq m c) _).trans (cut_at _ _ _ (by omega) l k j))

theorem near1_at (c : Dev nD) (l : Fin 2) (k : Fin 1024) (j : Fin 256) : V m c main_v55 (ix3 l k ⟨1024 + j, by omega⟩) = W m c (ix3 l k ⟨1024 + j, by omega⟩) := by
  rw [pack_eq]
  exact (pack_v24 _ l k j).trans ((congrFun (v24_eq m c) _).trans (cut_at _ _ _ (by omega) l k j))

theorem near2_at (c : Dev nD) (l : Fin 2) (k : Fin 1024) (j : Fin 256) : V m c main_v55 (ix3 l k ⟨1280 + j, by omega⟩) = W m c (ix3 l k ⟨1280 + j, by omega⟩) := by
  rw [pack_eq]
  exact (pack_v25 _ l k j).trans ((congrFun (v25_eq m c) _).trans (cut_at _ _ _ (by omega) l k j))

theorem mem_at (c : Dev nD) (l : Fin 2) (k : Fin 1024) (j : Fin 256) : V m c main_v55 (ix3 l k ⟨1536 + j, by omega⟩) = W m c (ix3 l k ⟨1888 + j, by omega⟩) := by
  rw [pack_eq]
  exact (pack_v29 _ l k j).trans ((congrFun (v29_eq m c) _).trans (cut_at _ _ _ (by omega) l k j))

theorem swa_at (c : Dev nD) (l : Fin 2) (k : Fin 1024) (j : Fin 768) : V m c main_v55 (ix3 l k ⟨j, by omega⟩) = W m c (ix3 l k (Cert.Input.lane j)) :=
  Cert.Input.lanes (fun j i => V m c main_v55 (ix3 l k ⟨j, by omega⟩) = W m c (ix3 l k i)) (key_at m c l k) (value_at m c l k) (query_at m c l k) j

theorem near_at (c : Dev nD) (l : Fin 2) (k : Fin 1024) (j : Fin 768) : V m c main_v55 (ix3 l k ⟨768 + j, by omega⟩) = W m c (ix3 l k ⟨768 + j, by omega⟩) := by
  by_cases h : j.val < 256
  · exact near0_at m c l k ⟨j, h⟩
  · by_cases h' : j.val < 512
    · have e : (⟨1024 + (j.val - 256), by omega⟩ : Fin 2432) = ⟨768 + j, by omega⟩ := Fin.ext (show 1024 + (j.val - 256) = 768 + j.val by omega)
      have e' : (⟨1024 + (j.val - 256), by omega⟩ : Fin 7264) = ⟨768 + j, by omega⟩ := Fin.ext (show 1024 + (j.val - 256) = 768 + j.val by omega)
      rw [← e, ← e']
      exact near1_at m c l k ⟨j - 256, by omega⟩
    · have e : (⟨1280 + (j.val - 512), by omega⟩ : Fin 2432) = ⟨768 + j, by omega⟩ := Fin.ext (show 1280 + (j.val - 512) = 768 + j.val by omega)
      have e' : (⟨1280 + (j.val - 512), by omega⟩ : Fin 7264) = ⟨768 + j, by omega⟩ := Fin.ext (show 1280 + (j.val - 512) = 768 + j.val by omega)
      rw [← e, ← e']
      exact near2_at m c l k ⟨j - 512, by omega⟩

end Cert.Kernel5Ideal.Input
-- ==== Proof.InputBlock.lean ====
/- The projection kernel's result arrays: each grid point's blocks of 512 tokens, and all of them. -/
module

public import proofs.«01_k».proof.Proof.InputWeights

@[expose] public section
set_option maxRecDepth 16384
noncomputable section
open Idealize.ShloMosaic Idealize.ShloMosaic.TcCoe Idealize.SL.Sem
namespace Cert.Kernel5Ideal.Input
open Cert.Kernel5Ideal Cert.Kernel5Ideal.Gen

theorem norm_at (x : Vec Ideal S512x1024 .f32) (g : Vec Ideal S1x1x1024 .f32) (r : Fin 512) (d : Fin 1024) :
    k0_pay1 x g (ix2 r d) = Cert.Ffn.rms (fun k => x (ix2 r k)) (fun k => g (ix3 0 0 k)) d := by
  pointwise [k0_pay1]
  rfl

theorem first_at (x : Vec Ideal S512x1024 .f32) (g : Vec Ideal S1x1x1024 .f32) (w : Vec Ideal S1x256x1024 .bf16) (j : Fin 256) (r : Fin 512) :
    k0_pay2 x g w (ix2 j r) = ∑ k : Fin 1024, w (ix3 0 j k) * k0_pay1 x g (ix2 r k) := by
  pointwise [k0_pay2]

theorem swa_block (x : Vec Ideal S512x1024 .f32) (g : Vec Ideal S1x1x1024 .f32) (w : Vec Ideal S1x1024x768 .bf16) (r : Fin 512) (j : Fin 768) :
    k0_pay3 x g w (ix2 r j) = ∑ k : Fin 1024, k0_pay1 x g (ix2 r k) * w (ix3 0 k j) := by
  pointwise [k0_pay3]

theorem near_block (x : Vec Ideal S512x1024 .f32) (g : Vec Ideal S1x1x1024 .f32) (w : Vec Ideal S1x1024x768 .bf16) (r : Fin 512) (j : Fin 768) :
    k0_pay4 x g w (ix2 r j) = ∑ k : Fin 1024, k0_pay1 x g (ix2 r k) * w (ix3 0 k j) := by
  pointwise [k0_pay4]

theorem mem_block (u : FVec Ideal S512x1024 .bf16) (w : Vec Ideal S1x1024x256 .bf16) (r : Fin 512) (j : Fin 256) :
    k0_pay5 u w (ix2 r j) = ∑ k : Fin 1024, u (ix2 r k) * w (ix3 0 k j) := by
  pointwise [k0_pay5]

theorem ld_swa (x : Vec Ideal S1x1024x2432 .bf16) (k : Fin 1024) (j : Fin 768) : View.ld x r0_4 (ix3 0 k j) = x (ix3 0 k ⟨j, by omega⟩) := by
  pointwise

theorem ld_near (x : Vec Ideal S1x1024x2432 .bf16) (k : Fin 1024) (j : Fin 768) : View.ld x r0_6 (ix3 0 k j) = x (ix3 0 k ⟨768 + j, by omega⟩) := by
  pointwise

theorem ld_mem (x : Vec Ideal S1x1024x2432 .bf16) (k : Fin 1024) (j : Fin 256) : View.ld x r0_7 (ix3 0 k j) = x (ix3 0 k ⟨1536 + j, by omega⟩) := by
  pointwise

theorem out_eq10 (x0 : Vec Ideal S512x1024 .f32) (x1 : Vec Ideal S1x1x1024 .f32) (x2 : Vec Ideal S1x256x1024 .bf16) (x3 : Vec Ideal S1x1024x2432 .bf16) (x4 : Vec Ideal S1x256x1024 .bf16) (x5 : Vec Ideal S1x128x768 .bf16) (x6 : Vec Ideal S1x1x256 .f32) (x7 : Vec Ideal S1x1x128 .f32) (x8 : Vec Ideal S512x128 .f32) (x9 : Vec Ideal S512x128 .f32) :
    out0_10 x0 x1 x2 x3 x4 x5 x6 x7 x8 x9 = k0_pay2 x0 x1 x2 := by
  unfold_out out0_10
  rw [View.canon_unit_zero (by decide)]
  have h0 : View.ld x0 r0_0 = x0 := View.ld_unit_lit _ _ (by decide)
  have h1 : View.ld x1 r0_1 = x1 := View.ld_unit_lit _ _ (by decide)
  have h2 : View.ld x2 r0_2 = x2 := View.ld_unit_lit _ _ (by decide)
  rw [h0, h1, h2]

theorem out_eq11 (x0 : Vec Ideal S512x1024 .f32) (x1 : Vec Ideal S1x1x1024 .f32) (x2 : Vec Ideal S1x256x1024 .bf16) (x3 : Vec Ideal S1x1024x2432 .bf16) (x4 : Vec Ideal S1x256x1024 .bf16) (x5 : Vec Ideal S1x128x768 .bf16) (x6 : Vec Ideal S1x1x256 .f32) (x7 : Vec Ideal S1x1x128 .f32) (x8 : Vec Ideal S512x128 .f32) (x9 : Vec Ideal S512x128 .f32) :
    out0_11 x0 x1 x2 x3 x4 x5 x6 x7 x8 x9 = k0_pay3 x0 x1 (View.ld x3 r0_4) := by
  unfold_out out0_11
  rw [View.canon_unit_zero (by decide)]
  have h0 : View.ld x0 r0_0 = x0 := View.ld_unit_lit _ _ (by decide)
  have h1 : View.ld x1 r0_1 = x1 := View.ld_unit_lit _ _ (by decide)
  rw [h0, h1]

theorem out_eq12 (x0 : Vec Ideal S512x1024 .f32) (x1 : Vec Ideal S1x1x1024 .f32) (x2 : Vec Ideal S1x256x1024 .bf16) (x3 : Vec Ideal S1x1024x2432 .bf16) (x4 : Vec Ideal S1x256x1024 .bf16) (x5 : Vec Ideal S1x128x768 .bf16) (x6 : Vec Ideal S1x1x256 .f32) (x7 : Vec Ideal S1x1x128 .f32) (x8 : Vec Ideal S512x128 .f32) (x9 : Vec Ideal S512x128 .f32) :
    out0_12 x0 x1 x2 x3 x4 x5 x6 x7 x8 x9 = k0_pay4 x0 x1 (View.ld x3 r0_6) := by
  unfold_out out0_12
  rw [View.canon_unit_zero (by decide)]
  have h0 : View.ld x0 r0_0 = x0 := View.ld_unit_lit _ _ (by decide)
  have h1 : View.ld x1 r0_1 = x1 := View.ld_unit_lit _ _ (by decide)
  rw [h0, h1]

theorem out_eq13 (x0 : Vec Ideal S512x1024 .f32) (x1 : Vec Ideal S1x1x1024 .f32) (x2 : Vec Ideal S1x256x1024 .bf16) (x3 : Vec Ideal S1x1024x2432 .bf16) (x4 : Vec Ideal S1x256x1024 .bf16) (x5 : Vec Ideal S1x128x768 .bf16) (x6 : Vec Ideal S1x1x256 .f32) (x7 : Vec Ideal S1x1x128 .f32) (x8 : Vec Ideal S512x128 .f32) (x9 : Vec Ideal S512x128 .f32) :
    out0_13 x0 x1 x2 x3 x4 x5 x6 x7 x8 x9 = k0_pay5 (k0_pay1 x0 x1) (View.ld x3 r0_7) := by
  unfold_out out0_13
  rw [View.canon_unit_zero (by decide)]
  have h0 : View.ld x0 r0_0 = x0 := View.ld_unit_lit _ _ (by decide)
  have h1 : View.ld x1 r0_1 = x1 := View.ld_unit_lit _ _ (by decide)
  rw [h0, h1]

variable (m : (ℓ : Loc nD τ sig) → Buf (Elt Ideal) ℓ)

theorem idx : ∀ t : Fin cfg0.N, win0_0.index t = ![t.val, 0] ∧ win0_1.index t = ![1, 0, 0] ∧ win0_2.index t = ![1, 0, 0] ∧ win0_3.index t = ![1, 0, 0]
    ∧ win0_10.index t = ![0, t.val] ∧ win0_11.index t = ![t.val, 0] ∧ win0_12.index t = ![t.val, 0] ∧ win0_13.index t = ![t.val, 0] :=
  (by decide +kernel : ∀ t : Fin grid0.N, _)

theorem x_emb (t : Fin cfg0.N) (ht : t.val < 32) (r : Fin 512) (d : Fin 1024) : (win0_0.blk t).view.emb (ix2 r d) = (ix2 ⟨t * 512 + r, by omega⟩ d : S16384x1024.Idx) := by
  funext a
  fin_cases a <;> apply Fin.ext <;> blk_simp [idx t]
  all_goals simp [ix2]
theorem x_blk (c : Dev nD) (t : Fin cfg0.N) (ht : t.val < 32) (r : Fin 512) (d : Fin 1024) : (iblk m c 0 t : S512x1024.Idx → EReal) (ix2 r d) = X m c (ix2 ⟨t * 512 + r, by omega⟩ d) := by
  have h : X m c = V m c main_arg0 := (V_main_arg0 m c).symm
  rw [h, ← x_emb t ht r d]
  unfold iblk
  exact (View.read_apply _ _).trans (cast_eq _ _)

theorem g_emb (t : Fin cfg0.N) (d : Fin 1024) : (win0_1.blk t).view.emb (ix3 0 0 d) = (ix3 1 0 d : S2x1x1024.Idx) := by
  funext a
  fin_cases a <;> apply Fin.ext <;> blk_simp [idx t]
  all_goals simp [ix3]
theorem g_blk (c : Dev nD) (t : Fin cfg0.N) (d : Fin 1024) : (iblk m c 1 t : S1x1x1024.Idx → EReal) (ix3 0 0 d) = gains m c (ix2 1 d) := by
  rw [← gains_at m c, ← g_emb t d]
  unfold iblk
  exact (View.read_apply _ _).trans (cast_eq _ _)

theorem wa_emb (t : Fin cfg0.N) (j : Fin 256) (k : Fin 1024) : (win0_2.blk t).view.emb (ix3 0 j k) = (ix3 1 j k : S2x256x1024.Idx) := by
  funext a
  fin_cases a <;> apply Fin.ext <;> blk_simp [idx t]
  all_goals simp [ix3]
theorem wa_blk (c : Dev nD) (t : Fin cfg0.N) (j : Fin 256) (k : Fin 1024) : (iblk m c 2 t : S1x256x1024.Idx → EReal) (ix3 0 j k) = W m c (ix3 1 k ⟨j, by omega⟩) := by
  rw [← wa_at m c, ← wa_emb t j k]
  unfold iblk
  exact (View.read_apply _ _).trans (cast_eq _ _)

theorem w_emb (t : Fin cfg0.N) (k : Fin 1024) (j : Fin 2432) : (win0_3.blk t).view.emb (ix3 0 k j) = (ix3 1 k j : S2x1024x2432.Idx) := by
  funext a
  fin_cases a <;> apply Fin.ext <;> blk_simp [idx t]
  all_goals simp [ix3]
theorem w_blk (c : Dev nD) (t : Fin cfg0.N) (k : Fin 1024) (j : Fin 2432) : (iblk m c 3 t : S1x1024x2432.Idx → EReal) (ix3 0 k j) = V m c main_v55 (ix3 1 k j) := by
  rw [← w_emb t k j]
  unfold iblk
  exact (View.read_apply _ _).trans (cast_eq _ _)

theorem norm_blk (c : Dev nD) (t : Fin cfg0.N) (ht : t.val < 32) (r : Fin 512) (d : Fin 1024) :
    k0_pay1 (iblk m c 0 t) (iblk m c 1 t) (ix2 r d) = Cert.Ffn.rms (fun k => X m c (ix2 ⟨t * 512 + r, by omega⟩ k)) (fun k => gains m c (ix2 1 k)) d := by
  rw [norm_at]
  simp only [x_blk m c t ht, g_blk m c t]

theorem first_value (c : Dev nD) (t : Fin cfg0.N) (ht : t.val < 32) (j : Fin 256) (r : Fin 512) :
    k0_pay2 (iblk m c 0 t) (iblk m c 1 t) (iblk m c 2 t) (ix2 j r) = Cert.Input.proj (X m c) (gains m c) (W m c) ⟨t * 512 + r, by omega⟩ ⟨j, by omega⟩ := by
  rw [first_at]
  simp only [norm_blk m c t ht, wa_blk m c t]
  exact Finset.sum_congr rfl fun k _ => mul_comm _ _

theorem swa_value (c : Dev nD) (t : Fin cfg0.N) (ht : t.val < 32) (r : Fin 512) (j : Fin 768) :
    k0_pay3 (iblk m c 0 t) (iblk m c 1 t) (View.ld (iblk m c 3 t : Vec Ideal S1x1024x2432 .bf16) r0_4) (ix2 r j) = Cert.Input.proj (X m c) (gains m c) (W m c) ⟨t * 512 + r, by omega⟩ (Cert.Input.lane j) := by
  refine (swa_block _ _ _ r j).trans ?_
  unfold Cert.Input.proj Cert.Ffn.col
  refine Finset.sum_congr rfl fun k _ => ?_
  exact congrArg₂ (fun a b : EReal => a * b) (norm_blk m c t ht r k) ((ld_swa _ k j).trans ((w_blk m c t k _).trans (swa_at m c 1 k j)))

theorem near_value (c : Dev nD) (t : Fin cfg0.N) (ht : t.val < 32) (r : Fin 512) (j : Fin 768) :
    k0_pay4 (iblk m c 0 t) (iblk m c 1 t) (View.ld (iblk m c 3 t : Vec Ideal S1x1024x2432 .bf16) r0_6) (ix2 r j) = Cert.Input.proj (X m c) (gains m c) (W m c) ⟨t * 512 + r, by omega⟩ ⟨768 + j, by omega⟩ := by
  refine (near_block _ _ _ r j).trans ?_
  unfold Cert.Input.proj Cert.Ffn.col
  refine Finset.sum_congr rfl fun k _ => ?_
  exact congrArg₂ (fun a b : EReal => a * b) (norm_blk m c t ht r k) ((ld_near _ k j).trans ((w_blk m c t k _).trans (near_at m c 1 k j)))

theorem mem_value (c : Dev nD) (t : Fin cfg0.N) (ht : t.val < 32) (r : Fin 512) (j : Fin 256) :
    k0_pay5 (k0_pay1 (iblk m c 0 t) (iblk m c 1 t)) (View.ld (iblk m c 3 t : Vec Ideal S1x1024x2432 .bf16) r0_7) (ix2 r j) = Cert.Input.proj (X m c) (gains m c) (W m c) ⟨t * 512 + r, by omega⟩ ⟨1888 + j, by omega⟩ := by
  refine (mem_block _ _ r j).trans ?_
  unfold Cert.Input.proj Cert.Ffn.col
  refine Finset.sum_congr rfl fun k _ => ?_
  exact congrArg₂ (fun a b : EReal => a * b) (norm_blk m c t ht r k) ((ld_mem _ k j).trans ((w_blk m c t k _).trans (mem_at m c 1 k j)))

def firstArr (X : S16384x1024.Idx → EReal) (g : S2x1024.Idx → EReal) (W : S2x1024x7264.Idx → EReal) (i : S256x16384.Idx) : EReal := Cert.Input.proj X g W (i 1) ⟨i 0, (i 0).isLt.trans (by decide)⟩
def swaArr (X : S16384x1024.Idx → EReal) (g : S2x1024.Idx → EReal) (W : S2x1024x7264.Idx → EReal) (i : S16384x768.Idx) : EReal := Cert.Input.proj X g W (i 0) (Cert.Input.lane (i 1))
def nearArr (X : S16384x1024.Idx → EReal) (g : S2x1024.Idx → EReal) (W : S2x1024x7264.Idx → EReal) (i : S16384x768.Idx) : EReal :=
  Cert.Input.proj X g W (i 0) ⟨768 + (i 1).val, (Nat.add_lt_add_left (i 1).isLt 768).trans (by decide)⟩
def memArr (X : S16384x1024.Idx → EReal) (g : S2x1024.Idx → EReal) (W : S2x1024x7264.Idx → EReal) (i : S16384x256.Idx) : EReal :=
  Cert.Input.proj X g W (i 0) ⟨1888 + (i 1).val, (Nat.add_lt_add_left (i 1).isLt 1888).trans (by decide)⟩

theorem final10 (c : Dev nD) : (dats m 0 c).arrAt 10 cfg0.N = firstArr (X m c) (gains m c) (W m c) := by
  refine (dats m 0 c).arrAt_eq_of_covers 10 _ (by decide +kernel) fun t _ y => ?_
  blk_simp
  rw [after0_10]
  have ht : t.val < 32 := t.isLt
  idx_vars y
  have hy : (win0_10.blk t).view.emb (ix2 y0 y1) = (ix2 y0 ⟨t * 512 + y1, by omega⟩ : S256x16384.Idx) := by
    funext a
    fin_cases a <;> apply Fin.ext <;> blk_simp [idx t]
    all_goals simp [ix2]
  rw [hy, out_eq10]
  exact first_value m c t ht y0 y1

theorem final11 (c : Dev nD) : (dats m 0 c).arrAt 11 cfg0.N = swaArr (X m c) (gains m c) (W m c) := by
  refine (dats m 0 c).arrAt_eq_of_covers 11 _ (by decide +kernel) fun t _ y => ?_
  blk_simp
  rw [after0_11]
  have ht : t.val < 32 := t.isLt
  idx_vars y
  have hy : (win0_11.blk t).view.emb (ix2 y0 y1) = (ix2 ⟨t * 512 + y0, by omega⟩ y1 : S16384x768.Idx) := by
    funext a
    fin_cases a <;> apply Fin.ext <;> blk_simp [idx t]
    all_goals simp [ix2]
  rw [hy, out_eq11]
  exact swa_value m c t ht y0 y1

theorem final12 (c : Dev nD) : (dats m 0 c).arrAt 12 cfg0.N = nearArr (X m c) (gains m c) (W m c) := by
  refine (dats m 0 c).arrAt_eq_of_covers 12 _ (by decide +kernel) fun t _ y => ?_
  blk_simp
  rw [after0_12]
  have ht : t.val < 32 := t.isLt
  idx_vars y
  have hy : (win0_12.blk t).view.emb (ix2 y0 y1) = (ix2 ⟨t * 512 + y0, by omega⟩ y1 : S16384x768.Idx) := by
    funext a
    fin_cases a <;> apply Fin.ext <;> blk_simp [idx t]
    all_goals simp [ix2]
  rw [hy, out_eq12]
  exact near_value m c t ht y0 y1

theorem final13 (c : Dev nD) : (dats m 0 c).arrAt 13 cfg0.N = memArr (X m c) (gains m c) (W m c) := by
  refine (dats m 0 c).arrAt_eq_of_covers 13 _ (by decide +kernel) fun t _ y => ?_
  blk_simp
  rw [after0_13]
  have ht : t.val < 32 := t.isLt
  idx_vars y
  have hy : (win0_13.blk t).view.emb (ix2 y0 y1) = (ix2 ⟨t * 512 + y0, by omega⟩ y1 : S16384x256.Idx) := by
    funext a
    fin_cases a <;> apply Fin.ext <;> blk_simp [idx t]
    all_goals simp [ix2]
  rw [hy, out_eq13]
  exact mem_value m c t ht y0 y1

end Cert.Kernel5Ideal.Input
-- ==== Proof.InputReference.lean ====
/- The reference's input projection, at one token and column. -/
module

public import proofs.«01_k».proof.Proof.Input
public import proofs.«01_k».proof.Proof.Gen.Reference5Ideal.Run

@[expose] public section
set_option maxRecDepth 16384
noncomputable section
open Idealize.ShloMosaic Idealize.ShloMosaic.TcCoe Idealize.SL.Sem
namespace Cert.Reference5Ideal.Input
open Cert.Reference5Ideal Cert.Reference5Ideal.Gen

/-- The norm of every token, with layer 1's gains. -/
def norm (X : FVec Ideal S16384x1024 .f32) (g : FVec Ideal S2x1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0
    (Host.reduceAdd (mulf X X) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1
      (shapeCast S1024 (extractStridedSlice S1x1024 ![1, 0] g slices_S2x1024_S1x1024_1_0) shapeCasts_S1x1024_S1024)))

theorem norm_at (X : FVec Ideal S16384x1024 .f32) (g : FVec Ideal S2x1024 .f32) (s : Fin 16384) (d : Fin 1024) :
    norm X g (ix2 s d) = Cert.Ffn.rms (fun k => X (ix2 s k)) (fun k => g (ix2 1 k)) d := by
  pointwise [norm]
  rfl

/-- Every token's product with the projection's weight of layer 1. -/
def prod (U : FVec Ideal S16384x1024 .f32) (W : FVec Ideal S2x1024x7264 .f32) : FVec Ideal S16384x7264 .f32 :=
  Host.dotGeneral dot_S16384x1024_S1024x7264_S16384x7264_1_0_0_1_n_n none U
    (shapeCast S1024x7264 (extractStridedSlice S1x1024x7264 ![1, 0, 0] W slices_S2x1024x7264_S1x1024x7264_1_0_0) shapeCasts_S1x1024x7264_S1024x7264)

theorem prod_at (X : FVec Ideal S16384x1024 .f32) (g : FVec Ideal S2x1024 .f32) (W : FVec Ideal S2x1024x7264 .f32) (s : Fin 16384) (j : Fin 7264) :
    prod (norm X g) W (ix2 s j) = Cert.Input.proj X g W s j := by
  pointwise [prod]
  simp only [norm_at]
  rfl

/-- The S5 branch's input, one row per lane. -/
def first (P : FVec Ideal S16384x7264 .f32) : FVec Ideal S256x16384 .f32 :=
  transpose S256x16384 [1, 0] (extractStridedSlice S16384x256 ![0, 0] P slices_S16384x7264_S16384x256_0_0) transposes_S16384x256_S256x16384_1_0

theorem first_at (P : FVec Ideal S16384x7264 .f32) (j : Fin 256) (s : Fin 16384) : first P (ix2 j s) = P (ix2 s ⟨j, by omega⟩) := by
  pointwise [first]

/-- Two heads' columns, each twice. -/
def twice (P : FVec Ideal S16384x128 .f32) : FVec Ideal S16384x256 .f32 :=
  shapeCast S16384x256 (shapeCast S16384x4x64 (broadcastInDim S16384x2x2x64 ![0, 1, 3] bcast_S16384x2x64_S16384x2x2x64_0_1_3 (shapeCast S16384x2x64 P shapeCasts_S16384x128_S16384x2x64))
    shapeCasts_S16384x2x2x64_S16384x4x64) shapeCasts_S16384x4x64_S16384x256

/-- Three column ranges side by side. -/
def three (a b c : FVec Ideal S16384x256 .f32) : FVec Ideal S16384x768 .bf16 :=
  truncf .bf16 (concatenate S16384x768 1 [⟨S16384x256, a⟩, ⟨S16384x256, b⟩, ⟨S16384x256, c⟩] concatenates_S16384x256_S16384x256_S16384x256_S16384x768_d1) bitsLt_bf16_f32

theorem twice_at (P : FVec Ideal S16384x128 .f32) (s : Fin 16384) (j : Fin 256) : twice P (ix2 s j) = P (ix2 s ⟨j / 128 * 64 + j % 64, by omega⟩) := by
  pointwise [twice]

theorem three_at0 (a b c : FVec Ideal S16384x256 .f32) (s : Fin 16384) (j : Fin 256) : three a b c (ix2 s ⟨j, by omega⟩) = a (ix2 s j) := by
  pointwise [three]

theorem three_at1 (a b c : FVec Ideal S16384x256 .f32) (s : Fin 16384) (j : Fin 256) : three a b c (ix2 s ⟨256 + j, by omega⟩) = b (ix2 s j) := by
  pointwise [three]

theorem three_at2 (a b c : FVec Ideal S16384x256 .f32) (s : Fin 16384) (j : Fin 256) : three a b c (ix2 s ⟨512 + j, by omega⟩) = c (ix2 s j) := by
  pointwise [three]
  rw [dif_neg (by omega), dif_neg (by omega)]
  exact congrArg (fun j => c (ix2 s j)) (Fin.ext (show 512 + j.val - 256 - 256 = j.val by omega))

theorem cut128 (P : FVec Ideal S16384x7264 .f32) (o : ℕ) (h : S16384x7264.Slices ![0, o] S16384x128) (ho : o + 128 ≤ 7264) (s : Fin 16384) (j : Fin 128) :
    extractStridedSlice S16384x128 ![0, o] P h (ix2 s j) = P (ix2 s ⟨o + j, by omega⟩) := by
  pointwise

theorem cut256 (P : FVec Ideal S16384x7264 .f32) (o : ℕ) (h : S16384x7264.Slices ![0, o] S16384x256) (ho : o + 256 ≤ 7264) (s : Fin 16384) (j : Fin 256) :
    extractStridedSlice S16384x256 ![0, o] P h (ix2 s j) = P (ix2 s ⟨o + j, by omega⟩) := by
  pointwise

/-- The sliding-window operand. -/
def swa (P : FVec Ideal S16384x7264 .f32) : FVec Ideal S16384x768 .bf16 :=
  three (twice (extractStridedSlice S16384x128 ![0, 512] P slices_S16384x7264_S16384x128_0_512)) (twice (extractStridedSlice S16384x128 ![0, 640] P slices_S16384x7264_S16384x128_0_640))
    (extractStridedSlice S16384x256 ![0, 256] P slices_S16384x7264_S16384x256_0_256)

theorem swa_at (P : FVec Ideal S16384x7264 .f32) (s : Fin 16384) (j : Fin 768) : swa P (ix2 s j) = P (ix2 s (Cert.Input.lane j)) := by
  refine Cert.Input.lanes (fun j c => swa P (ix2 s j) = P (ix2 s c)) (fun j => ?_) (fun j => ?_) (fun j => ?_) j
  · exact (three_at0 _ _ _ s j).trans ((twice_at _ s j).trans (cut128 _ _ _ (by omega) s _))
  · exact (three_at1 _ _ _ s j).trans ((twice_at _ s j).trans (cut128 _ _ _ (by omega) s _))
  · exact (three_at2 _ _ _ s j).trans (cut256 _ _ _ (by omega) s j)

/-- The neighbourhood attention's operand. -/
def na (P : FVec Ideal S16384x7264 .f32) : FVec Ideal S16384x768 .bf16 :=
  three (extractStridedSlice S16384x256 ![0, 768] P slices_S16384x7264_S16384x256_0_768) (extractStridedSlice S16384x256 ![0, 1024] P slices_S16384x7264_S16384x256_0_1024)
    (extractStridedSlice S16384x256 ![0, 1280] P slices_S16384x7264_S16384x256_0_1280)

theorem na_at (P : FVec Ideal S16384x7264 .f32) (s : Fin 16384) (j : Fin 768) : na P (ix2 s j) = P (ix2 s ⟨768 + j, by omega⟩) := by
  by_cases h : j.val < 256
  · exact (three_at0 _ _ _ s ⟨j, h⟩).trans (cut256 _ _ _ (by omega) s _)
  · by_cases h' : j.val < 512
    · have e : j = ⟨256 + (⟨j - 256, by omega⟩ : Fin 256), by simp only []; omega⟩ := Fin.ext (by simp only []; omega)
      refine (congrArg (fun j => na P (ix2 s j)) e).trans ((three_at1 _ _ _ s ⟨j - 256, by omega⟩).trans ((cut256 _ _ _ (by omega) s _).trans ?_))
      exact congrArg (fun j => P (ix2 s j)) (Fin.ext (by simp only []; omega))
    · have e : j = ⟨512 + (⟨j - 512, by omega⟩ : Fin 256), by simp only []; omega⟩ := Fin.ext (by simp only []; omega)
      refine (congrArg (fun j => na P (ix2 s j)) e).trans ((three_at2 _ _ _ s ⟨j - 512, by omega⟩).trans ((cut256 _ _ _ (by omega) s _).trans ?_))
      exact congrArg (fun j => P (ix2 s j)) (Fin.ext (by simp only []; omega))

/-- The memory attention's queries. -/
def mem (P : FVec Ideal S16384x7264 .f32) : FVec Ideal S16384x256 .bf16 :=
  truncf .bf16 (extractStridedSlice S16384x256 ![0, 1888] P slices_S16384x7264_S16384x256_0_1888) bitsLt_bf16_f32

theorem mem_at (P : FVec Ideal S16384x7264 .f32) (s : Fin 16384) (j : Fin 256) : mem P (ix2 s j) = P (ix2 s ⟨1888 + j, by omega⟩) := by
  pointwise [mem]

variable (m : (ℓ : Loc nD τ sig) → Buf (Elt Ideal) ℓ)

/-- What the run leaves as the sliding-window operand is the spelt-out term. -/
theorem run_eq (c : Dev nD) : Value.res_out1 m c
    = swa (prod (norm (m ((c.tc : Thread nD τ).loc main_arg0)) (m ((c.tc : Thread nD τ).loc main_arg1))) (m ((c.tc : Thread nD τ).loc main_arg2))) := rfl

end Cert.Reference5Ideal.Input
-- ==== Proof.Latent.lean ====
/- The latent attention's queries, keys and values of one token: norms of the two latents, products with the up weights and
   rotated lanes. The rotation may be a product with weights whose halves are exchanged, one of them negated: on finite
   weights the two agree. -/
module

public import proofs.«01_k».proof.Proof.Input
public import proofs.«01_k».proof.Proof.Attend

@[expose] public section
set_option maxRecDepth 16384
noncomputable section
namespace Cert.Latent
open Idealize.ShloMosaic Cert.Softmax

theorem bits192 : Ideal.ofBits .f32 0x43400000#32 = ((192 : ℝ) : EReal) := by
  simp [Ideal.ofBits, Ideal.ieee]
  rw [← EReal.coe_mul]
  norm_num

theorem bits1024 : Ideal.ofBits .f32 0x44800000#32 = ((1024 : ℝ) : EReal) := by
  simp [Ideal.ofBits, Ideal.ieee]
  rw [← EReal.coe_mul]
  norm_num

theorem bits1 : Ideal.ofBits .f32 0x3F800000#32 = 1 := by
  simp [Ideal.ofBits, Ideal.ieee]
  rw [← EReal.coe_mul, ← EReal.coe_one]
  norm_num

theorem bits_eps : ∃ e : ℝ, 0 < e ∧ Ideal.ofBits .f32 0x358637BD#32 = (e : EReal) := by
  refine ⟨8796093 * (2 : ℝ)^(-43 : ℤ), by positivity, ?_⟩
  simp [Ideal.ofBits, Ideal.ieee, -EReal.coe_mul]

/-- A vector over the root of its mean square, `b` being its length, times the gain. -/
def normed {n : ℕ} (c : Fin n → EReal) (b : EReal) (g : Fin n → EReal) (k : Fin n) : EReal :=
  c k * Ideal.rsqrt (Ideal.div (∑ i, c i * c i) b + Ideal.ofBits .f32 0x358637BD#32) * g k

theorem rms_normed (x g : Fin 1024 → EReal) : Cert.Ffn.rms x g = normed x (Ideal.ofBits .f32 0x44800000#32) g := rfl

theorem sq_nonneg (x : EReal) : 0 ≤ x * x := by
  induction x with
  | bot => simp
  | top => simp
  | coe r => exact_mod_cast mul_self_nonneg r

/-- The norm of any vector with finite gains is finite. -/
theorem normed_real {n : ℕ} (c : Fin n → EReal) (b : ℝ) (hb : 0 < b) (g : Fin n → EReal) (hg : ∀ k, ∃ r : ℝ, g k = r) (k : Fin n) : ∃ r : ℝ, normed c b g k = r := by
  obtain ⟨e, he, hE⟩ := bits_eps
  obtain ⟨γ, hγ⟩ := hg k
  unfold normed
  rw [hE, hγ, Ideal.div_coe hb.ne']
  by_cases h : ∀ i, ∃ r : ℝ, c i = r
  · choose r hr using h
    have hs : ∑ i, c i * c i = ((∑ i, r i * r i : ℝ) : EReal) := by
      rw [coe_sum]
      exact Finset.sum_congr rfl fun i _ => by rw [hr i, EReal.coe_mul]
    have hp : 0 < (∑ i, r i * r i) * (1 / b) + e := by
      have : 0 ≤ ∑ i, r i * r i := Finset.sum_nonneg fun i _ => mul_self_nonneg _
      positivity
    rw [hs, hr k, ← EReal.coe_mul, ← EReal.coe_add, Ideal.rsqrt_coe, if_neg hp.le.not_gt, if_neg hp.ne', ← EReal.coe_mul, ← EReal.coe_mul]
    exact ⟨_, rfl⟩
  · push Not at h
    obtain ⟨i, hi⟩ := h
    have hc : c i * c i = ⊤ := by
      generalize c i = x at hi ⊢
      induction x with
      | bot => simp
      | top => simp
      | coe r => exact absurd rfl (hi r)
    have hs : ∑ i, c i * c i = ⊤ := top_le_iff.1 (hc ▸ Finset.single_le_sum (f := fun i => c i * c i) (fun i _ => sq_nonneg _) (Finset.mem_univ i))
    have hb' : (0 : EReal) < ((1 / b : ℝ) : EReal) := by exact_mod_cast one_div_pos.2 hb
    rw [hs, EReal.top_mul_of_pos hb', EReal.top_add_coe, Ideal.rsqrt_top, mul_zero, zero_mul]
    exact ⟨0, rfl⟩

theorem sum_real {n : ℕ} (a w : Fin n → EReal) (ha : ∀ k, ∃ r : ℝ, a k = r) (hw : ∀ k, ∃ r : ℝ, w k = r) : ∃ r : ℝ, ∑ k, a k * w k = r := by
  choose a' ha' using ha
  choose w' hw' using hw
  refine ⟨∑ k, a' k * w' k, ?_⟩
  rw [coe_sum]
  exact Finset.sum_congr rfl fun k _ => by rw [ha' k, hw' k, EReal.coe_mul]

/-- On finite vectors the product with the negated weight is the product negated. -/
theorem sum_neg {n : ℕ} (a w : Fin n → EReal) (ha : ∀ k, ∃ r : ℝ, a k = r) (hw : ∀ k, ∃ r : ℝ, w k = r) : ∑ k, a k * -w k = -∑ k, a k * w k := by
  choose a' ha' using ha
  choose w' hw' using hw
  have h1 : ∑ k, a k * w k = ((∑ k, a' k * w' k : ℝ) : EReal) := by
    rw [coe_sum]
    exact Finset.sum_congr rfl fun k _ => by rw [ha' k, hw' k, EReal.coe_mul]
  have h2 : ∑ k, a k * -w k = ((∑ k, a' k * -w' k : ℝ) : EReal) := by
    rw [coe_sum]
    exact Finset.sum_congr rfl fun k _ => by rw [ha' k, hw' k, EReal.coe_mul, EReal.coe_neg]
  rw [h1, h2, ← EReal.coe_neg]
  simp

/-- The 32 lanes rotated, the lanes of the two halves in pairs. -/
def turn (f : Fin 32 → EReal) (cs sn : Fin 16 → EReal) (t : Fin 32) : EReal :=
  if h : t.val < 16 then f t * cs ⟨t, h⟩ - f ⟨16 + t, by omega⟩ * sn ⟨t, h⟩
  else f ⟨t - 16, by omega⟩ * sn ⟨t - 16, by omega⟩ + f t * cs ⟨t - 16, by omega⟩

/-- A head's row of 128 lanes: 64 as they are, 32 rotated, 32 of padding. -/
def row (y : Fin 64 → EReal) (f : Fin 32 → EReal) (cs sn : Fin 16 → EReal) (d : Fin 128) : EReal :=
  if h : d.val < 64 then y ⟨d, h⟩ else if h' : d.val < 96 then turn f cs sn ⟨d - 64, by omega⟩ else 0

/-- The tables of 128 lanes: one, or zero, for the lanes that do not rotate. -/
def wave (z : EReal) (cs : Fin 16 → EReal) (d : Fin 128) : EReal :=
  if d.val < 64 then z else if h : d.val < 80 then cs ⟨d - 64, by omega⟩ else if h' : d.val < 96 then cs ⟨d - 80, by omega⟩ else 0

/-- The rotating 32 columns in 128, and the same with the halves exchanged and the second negated. -/
def straight (f : Fin 32 → EReal) (d : Fin 128) : EReal :=
  if d.val < 64 then 0 else if h : d.val < 96 then f ⟨d - 64, by omega⟩ else 0
def crossed (f : Fin 32 → EReal) (d : Fin 128) : EReal :=
  if d.val < 64 then 0 else if h : d.val < 80 then -f ⟨d - 48, by omega⟩ else if h' : d.val < 96 then f ⟨d - 80, by omega⟩ else 0

theorem sum_zero {n : ℕ} (a w : Fin n → EReal) (hw : ∀ k, w k = 0) : ∑ k, a k * w k = 0 :=
  Finset.sum_eq_zero fun k _ => by rw [hw k, mul_zero]

/-- The rotated lanes from the two products. -/
theorem turned {n : ℕ} (a : Fin n → EReal) (F : Fin n → Fin 32 → EReal) (ha : ∀ k, ∃ r : ℝ, a k = r) (hF : ∀ k t, ∃ r : ℝ, F k t = r) (cs sn : Fin 16 → EReal) (d : Fin 128) (x : EReal)
    (hx : 64 ≤ d.val → x = ∑ k, a k * straight (F k) d) :
    x * wave 1 cs d + (∑ k, a k * crossed (F k) d) * wave 0 sn d = row (fun _ => x) (fun t => ∑ k, a k * F k t) cs sn d := by
  by_cases h64 : d.val < 64
  · rw [wave, if_pos h64, wave, if_pos h64, mul_one, mul_zero, add_zero, row, dif_pos h64]
  · rw [hx (by omega)]
    by_cases h80 : d.val < 80
    · have e1 : ∀ k, straight (F k) d = F k ⟨d - 64, by omega⟩ := fun k => by rw [straight, if_neg h64, dif_pos (by omega)]
      have e2 : ∀ k, crossed (F k) d = -F k ⟨d - 48, by omega⟩ := fun k => by rw [crossed, if_neg h64, dif_pos h80]
      have i : (⟨16 + (d.val - 64), by omega⟩ : Fin 32) = ⟨d - 48, by omega⟩ := Fin.ext (show 16 + (d.val - 64) = d.val - 48 by omega)
      simp only [e1, e2]
      rw [sum_neg _ _ ha (fun k => hF k _), wave, if_neg h64, dif_pos h80, wave, if_neg h64, dif_pos h80, row, dif_neg h64, dif_pos (by omega), turn, dif_pos (show d.val - 64 < 16 by omega), i,
        EReal.neg_mul, ← sub_eq_add_neg]
    · by_cases h96 : d.val < 96
      · have e1 : ∀ k, straight (F k) d = F k ⟨d - 64, by omega⟩ := fun k => by rw [straight, if_neg h64, dif_pos h96]
        have e2 : ∀ k, crossed (F k) d = F k ⟨d - 80, by omega⟩ := fun k => by rw [crossed, if_neg h64, dif_neg h80, dif_pos h96]
        have i : (⟨d.val - 64 - 16, by omega⟩ : Fin 32) = ⟨d - 80, by omega⟩ := Fin.ext (show d.val - 64 - 16 = d.val - 80 by omega)
        have i' : (⟨d.val - 64 - 16, by omega⟩ : Fin 16) = ⟨d - 80, by omega⟩ := Fin.ext (show d.val - 64 - 16 = d.val - 80 by omega)
        simp only [e1, e2]
        rw [wave, if_neg h64, dif_neg h80, dif_pos h96, wave, if_neg h64, dif_neg h80, dif_pos h96, row, dif_neg h64, dif_pos h96, turn, dif_neg (show ¬ d.val - 64 < 16 by omega), add_comm]
        simp only [i, i']
      · have e1 : ∀ k, straight (F k) d = 0 := fun k => by rw [straight, if_neg h64, dif_neg h96]
        have e2 : ∀ k, crossed (F k) d = 0 := fun k => by rw [crossed, if_neg h64, dif_neg h80, dif_neg h96]
        rw [sum_zero _ _ e1, sum_zero _ _ e2, zero_mul, zero_mul, add_zero, row, dif_neg h64, dif_neg h96]

/-- A sum over 256 rows of which the last 64 vanish. -/
theorem sum192 (f : Fin 256 → EReal) (h : ∀ k : Fin 64, f ⟨192 + k, by omega⟩ = 0) : ∑ k, f k = ∑ k : Fin 192, f ⟨k, by omega⟩ := by
  refine (Fin.sum_univ_add (a := 192) (b := 64) f).trans ?_
  rw [Finset.sum_eq_zero (s := Finset.univ) (f := fun i : Fin 64 => f (Fin.natAdd 192 i)) (fun k _ => h k), add_zero]
  rfl

/-- The scale as a factor and as a quotient. -/
theorem scale (y : EReal) : y * ((((Real.sqrt 96) * (Real.log 2))⁻¹ : ℝ) : EReal)
    = Ideal.div y (Ideal.sqrt (Ideal.ofBits .f32 0x42C00000#32) * Ideal.log (Ideal.ofBits .f32 0x40000000#32)) := by
  rw [sqrt96, log2, ← EReal.coe_mul, Ideal.div_coe (mul_pos root_pos log_pos).ne', one_div]

theorem mean (y : EReal) : y * ((192⁻¹ : ℝ) : EReal) = Ideal.div y (Ideal.ofBits .f32 0x43400000#32) := by
  rw [bits192, Ideal.div_coe (by norm_num), one_div]

theorem scaled_zero : Ideal.div 0 (Ideal.sqrt (Ideal.ofBits .f32 0x42C00000#32) * Ideal.log (Ideal.ofBits .f32 0x40000000#32)) = 0 := by
  rw [← scale, zero_mul]

/-- Only one of the first 64 lanes matters for a lane of the row. -/
theorem row_congr (y y' : Fin 64 → EReal) (f : Fin 32 → EReal) (cs sn : Fin 16 → EReal) (d : Fin 128) (h : ∀ t : Fin 64, t.val = d.val → y t = y' t) : row y f cs sn d = row y' f cs sn d := by
  unfold row
  split
  · exact h _ rfl
  · rfl

/-! The results, from layer 1's entries of the arguments. -/

section
variable (X : (⟨2, ![16384, 1024]⟩ : Shape).Idx → EReal) (g : (⟨2, ![2, 1024]⟩ : Shape).Idx → EReal) (W : (⟨3, ![2, 1024, 7264]⟩ : Shape).Idx → EReal)
  (qg : (⟨2, ![2, 192]⟩ : Shape).Idx → EReal) (Q : (⟨3, ![2, 192, 384]⟩ : Shape).Idx → EReal) (kg : (⟨2, ![2, 128]⟩ : Shape).Idx → EReal) (K : (⟨3, ![2, 128, 512]⟩ : Shape).Idx → EReal)
  (cs sn : Fin 16 → EReal) (s : Fin 16384)

/-- The normed latents of the queries, and of the keys and values. -/
def qlat (k : Fin 192) : EReal := normed (fun k : Fin 192 => Cert.Input.proj X g W s ⟨1536 + k, by omega⟩) (Ideal.ofBits .f32 0x43400000#32) (fun k => qg (ix2 1 k)) k
def klat (k : Fin 128) : EReal := normed (fun k : Fin 128 => Cert.Input.proj X g W s ⟨1728 + k, by omega⟩) (Ideal.ofBits .f32 0x43000000#32) (fun k => kg (ix2 1 k)) k

/-- Their products with the up weights. -/
def qup (j : Fin 384) : EReal := ∑ k, qlat X g W qg s k * Q (ix3 1 k j)
def kvup (j : Fin 512) : EReal := ∑ k, klat X g W kg s k * K (ix3 1 k j)

/-- The lanes of head `h`: the scaled queries, the keys and the values. -/
def qval (h : Fin 4) (d : Fin 128) : EReal :=
  Ideal.div (row (fun t => qup X g W qg Q s ⟨h * 96 + t, by omega⟩) (fun t => qup X g W qg Q s ⟨h * 96 + (64 + t), by omega⟩) cs sn d)
    (Ideal.sqrt (Ideal.ofBits .f32 0x42C00000#32) * Ideal.log (Ideal.ofBits .f32 0x40000000#32))
def kval (h : Fin 4) (d : Fin 128) : EReal :=
  row (fun t => kvup X g W kg K s ⟨h * 128 + t, by omega⟩) (fun t => Cert.Input.proj X g W s ⟨1856 + t, by omega⟩) cs sn d
def vval (h : Fin 4) (d : Fin 64) : EReal := kvup X g W kg K s ⟨h * 128 + (64 + d), by omega⟩

theorem rms_real (hg : ∀ k, ∃ r : ℝ, g (ix2 1 k) = r) (k : Fin 1024) : ∃ r : ℝ, Cert.Ffn.rms (fun k => X (ix2 s k)) (fun k => g (ix2 1 k)) k = r := by
  rw [rms_normed, bits1024]
  exact normed_real _ _ (by norm_num) _ hg k

theorem qlat_real (hq : ∀ k, ∃ r : ℝ, qg (ix2 1 k) = r) (k : Fin 192) : ∃ r : ℝ, qlat X g W qg s k = r := by
  rw [qlat, bits192]
  exact normed_real _ _ (by norm_num) _ hq k

/-- The queries from the two products with padded columns. -/
theorem qval_eq (hq : ∀ k, ∃ r : ℝ, qg (ix2 1 k) = r) (hQ : ∀ k j, ∃ r : ℝ, Q (ix3 1 k j) = r) (h : Fin 4) (d : Fin 128) :
    ((∑ k : Fin 192, qlat X g W qg s k * if h' : d.val < 96 then Q (ix3 1 k ⟨h * 96 + d, by omega⟩) else 0) * wave 1 cs d
      + (∑ k : Fin 192, qlat X g W qg s k * crossed (fun t => Q (ix3 1 k ⟨h * 96 + (64 + t), by omega⟩)) d) * wave 0 sn d) * ((((Real.sqrt 96) * (Real.log 2))⁻¹ : ℝ) : EReal)
      = qval X g W qg Q cs sn s h d := by
  rw [scale, qval]
  refine congrArg (fun y => Ideal.div y _) ?_
  refine (turned (qlat X g W qg s) (fun k t => Q (ix3 1 k ⟨h * 96 + (64 + t), by omega⟩)) (qlat_real X g W qg s hq) (fun k t => hQ k _) cs sn d _ ?_).trans ?_
  · intro h64
    refine Finset.sum_congr rfl fun k _ => congrArg (fun y => qlat X g W qg s k * y) ?_
    unfold straight
    rw [if_neg (by omega)]
    split
    · exact congrArg (fun j => Q (ix3 1 k j)) (Fin.ext (show h.val * 96 + d.val = h.val * 96 + (64 + (d.val - 64)) by omega))
    · rfl
  · refine row_congr _ _ _ _ _ _ fun t ht => ?_
    refine Finset.sum_congr rfl fun k _ => congrArg (fun y => qlat X g W qg s k * y) ?_
    rw [dif_pos (by omega)]
    exact congrArg (fun j => Q (ix3 1 k j)) (Fin.ext (show h.val * 96 + d.val = h.val * 96 + t.val by omega))

/-- The keys from the padded product and the two products with padded columns. -/
theorem kval_eq (hg : ∀ k, ∃ r : ℝ, g (ix2 1 k) = r) (hW : ∀ k j, ∃ r : ℝ, W (ix3 1 k j) = r) (h : Fin 4) (d : Fin 128) :
    (∑ k : Fin 128, klat X g W kg s k * if d.val < 64 then K (ix3 1 k ⟨h * 128 + d, by omega⟩) else 0)
      + ((∑ k : Fin 1024, Cert.Ffn.rms (fun k => X (ix2 s k)) (fun k => g (ix2 1 k)) k * straight (fun t => W (ix3 1 k ⟨1856 + t, by omega⟩)) d) * wave 1 cs d
      + (∑ k : Fin 1024, Cert.Ffn.rms (fun k => X (ix2 s k)) (fun k => g (ix2 1 k)) k * crossed (fun t => W (ix3 1 k ⟨1856 + t, by omega⟩)) d) * wave 0 sn d)
      = kval X g W kg K cs sn s h d := by
  rw [turned (Cert.Ffn.rms (fun k => X (ix2 s k)) (fun k => g (ix2 1 k))) (fun k t => W (ix3 1 k ⟨1856 + t, by omega⟩)) (rms_real X g s hg) (fun k t => hW k _) cs sn d _ (fun _ => rfl)]
  unfold kval row
  by_cases h64 : d.val < 64
  · have z : ∀ k : Fin 1024, straight (fun t => W (ix3 1 k ⟨1856 + t, by omega⟩)) d = 0 := fun k => by rw [straight, if_pos h64]
    rw [dif_pos h64, dif_pos h64]
    simp only [if_pos h64]
    rw [sum_zero _ (fun k => straight (fun t => W (ix3 1 k ⟨1856 + t, by omega⟩)) d) z, add_zero]
    rfl
  · rw [dif_neg h64, dif_neg h64, sum_zero _ _ (fun k => by rw [if_neg h64]), zero_add]
    rfl
end

end Cert.Latent
-- ==== Proof.LatentPayload.lean ====
/- The latent attention's part of the projection kernel's body, at one token and lane. -/
module

public import proofs.«01_k».proof.Proof.Latent
public import proofs.«01_k».proof.Proof.Gen.Kernel8Ideal.Value

@[expose] public section
set_option maxRecDepth 16384
noncomputable section
open Idealize.ShloMosaic Idealize.ShloMosaic.TcCoe Idealize.SL.Sem
namespace Cert.Kernel8Ideal.Latent
open Cert.Kernel8Ideal Cert.Kernel8Ideal.Gen Cert.Latent

theorem norm_at (x : Vec Ideal S512x1024 .f32) (g : Vec Ideal S1x1x1024 .f32) (r : Fin 512) (d : Fin 1024) :
    k0_pay1 x g (ix2 r d) = Cert.Ffn.rms (fun k => x (ix2 r k)) (fun k => g (ix3 0 0 k)) d := by
  pointwise [k0_pay1]
  rfl

theorem cols_at (u : FVec Ideal S512x1024 .bf16) (w : Vec Ideal S1x1024x640 .bf16) (r : Fin 512) (j : Fin 640) :
    k0_pay6 u w (ix2 r j) = ∑ k : Fin 1024, u (ix2 r k) * w (ix3 0 k j) := by
  pointwise [k0_pay6]

theorem ckv_block (u : FVec Ideal S512x1024 .bf16) (w : Vec Ideal S1x1024x640 .bf16) (r : Fin 512) (j : Fin 128) : k0_pay7 u w (ix2 r j) = k0_pay6 u w (ix2 r ⟨256 + j, by omega⟩) := by
  unfold k0_pay7
  generalize k0_pay6 u w = z
  pointwise

theorem kra_block (u : FVec Ideal S512x1024 .bf16) (w : Vec Ideal S1x1024x640 .bf16) (r : Fin 512) (j : Fin 128) : k0_pay8 u w (ix2 r j) = k0_pay6 u w (ix2 r ⟨384 + j, by omega⟩) := by
  unfold k0_pay8
  generalize k0_pay6 u w = z
  pointwise

theorem krb_block (u : FVec Ideal S512x1024 .bf16) (w : Vec Ideal S1x1024x640 .bf16) (r : Fin 512) (j : Fin 128) : k0_pay9 u w (ix2 r j) = k0_pay6 u w (ix2 r ⟨512 + j, by omega⟩) := by
  unfold k0_pay9
  generalize k0_pay6 u w = z
  pointwise

theorem rank_inverse : Named.named (F := Ideal) κ "query_rank_inverse" (φ := .f32) 0x3BAAAAAB#32 = ((192⁻¹ : ℝ) : EReal) :=
  IdealRules.named_const.ideal_named_scalar _ _ _ _ rfl

theorem query_scale : Named.named (F := Ideal) κ "query_scale" (φ := .f32) 0x3E16C740#32 = ((((Real.sqrt 96) * (Real.log 2))⁻¹ : ℝ) : EReal) :=
  IdealRules.named_const.ideal_named_scalar _ _ _ _ rfl

theorem qup_block (u : FVec Ideal S512x1024 .bf16) (w : Vec Ideal S1x1024x640 .bf16) (g : Vec Ideal S1x1x256 .f32) (q : Vec Ideal S1x256x1024 .bf16) (r : Fin 512) (j : Fin 1024) :
    k0_pay12 u w g q (ix2 r j) = ∑ k : Fin 256, (k0_pay6 u w (ix2 r ⟨k, by omega⟩)
      * Ideal.rsqrt ((∑ i : Fin 256, k0_pay6 u w (ix2 r ⟨i, by omega⟩) * k0_pay6 u w (ix2 r ⟨i, by omega⟩)) * ((192⁻¹ : ℝ) : EReal) + Ideal.ofBits .f32 0x358637BD#32) * g (ix3 0 0 k)) * q (ix3 0 k j) := by
  unfold k0_pay12
  rw [rank_inverse]
  generalize k0_pay6 u w = z
  pointwise

theorem rep_at (x : Vec Ideal S512x128 .f32) (r : Fin 512) (h : Fin 4) (d : Fin 128) : k0_pay13 x (ix2 r ⟨h * 128 + d, by omega⟩) = x (ix2 r d) := by
  fin_cases h
  · pointwise [k0_pay13, k0_pay10]
  · pointwise [k0_pay13, k0_pay10]
  · pointwise [k0_pay13, k0_pay10]
    rw [dif_neg (by omega), dif_neg (by omega), dif_pos (by omega)]
    exact congrArg (fun j => x (ix2 r j)) (Fin.ext (show 256 + d.val - 128 - 128 = d.val by omega))
  · pointwise [k0_pay13, k0_pay10]
    rw [dif_neg (by omega), dif_neg (by omega), dif_neg (by omega)]
    exact congrArg (fun j => x (ix2 r j)) (Fin.ext (show 384 + d.val - 128 - 128 - 128 = d.val by omega))

/-- Four copies of a head's lanes. -/
theorem four (x : FVec Ideal S512x128 .f32) (r : Fin 512) (h : Fin 4) (d : Fin 128) :
    concatenate S512x512 1 [⟨S512x128, x⟩, ⟨S512x128, x⟩, ⟨S512x128, x⟩, ⟨S512x128, x⟩] concatenates_S512x128_S512x128_S512x128_S512x128_S512x512_d1 (ix2 r ⟨h * 128 + d, by omega⟩) = x (ix2 r d) := by
  fin_cases h
  · pointwise
  · pointwise
  · pointwise
    rw [dif_neg (by omega), dif_neg (by omega), dif_pos (by omega)]
    exact congrArg (fun j => x (ix2 r j)) (Fin.ext (show 256 + d.val - 128 - 128 = d.val by omega))
  · pointwise
    rw [dif_neg (by omega), dif_neg (by omega), dif_neg (by omega)]
    exact congrArg (fun j => x (ix2 r j)) (Fin.ext (show 384 + d.val - 128 - 128 - 128 = d.val by omega))

theorem q_block (s : FVec Ideal S512x128 .f32) (q : FVec Ideal S512x1024 .f32) (c : FVec Ideal S512x512 .f32) (r : Fin 512) (h : Fin 4) (d : Fin 128) :
    k0_pay14 s q c (ix2 r ⟨h * 128 + d, by omega⟩) = (q (ix2 r ⟨h * 128 + d, by omega⟩) * c (ix2 r ⟨h * 128 + d, by omega⟩)
      + q (ix2 r ⟨512 + (h * 128 + d), by omega⟩) * s (ix2 r d)) * ((((Real.sqrt 96) * (Real.log 2))⁻¹ : ℝ) : EReal) := by
  unfold k0_pay14
  rw [query_scale, ← four s r h d]
  generalize concatenate S512x512 1 [⟨S512x128, s⟩, ⟨S512x128, s⟩, ⟨S512x128, s⟩, ⟨S512x128, s⟩] concatenates_S512x128_S512x128_S512x128_S512x128_S512x512_d1 = z
  pointwise

theorem kvup_block (x : FVec Ideal S512x128 .f32) (g : Vec Ideal S1x1x128 .f32) (w : Vec Ideal S1x128x768 .bf16) (r : Fin 512) (j : Fin 768) :
    k0_pay15 x g w (ix2 r j) = ∑ k : Fin 128, normed (fun k => x (ix2 r k)) (Ideal.ofBits .f32 0x43000000#32) (fun k => g (ix3 0 0 k)) k * w (ix3 0 k j) := by
  pointwise [k0_pay15]
  rfl

theorem k_block (x a b c s : FVec Ideal S512x128 .f32) (g : Vec Ideal S1x1x128 .f32) (w : Vec Ideal S1x128x768 .bf16) (r : Fin 512) (h : Fin 4) (d : Fin 128) :
    k0_pay16 x a b c s g w (ix2 r ⟨h * 128 + d, by omega⟩) = k0_pay15 x g w (ix2 r ⟨h * 128 + d, by omega⟩) + (a (ix2 r d) * c (ix2 r d) + b (ix2 r d) * s (ix2 r d)) := by
  have e := four (addf (mulf a c) (mulf b s)) r h d
  have e' : addf (mulf a c) (mulf b s) (ix2 r d) = (a (ix2 r d) * c (ix2 r d) + b (ix2 r d) * s (ix2 r d) : EReal) := by pointwise
  rw [← e', ← e]
  unfold k0_pay16
  generalize k0_pay15 x g w = z
  generalize concatenate S512x512 1 [⟨S512x128, addf (mulf a c) (mulf b s)⟩, ⟨S512x128, addf (mulf a c) (mulf b s)⟩, ⟨S512x128, addf (mulf a c) (mulf b s)⟩, ⟨S512x128, addf (mulf a c) (mulf b s)⟩]
    concatenates_S512x128_S512x128_S512x128_S512x128_S512x512_d1 = y
  pointwise

theorem v_block (x : FVec Ideal S512x128 .f32) (g : Vec Ideal S1x1x128 .f32) (w : Vec Ideal S1x128x768 .bf16) (r : Fin 512) (j : Fin 256) :
    k0_pay17 x g w (ix2 r j) = k0_pay15 x g w (ix2 r ⟨512 + j, by omega⟩) := by
  unfold k0_pay17
  generalize k0_pay15 x g w = z
  pointwise

theorem same10 (x : Vec Ideal S512x128 .f32) : k0_pay10 x = x := by
  funext i
  idx_vars i
  pointwise [k0_pay10]

theorem same11 (x : Vec Ideal S512x128 .f32) : k0_pay11 x = x := by
  funext i
  idx_vars i
  pointwise [k0_pay11]

theorem ld_cols (x : Vec Ideal S1x1024x2432 .bf16) (k : Fin 1024) (j : Fin 640) : View.ld x r0_9 (ix3 0 k j) = x (ix3 0 k ⟨1792 + j, by omega⟩) := by
  pointwise

section
variable (x0 : Vec Ideal S512x1024 .f32) (x1 : Vec Ideal S1x1x1024 .f32) (x2 : Vec Ideal S1x256x1024 .bf16) (x3 : Vec Ideal S1x1024x2432 .bf16) (x4 : Vec Ideal S1x256x1024 .bf16) (x5 : Vec Ideal S1x128x768 .bf16)
  (x6 : Vec Ideal S1x1x256 .f32) (x7 : Vec Ideal S1x1x128 .f32) (x8 : Vec Ideal S512x128 .f32) (x9 : Vec Ideal S512x128 .f32)

theorem out_eq14 : out0_14 x0 x1 x2 x3 x4 x5 x6 x7 x8 x9 = k0_pay14 x9 (k0_pay12 (k0_pay1 x0 x1) (View.ld x3 r0_9) x6 x4) (k0_pay13 x8) := by
  unfold_out out0_14
  rw [View.canon_unit_zero (by decide)]
  have h0 : View.ld x0 r0_0 = x0 := View.ld_unit_lit _ _ (by decide)
  have h1 : View.ld x1 r0_1 = x1 := View.ld_unit_lit _ _ (by decide)
  have h4 : View.ld x4 r0_2 = x4 := View.ld_unit_lit _ _ (by decide)
  have h6 : View.ld x6 r0_11 = x6 := View.ld_unit_lit _ _ (by decide)
  have h8 : View.ld x8 r0_10 = x8 := View.ld_unit_lit _ _ (by decide)
  have h9 : View.ld x9 r0_10 = x9 := View.ld_unit_lit _ _ (by decide)
  rw [h0, h1, h4, h6, h8, h9]
  first | rw [same11] | (show k0_pay14 (k0_pay11 x9) _ _ = _; rw [same11]); rfl

theorem out_eq15 : out0_15 x0 x1 x2 x3 x4 x5 x6 x7 x8 x9 = k0_pay16 (k0_pay7 (k0_pay1 x0 x1) (View.ld x3 r0_9)) (k0_pay8 (k0_pay1 x0 x1) (View.ld x3 r0_9)) (k0_pay9 (k0_pay1 x0 x1) (View.ld x3 r0_9)) x8 x9 x7 x5 := by
  unfold_out out0_15
  rw [View.canon_unit_zero (by decide)]
  have h0 : View.ld x0 r0_0 = x0 := View.ld_unit_lit _ _ (by decide)
  have h1 : View.ld x1 r0_1 = x1 := View.ld_unit_lit _ _ (by decide)
  have h5 : View.ld x5 r0_14 = x5 := View.ld_unit_lit _ _ (by decide)
  have h7 : View.ld x7 r0_13 = x7 := View.ld_unit_lit _ _ (by decide)
  have h8 : View.ld x8 r0_10 = x8 := View.ld_unit_lit _ _ (by decide)
  have h9 : View.ld x9 r0_10 = x9 := View.ld_unit_lit _ _ (by decide)
  rw [h0, h1, h5, h7, h8, h9, same10]
  first | rw [same11] | (show k0_pay16 _ _ _ _ (k0_pay11 x9) _ _ = _; rw [same11]); rfl

theorem out_eq16 : out0_16 x0 x1 x2 x3 x4 x5 x6 x7 x8 x9 = k0_pay17 (k0_pay7 (k0_pay1 x0 x1) (View.ld x3 r0_9)) x7 x5 := by
  unfold_out out0_16
  rw [View.canon_unit_zero (by decide)]
  have h0 : View.ld x0 r0_0 = x0 := View.ld_unit_lit _ _ (by decide)
  have h1 : View.ld x1 r0_1 = x1 := View.ld_unit_lit _ _ (by decide)
  have h5 : View.ld x5 r0_14 = x5 := View.ld_unit_lit _ _ (by decide)
  have h7 : View.ld x7 r0_13 = x7 := View.ld_unit_lit _ _ (by decide)
  rw [h0, h1, h5, h7]
end

end Cert.Kernel8Ideal.Latent
-- ==== Proof.LatentWeights.lean ====
/- The latent attention's operands of the projection kernel: the columns of the packed weight, the up weights head by head,
   the gains and the rotation's tables, as entries of its arguments. -/
module

public import proofs.«01_k».proof.Proof.Latent
public import proofs.«01_k».proof.Proof.Gen.Kernel8Ideal.Value

@[expose] public section
set_option maxRecDepth 16384
noncomputable section
open Idealize.ShloMosaic Idealize.ShloMosaic.TcCoe Idealize.SL.Sem
namespace Cert.Kernel8Ideal.Latent
open Cert.Kernel8Ideal Cert.Kernel8Ideal.Gen Cert.Latent

variable (m : (ℓ : Loc nD τ sig) → Buf (Elt Ideal) ℓ)

abbrev X (c : Dev nD) : S16384x1024.Idx → EReal := m ((c : Thread nD τ).loc main_arg0)
abbrev gains (c : Dev nD) : S2x1024.Idx → EReal := m ((c : Thread nD τ).loc main_arg1)
abbrev W (c : Dev nD) : S2x1024x7264.Idx → EReal := m ((c : Thread nD τ).loc main_arg2)
abbrev QG (c : Dev nD) : S2x192.Idx → EReal := m ((c : Thread nD τ).loc main_arg3)
abbrev Q (c : Dev nD) : S2x192x384.Idx → EReal := m ((c : Thread nD τ).loc main_arg4)
abbrev KG (c : Dev nD) : S2x128.Idx → EReal := m ((c : Thread nD τ).loc main_arg5)
abbrev KV (c : Dev nD) : S2x128x512.Idx → EReal := m ((c : Thread nD τ).loc main_arg6)

theorem after_append (l k : List (HloOp τ sig (Elt Ideal))) (G : Valuation τ sig (Elt Ideal)) : StableHlo.after (l ++ k) G = StableHlo.after k (StableHlo.after l G) := by
  induction l generalizing G with
  | nil => rfl
  | cons o l ih => exact ih _

/-- The buffers once the packed weight's pieces are cut. -/
def pieces (c : Dev nD) : Valuation τ sig (Elt Ideal) := StableHlo.after (List.take 62 hostOps0) (fun b => m (c, b))

/-- The packed weight, from its pieces. -/
def pack (G : Valuation τ sig (Elt Ideal)) : FVec Ideal S2x1024x2432 .bf16 :=
  truncf .bf16 (concatenate S2x1024x2432 2 [⟨S2x1024x256, (G main_v46 : FVec Ideal S2x1024x256 .f32)⟩, ⟨S2x1024x256, (G main_v49 : FVec Ideal S2x1024x256 .f32)⟩, ⟨S2x1024x256, (G main_v20 : FVec Ideal S2x1024x256 .f32)⟩,
    ⟨S2x1024x256, (G main_v23 : FVec Ideal S2x1024x256 .f32)⟩, ⟨S2x1024x256, (G main_v24 : FVec Ideal S2x1024x256 .f32)⟩, ⟨S2x1024x256, (G main_v25 : FVec Ideal S2x1024x256 .f32)⟩, ⟨S2x1024x256, (G main_v29 : FVec Ideal S2x1024x256 .f32)⟩,
    ⟨S2x1024x192, (G main_v26 : FVec Ideal S2x1024x192 .f32)⟩, ⟨S2x1024x64, (G main_v51 : FVec Ideal S2x1024x64 .f32)⟩, ⟨S2x1024x128, (G main_v27 : FVec Ideal S2x1024x128 .f32)⟩, ⟨S2x1024x128, (G main_v37 : FVec Ideal S2x1024x128 .f32)⟩,
    ⟨S2x1024x128, (G main_v43 : FVec Ideal S2x1024x128 .f32)⟩] concatenates_S2x1024x256_S2x1024x256_S2x1024x256_S2x1024x256_S2x1024x256_S2x1024x256_S2x1024x256_S2x1024x192_S2x1024x64_S2x1024x128_S2x1024x128_S2x1024x128_S2x1024x2432_d2) bitsLt_bf16_f32

theorem pack_eq (c : Dev nD) : V m c main_v55 = pack (pieces m c) := by
  have h : V m c main_v55 = StableHlo.after (List.drop 62 hostOps0 ++ (hostOps0_1 ++ (hostOps0_2 ++ (hostOps0_3 ++ hostOps0_4)))) (pieces m c) main_v55 := by
    unfold pieces
    rw [← after_append, ← List.append_assoc, List.take_append_drop]
    simp only [V, List.flatten_cons, List.flatten_nil, List.append_nil]
  rw [h]
  generalize pieces m c = G
  simp only [hostOps0, hostOps0_1, hostOps0_2, hostOps0_3, hostOps0_4, List.drop_succ_cons, List.drop_zero, List.append_nil, List.cons_append, List.nil_append]
  after_results
  rfl

theorem v26_eq (c : Dev nD) : pieces m c main_v26 = extractStridedSlice S2x1024x192 ![0, 0, 1536] (W m c : FVec Ideal S2x1024x7264 .f32) slices_S2x1024x7264_S2x1024x192_0_0_1536 := by
  unfold pieces
  simp only [hostOps0, List.take_succ_cons, List.take_zero]
  after_results

theorem v27_eq (c : Dev nD) : pieces m c main_v27 = extractStridedSlice S2x1024x128 ![0, 0, 1728] (W m c : FVec Ideal S2x1024x7264 .f32) slices_S2x1024x7264_S2x1024x128_0_0_1728 := by
  unfold pieces
  simp only [hostOps0, List.take_succ_cons, List.take_zero]
  after_results

theorem v51_eq (c : Dev nD) : pieces m c main_v51 = ((broadcastInDim S2x1024x64 ![1, 2] bcast_S1024x64_S2x1024x64_1_2 (broadcastInDim S1024x64 ![] bcast_S_S1024x64 (constant S_ .f32 0x00000000#32))) : FVec Ideal S2x1024x64 .f32) := by
  unfold pieces
  simp only [hostOps0, List.take_succ_cons, List.take_zero]
  after_results

/-- The 32 columns that rotate, in 128, and the same with the halves exchanged and one negated. -/
def keep (h : FVec Ideal S2x1024x32 .f32) : FVec Ideal S2x1024x128 .f32 :=
  concatenate S2x1024x128 2 [⟨S2x1024x64, (broadcastInDim S2x1024x64 ![1, 2] bcast_S1024x64_S2x1024x64_1_2 (broadcastInDim S1024x64 ![] bcast_S_S1024x64 (constant S_ .f32 0x00000000#32)))⟩, ⟨S2x1024x16, extractStridedSlice S2x1024x16 ![0, 0, 0] h slices_S2x1024x32_S2x1024x16_0_0_0⟩,
    ⟨S2x1024x16, extractStridedSlice S2x1024x16 ![0, 0, 16] h slices_S2x1024x32_S2x1024x16_0_0_16⟩, ⟨S2x1024x32, (broadcastInDim S2x1024x32 ![1, 2] bcast_S1024x32_S2x1024x32_1_2 (broadcastInDim S1024x32 ![] bcast_S_S1024x32 (constant S_ .f32 0x00000000#32)))⟩] concatenates_S2x1024x64_S2x1024x16_S2x1024x16_S2x1024x32_S2x1024x128_d2
def cross (h : FVec Ideal S2x1024x32 .f32) : FVec Ideal S2x1024x128 .f32 :=
  concatenate S2x1024x128 2 [⟨S2x1024x64, (broadcastInDim S2x1024x64 ![1, 2] bcast_S1024x64_S2x1024x64_1_2 (broadcastInDim S1024x64 ![] bcast_S_S1024x64 (constant S_ .f32 0x00000000#32)))⟩, ⟨S2x1024x16, Host.negf (extractStridedSlice S2x1024x16 ![0, 0, 16] h slices_S2x1024x32_S2x1024x16_0_0_16)⟩,
    ⟨S2x1024x16, extractStridedSlice S2x1024x16 ![0, 0, 0] h slices_S2x1024x32_S2x1024x16_0_0_0⟩, ⟨S2x1024x32, (broadcastInDim S2x1024x32 ![1, 2] bcast_S1024x32_S2x1024x32_1_2 (broadcastInDim S1024x32 ![] bcast_S_S1024x32 (constant S_ .f32 0x00000000#32)))⟩] concatenates_S2x1024x64_S2x1024x16_S2x1024x16_S2x1024x32_S2x1024x128_d2

theorem v37_eq (c : Dev nD) : pieces m c main_v37 = keep (extractStridedSlice S2x1024x32 ![0, 0, 1856] (W m c : FVec Ideal S2x1024x7264 .f32) slices_S2x1024x7264_S2x1024x32_0_0_1856) := by
  unfold pieces
  simp only [hostOps0, List.take_succ_cons, List.take_zero]
  after_results
  rfl

theorem v43_eq (c : Dev nD) : pieces m c main_v43 = cross (extractStridedSlice S2x1024x32 ![0, 0, 1856] (W m c : FVec Ideal S2x1024x7264 .f32) slices_S2x1024x7264_S2x1024x32_0_0_1856) := by
  unfold pieces
  simp only [hostOps0, List.take_succ_cons, List.take_zero]
  after_results
  rfl

theorem keep_at (h : FVec Ideal S2x1024x32 .f32) (l : Fin 2) (k : Fin 1024) (j : Fin 128) : keep h (ix3 l k j) = straight (fun t => h (ix3 l k t)) j := by
  pointwise [keep, straight]
  split_ifs
  all_goals first | rfl | omega | skip
  all_goals rw [dif_pos (show j.val < 96 by omega)]
  all_goals refine congrArg (fun j => h (ix3 l k j)) (Fin.ext ?_)
  all_goals dsimp only
  all_goals omega

theorem cross_at (h : FVec Ideal S2x1024x32 .f32) (l : Fin 2) (k : Fin 1024) (j : Fin 128) : cross h (ix3 l k j) = crossed (fun t => h (ix3 l k t)) j := by
  pointwise [cross, crossed]
  split_ifs
  all_goals first | rfl | omega | skip
  · rw [dif_pos (show j.val < 80 by omega)]
    refine congrArg (fun j => -h (ix3 l k j)) (Fin.ext ?_)
    dsimp only
    omega
  · rw [dif_neg (show ¬ j.val < 80 by omega), dif_pos (show j.val < 96 by omega)]
    refine congrArg (fun j => h (ix3 l k j)) (Fin.ext ?_)
    dsimp only
    omega

theorem cut192_at (h : FVec Ideal S2x1024x7264 .f32) (o : ℕ) (hs : S2x1024x7264.Slices ![0, 0, o] S2x1024x192) (ho : o + 192 ≤ 7264) (l : Fin 2) (k : Fin 1024) (j : Fin 192) :
    extractStridedSlice S2x1024x192 ![0, 0, o] h hs (ix3 l k j) = h (ix3 l k ⟨o + j, by omega⟩) := by
  pointwise

theorem cut128_at (h : FVec Ideal S2x1024x7264 .f32) (o : ℕ) (hs : S2x1024x7264.Slices ![0, 0, o] S2x1024x128) (ho : o + 128 ≤ 7264) (l : Fin 2) (k : Fin 1024) (j : Fin 128) :
    extractStridedSlice S2x1024x128 ![0, 0, o] h hs (ix3 l k j) = h (ix3 l k ⟨o + j, by omega⟩) := by
  pointwise

theorem cut32_at (h : FVec Ideal S2x1024x7264 .f32) (o : ℕ) (hs : S2x1024x7264.Slices ![0, 0, o] S2x1024x32) (ho : o + 32 ≤ 7264) (l : Fin 2) (k : Fin 1024) (j : Fin 32) :
    extractStridedSlice S2x1024x32 ![0, 0, o] h hs (ix3 l k j) = h (ix3 l k ⟨o + j, by omega⟩) := by
  pointwise

theorem pack_v26 (G : Valuation τ sig (Elt Ideal)) (l : Fin 2) (k : Fin 1024) (j : Fin 192) : pack G (ix3 l k ⟨1792 + j, by omega⟩) = (G main_v26 : FVec Ideal S2x1024x192 .f32) (ix3 l k j) := by
  pointwise [pack]
  rw [dif_neg (by omega), dif_neg (by omega), dif_neg (by omega), dif_neg (by omega), dif_neg (by omega), dif_neg (by omega), dif_neg (by omega), dif_pos (by omega)]
  exact congrArg (fun j => (G main_v26 : FVec Ideal S2x1024x192 .f32) (ix3 l k j)) (Fin.ext (show 1792 + j.val - 256 - 256 - 256 - 256 - 256 - 256 - 256 = j.val by omega))

theorem pack_v51 (G : Valuation τ sig (Elt Ideal)) (l : Fin 2) (k : Fin 1024) (j : Fin 64) : pack G (ix3 l k ⟨1984 + j, by omega⟩) = (G main_v51 : FVec Ideal S2x1024x64 .f32) (ix3 l k j) := by
  pointwise [pack]
  rw [dif_neg (by omega), dif_neg (by omega), dif_neg (by omega), dif_neg (by omega), dif_neg (by omega), dif_neg (by omega), dif_neg (by omega), dif_neg (by omega), dif_pos (by omega)]
  exact congrArg (fun j => (G main_v51 : FVec Ideal S2x1024x64 .f32) (ix3 l k j)) (Fin.ext (show 1984 + j.val - 256 - 256 - 256 - 256 - 256 - 256 - 256 - 192 = j.val by omega))

theorem pack_v27 (G : Valuation τ sig (Elt Ideal)) (l : Fin 2) (k : Fin 1024) (j : Fin 128) : pack G (ix3 l k ⟨2048 + j, by omega⟩) = (G main_v27 : FVec Ideal S2x1024x128 .f32) (ix3 l k j) := by
  pointwise [pack]
  rw [dif_neg (by omega), dif_neg (by omega), dif_neg (by omega), dif_neg (by omega), dif_neg (by omega), dif_neg (by omega), dif_neg (by omega), dif_neg (by omega), dif_neg (by omega), dif_pos (by omega)]
  exact congrArg (fun j => (G main_v27 : FVec Ideal S2x1024x128 .f32) (ix3 l k j)) (Fin.ext (show 2048 + j.val - 256 - 256 - 256 - 256 - 256 - 256 - 256 - 192 - 64 = j.val by omega))

theorem pack_v37 (G : Valuation τ sig (Elt Ideal)) (l : Fin 2) (k : Fin 1024) (j : Fin 128) : pack G (ix3 l k ⟨2176 + j, by omega⟩) = (G main_v37 : FVec Ideal S2x1024x128 .f32) (ix3 l k j) := by
  pointwise [pack]
  rw [dif_neg (by omega), dif_neg (by omega), dif_neg (by omega), dif_neg (by omega), dif_neg (by omega), dif_neg (by omega), dif_neg (by omega), dif_neg (by omega), dif_neg (by omega), dif_neg (by omega), dif_pos (by omega)]
  exact congrArg (fun j => (G main_v37 : FVec Ideal S2x1024x128 .f32) (ix3 l k j)) (Fin.ext (show 2176 + j.val - 256 - 256 - 256 - 256 - 256 - 256 - 256 - 192 - 64 - 128 = j.val by omega))

theorem pack_v43 (G : Valuation τ sig (Elt Ideal)) (l : Fin 2) (k : Fin 1024) (j : Fin 128) : pack G (ix3 l k ⟨2304 + j, by omega⟩) = (G main_v43 : FVec Ideal S2x1024x128 .f32) (ix3 l k j) := by
  pointwise [pack]
  rw [dif_neg (by omega), dif_neg (by omega), dif_neg (by omega), dif_neg (by omega), dif_neg (by omega), dif_neg (by omega), dif_neg (by omega), dif_neg (by omega), dif_neg (by omega), dif_neg (by omega), dif_neg (by omega)]
  exact congrArg (fun j => (G main_v43 : FVec Ideal S2x1024x128 .f32) (ix3 l k j)) (Fin.ext (show 2304 + j.val - 256 - 256 - 256 - 256 - 256 - 256 - 256 - 192 - 64 - 128 - 128 = j.val by omega))

theorem gains_at (c : Dev nD) (l : Fin 2) (d : Fin 1024) : V m c main_v137 (ix3 l 0 d) = gains m c (ix2 l d) := by
  simp only [V, hostOps0, hostOps0_1, hostOps0_2, hostOps0_3, hostOps0_4, List.flatten_cons, List.flatten_nil, List.append_nil, List.cons_append, List.nil_append]
  after_results
  pointwise

theorem cq_at (c : Dev nD) (l : Fin 2) (k : Fin 1024) (j : Fin 192) : V m c main_v55 (ix3 l k ⟨1792 + j, by omega⟩) = W m c (ix3 l k ⟨1536 + j, by omega⟩) := by
  rw [pack_eq]
  exact (pack_v26 _ l k j).trans ((congrFun (v26_eq m c) _).trans (cut192_at _ _ _ (by omega) l k j))

theorem cq_zero (c : Dev nD) (l : Fin 2) (k : Fin 1024) (j : Fin 64) : V m c main_v55 (ix3 l k ⟨1984 + j, by omega⟩) = (0 : EReal) := by
  rw [pack_eq]
  refine (pack_v51 _ l k j).trans ((congrFun (v51_eq m c) _).trans ?_)
  pointwise

theorem ckv_at (c : Dev nD) (l : Fin 2) (k : Fin 1024) (j : Fin 128) : V m c main_v55 (ix3 l k ⟨2048 + j, by omega⟩) = W m c (ix3 l k ⟨1728 + j, by omega⟩) := by
  rw [pack_eq]
  exact (pack_v27 _ l k j).trans ((congrFun (v27_eq m c) _).trans (cut128_at _ _ _ (by omega) l k j))

theorem kra_at (c : Dev nD) (l : Fin 2) (k : Fin 1024) (j : Fin 128) : V m c main_v55 (ix3 l k ⟨2176 + j, by omega⟩) = straight (fun t => W m c (ix3 l k ⟨1856 + t, by omega⟩)) j := by
  rw [pack_eq]
  refine (pack_v37 _ l k j).trans ((congrFun (v37_eq m c) _).trans ((keep_at _ l k j).trans ?_))
  exact congrArg (fun f => straight f j) (funext fun t => cut32_at _ _ _ (by omega) l k t)

theorem krb_at (c : Dev nD) (l : Fin 2) (k : Fin 1024) (j : Fin 128) : V m c main_v55 (ix3 l k ⟨2304 + j, by omega⟩) = crossed (fun t => W m c (ix3 l k ⟨1856 + t, by omega⟩)) j := by
  rw [pack_eq]
  refine (pack_v43 _ l k j).trans ((congrFun (v43_eq m c) _).trans ((cross_at _ l k j).trans ?_))
  exact congrArg (fun f => crossed f j) (funext fun t => cut32_at _ _ _ (by omega) l k t)

end Cert.Kernel8Ideal.Latent
-- ==== Proof.LatentQueries.lean ====
/- The latent attention's up weights as the projection kernel holds them, head by head and padded to 128 lanes. -/
module

public import proofs.«01_k».proof.Proof.LatentWeights
public import proofs.«01_k».proof.Proof.Gen.Kernel8Ideal.Value

@[expose] public section
set_option maxRecDepth 16384
noncomputable section
open Idealize.ShloMosaic Idealize.ShloMosaic.TcCoe Idealize.SL.Sem
namespace Cert.Kernel8Ideal.Latent
open Cert.Kernel8Ideal Cert.Kernel8Ideal.Gen Cert.Latent

variable (m : (ℓ : Loc nD τ sig) → Buf (Elt Ideal) ℓ)

/-- A head's 96 columns in 128, and its last 32 with the halves exchanged and one negated. -/
def keepQ (h : FVec Ideal S2x192x96 .f32) : FVec Ideal S2x192x128 .f32 :=
  concatenate S2x192x128 2 [⟨S2x192x64, extractStridedSlice S2x192x64 ![0, 0, 0] h slices_S2x192x96_S2x192x64_0_0_0⟩, ⟨S2x192x16, extractStridedSlice S2x192x16 ![0, 0, 64] h slices_S2x192x96_S2x192x16_0_0_64⟩,
    ⟨S2x192x16, extractStridedSlice S2x192x16 ![0, 0, 80] h slices_S2x192x96_S2x192x16_0_0_80⟩, ⟨S2x192x32, (broadcastInDim S2x192x32 ![1, 2] bcast_S192x32_S2x192x32_1_2 (broadcastInDim S192x32 ![] bcast_S_S192x32 (constant S_ .f32 0x00000000#32)))⟩] concatenates_S2x192x64_S2x192x16_S2x192x16_S2x192x32_S2x192x128_d2
def crossQ (h : FVec Ideal S2x192x96 .f32) : FVec Ideal S2x192x128 .f32 :=
  concatenate S2x192x128 2 [⟨S2x192x64, (broadcastInDim S2x192x64 ![1, 2] bcast_S192x64_S2x192x64_1_2 (broadcastInDim S192x64 ![] bcast_S_S192x64 (constant S_ .f32 0x00000000#32)))⟩, ⟨S2x192x16, Host.negf (extractStridedSlice S2x192x16 ![0, 0, 80] h slices_S2x192x96_S2x192x16_0_0_80)⟩,
    ⟨S2x192x16, extractStridedSlice S2x192x16 ![0, 0, 64] h slices_S2x192x96_S2x192x16_0_0_64⟩, ⟨S2x192x32, (broadcastInDim S2x192x32 ![1, 2] bcast_S192x32_S2x192x32_1_2 (broadcastInDim S192x32 ![] bcast_S_S192x32 (constant S_ .f32 0x00000000#32)))⟩] concatenates_S2x192x64_S2x192x16_S2x192x16_S2x192x32_S2x192x128_d2

/-- The head of 96 columns that starts at column `96 h`. -/
def headQ (Q : FVec Ideal S2x192x384 .f32) : Fin 4 → FVec Ideal S2x192x96 .f32
  | 0 => extractStridedSlice S2x192x96 ![0, 0, 0] Q slices_S2x192x384_S2x192x96_0_0_0
  | 1 => extractStridedSlice S2x192x96 ![0, 0, 96] Q slices_S2x192x384_S2x192x96_0_0_96
  | 2 => extractStridedSlice S2x192x96 ![0, 0, 192] Q slices_S2x192x384_S2x192x96_0_0_192
  | 3 => extractStridedSlice S2x192x96 ![0, 0, 288] Q slices_S2x192x384_S2x192x96_0_0_288

theorem headQ_at (Q : FVec Ideal S2x192x384 .f32) (h : Fin 4) (l : Fin 2) (k : Fin 192) (d : Fin 96) : headQ Q h (ix3 l k d) = Q (ix3 l k ⟨h * 96 + d, by omega⟩) := by
  fin_cases h
  all_goals pointwise [headQ]

theorem keepQ_at (h : FVec Ideal S2x192x96 .f32) (l : Fin 2) (k : Fin 192) (j : Fin 128) : keepQ h (ix3 l k j) = if h' : j.val < 96 then h (ix3 l k ⟨j, h'⟩) else 0 := by
  pointwise [keepQ]
  split_ifs
  all_goals first | rfl | omega | skip
  all_goals rw [dif_pos (show j.val < 96 by omega)]
  all_goals refine congrArg (fun j => h (ix3 l k j)) (Fin.ext ?_)
  all_goals dsimp only
  all_goals omega

theorem crossQ_at (h : FVec Ideal S2x192x96 .f32) (l : Fin 2) (k : Fin 192) (j : Fin 128) : crossQ h (ix3 l k j) = crossed (fun t => h (ix3 l k ⟨64 + t, by omega⟩)) j := by
  pointwise [crossQ, crossed]
  split_ifs
  all_goals first | rfl | omega | skip
  · rw [dif_pos (show j.val < 80 by omega)]
    refine congrArg (fun j => -h (ix3 l k j)) (Fin.ext ?_)
    dsimp only
    omega
  · rw [dif_neg (show ¬ j.val < 80 by omega), dif_pos (show j.val < 96 by omega)]
    refine congrArg (fun j => h (ix3 l k j)) (Fin.ext ?_)
    dsimp only
    omega

/-- The queries' up weight, with zero rows below. -/
def packQ (a b : Fin 4 → FVec Ideal S2x192x128 .f32) : FVec Ideal S2x256x1024 .bf16 :=
  truncf .bf16 (pad S2x256x1024 ![0, 0, 0] ![0, 64, 0] ![0, 0, 0] (concatenate S2x192x1024 2 [⟨S2x192x128, a 0⟩, ⟨S2x192x128, a 1⟩, ⟨S2x192x128, a 2⟩, ⟨S2x192x128, a 3⟩, ⟨S2x192x128, b 0⟩, ⟨S2x192x128, b 1⟩,
    ⟨S2x192x128, b 2⟩, ⟨S2x192x128, b 3⟩] concatenates_S2x192x128_S2x192x128_S2x192x128_S2x192x128_S2x192x128_S2x192x128_S2x192x128_S2x192x128_S2x192x1024_d2)
    (sitofp .f32 (constantI S_ 32 0#32)) pads_S2x192x1024_S2x256x1024_000_0640_000 h_S_) bitsLt_bf16_f32

/-- The buffers once the queries' up weight is cut. -/
def piecesQ (c : Dev nD) : Valuation τ sig (Elt Ideal) := StableHlo.after (List.take 131 hostOps0) (fun b => m (c, b))

def left (G : Valuation τ sig (Elt Ideal)) : Fin 4 → FVec Ideal S2x192x128 .f32
  | 0 => G main_v63
  | 1 => G main_v76
  | 2 => G main_v89
  | 3 => G main_v102
def right (G : Valuation τ sig (Elt Ideal)) : Fin 4 → FVec Ideal S2x192x128 .f32
  | 0 => G main_v69
  | 1 => G main_v82
  | 2 => G main_v95
  | 3 => G main_v108

theorem packQ_eq (c : Dev nD) : V m c main_v133 = packQ (left (piecesQ m c)) (right (piecesQ m c)) := by
  have h : V m c main_v133 = StableHlo.after (List.drop 131 hostOps0 ++ (hostOps0_1 ++ (hostOps0_2 ++ (hostOps0_3 ++ hostOps0_4)))) (piecesQ m c) main_v133 := by
    unfold piecesQ
    rw [← after_append, ← List.append_assoc, List.take_append_drop]
    simp only [V, List.flatten_cons, List.flatten_nil, List.append_nil]
  rw [h]
  generalize piecesQ m c = G
  simp only [hostOps0, hostOps0_1, hostOps0_2, hostOps0_3, hostOps0_4, List.drop_succ_cons, List.drop_zero, List.append_nil, List.cons_append, List.nil_append]
  after_results
  rfl

theorem v63_eq (c : Dev nD) : piecesQ m c main_v63 = keepQ (headQ (Q m c : FVec Ideal S2x192x384 .f32) 0) := by
  unfold piecesQ
  simp only [hostOps0, List.take_succ_cons, List.take_zero]
  after_results
  rfl

theorem v69_eq (c : Dev nD) : piecesQ m c main_v69 = crossQ (headQ (Q m c : FVec Ideal S2x192x384 .f32) 0) := by
  unfold piecesQ
  simp only [hostOps0, List.take_succ_cons, List.take_zero]
  after_results
  rfl

theorem v76_eq (c : Dev nD) : piecesQ m c main_v76 = keepQ (headQ (Q m c : FVec Ideal S2x192x384 .f32) 1) := by
  unfold piecesQ
  simp only [hostOps0, List.take_succ_cons, List.take_zero]
  after_results
  rfl

theorem v82_eq (c : Dev nD) : piecesQ m c main_v82 = crossQ (headQ (Q m c : FVec Ideal S2x192x384 .f32) 1) := by
  unfold piecesQ
  simp only [hostOps0, List.take_succ_cons, List.take_zero]
  after_results
  rfl

theorem v89_eq (c : Dev nD) : piecesQ m c main_v89 = keepQ (headQ (Q m c : FVec Ideal S2x192x384 .f32) 2) := by
  unfold piecesQ
  simp only [hostOps0, List.take_succ_cons, List.take_zero]
  after_results
  rfl

theorem v95_eq (c : Dev nD) : piecesQ m c main_v95 = crossQ (headQ (Q m c : FVec Ideal S2x192x384 .f32) 2) := by
  unfold piecesQ
  simp only [hostOps0, List.take_succ_cons, List.take_zero]
  after_results
  rfl

theorem v102_eq (c : Dev nD) : piecesQ m c main_v102 = keepQ (headQ (Q m c : FVec Ideal S2x192x384 .f32) 3) := by
  unfold piecesQ
  simp only [hostOps0, List.take_succ_cons, List.take_zero]
  after_results
  rfl

theorem v108_eq (c : Dev nD) : piecesQ m c main_v108 = crossQ (headQ (Q m c : FVec Ideal S2x192x384 .f32) 3) := by
  unfold piecesQ
  simp only [hostOps0, List.take_succ_cons, List.take_zero]
  after_results
  rfl

theorem left_eq (c : Dev nD) (h : Fin 4) : left (piecesQ m c) h = keepQ (headQ (Q m c : FVec Ideal S2x192x384 .f32) h) := by
  fin_cases h
  · exact v63_eq m c
  · exact v76_eq m c
  · exact v89_eq m c
  · exact v102_eq m c

theorem right_eq (c : Dev nD) (h : Fin 4) : right (piecesQ m c) h = crossQ (headQ (Q m c : FVec Ideal S2x192x384 .f32) h) := by
  fin_cases h
  · exact v69_eq m c
  · exact v82_eq m c
  · exact v95_eq m c
  · exact v108_eq m c

theorem packQ_left (a b : Fin 4 → FVec Ideal S2x192x128 .f32) (h : Fin 4) (l : Fin 2) (k : Fin 192) (d : Fin 128) : packQ a b (ix3 l ⟨k, by omega⟩ ⟨h * 128 + d, by omega⟩) = a h (ix3 l k d) := by
  fin_cases h
  · pointwise [packQ]
    rw [dif_pos (by omega)]
  · pointwise [packQ]
    rw [dif_pos (by omega)]
  · pointwise [packQ]
    rw [dif_pos (by omega), dif_neg (by omega), dif_neg (by omega), dif_pos (by omega)]
    exact congrArg (fun j => a 2 (ix3 l k j)) (Fin.ext (show 256 + d.val - 128 - 128 = d.val by omega))
  · pointwise [packQ]
    rw [dif_pos (by omega), dif_neg (by omega), dif_neg (by omega), dif_neg (by omega), dif_pos (by omega)]
    exact congrArg (fun j => a 3 (ix3 l k j)) (Fin.ext (show 384 + d.val - 128 - 128 - 128 = d.val by omega))

theorem packQ_right (a b : Fin 4 → FVec Ideal S2x192x128 .f32) (h : Fin 4) (l : Fin 2) (k : Fin 192) (d : Fin 128) : packQ a b (ix3 l ⟨k, by omega⟩ ⟨512 + (h * 128 + d), by omega⟩) = b h (ix3 l k d) := by
  fin_cases h
  · pointwise [packQ]
    rw [dif_pos (by omega), dif_neg (by omega), dif_neg (by omega), dif_neg (by omega), dif_neg (by omega), dif_pos (by omega)]
    exact congrArg (fun j => b 0 (ix3 l k j)) (Fin.ext (show 512 + d.val - 128 - 128 - 128 - 128 = d.val by omega))
  · pointwise [packQ]
    rw [dif_pos (by omega), dif_neg (by omega), dif_neg (by omega), dif_neg (by omega), dif_neg (by omega), dif_neg (by omega), dif_pos (by omega)]
    exact congrArg (fun j => b 1 (ix3 l k j)) (Fin.ext (show 512 + (128 + d.val) - 128 - 128 - 128 - 128 - 128 = d.val by omega))
  · pointwise [packQ]
    rw [dif_pos (by omega), dif_neg (by omega), dif_neg (by omega), dif_neg (by omega), dif_neg (by omega), dif_neg (by omega), dif_neg (by omega), dif_pos (by omega)]
    exact congrArg (fun j => b 2 (ix3 l k j)) (Fin.ext (show 512 + (256 + d.val) - 128 - 128 - 128 - 128 - 128 - 128 = d.val by omega))
  · pointwise [packQ]
    rw [dif_pos (by omega), dif_neg (by omega), dif_neg (by omega), dif_neg (by omega), dif_neg (by omega), dif_neg (by omega), dif_neg (by omega), dif_neg (by omega)]
    exact congrArg (fun j => b 3 (ix3 l k j)) (Fin.ext (show 512 + (384 + d.val) - 128 - 128 - 128 - 128 - 128 - 128 - 128 = d.val by omega))

theorem packQ_zero (a b : Fin 4 → FVec Ideal S2x192x128 .f32) (l : Fin 2) (k : Fin 64) (j : Fin 1024) : packQ a b (ix3 l ⟨192 + k, by omega⟩ j) = 0 := by
  pointwise [packQ]
  show (((0#32 : BitVec 32).toInt : ℝ) : EReal) = 0
  simp

theorem wqa_at (c : Dev nD) (l : Fin 2) (k : Fin 192) (h : Fin 4) (d : Fin 128) : V m c main_v133 (ix3 l ⟨k, by omega⟩ ⟨h * 128 + d, by omega⟩) = if h' : d.val < 96 then Q m c (ix3 l k ⟨h * 96 + d, by omega⟩) else 0 := by
  rw [packQ_eq]
  refine (packQ_left _ _ h l k d).trans ((congrFun (left_eq m c h) _).trans ((keepQ_at _ l k d).trans ?_))
  split
  · exact headQ_at _ h l k _
  · rfl

theorem wqb_at (c : Dev nD) (l : Fin 2) (k : Fin 192) (h : Fin 4) (d : Fin 128) : V m c main_v133 (ix3 l ⟨k, by omega⟩ ⟨512 + (h * 128 + d), by omega⟩) = crossed (fun t => Q m c (ix3 l k ⟨h * 96 + (64 + t), by omega⟩)) d := by
  rw [packQ_eq]
  refine (packQ_right _ _ h l k d).trans ((congrFun (right_eq m c h) _).trans ((crossQ_at _ l k d).trans ?_))
  exact congrArg (fun f => crossed f d) (funext fun t => headQ_at _ h l k ⟨64 + t, by omega⟩)

theorem wq_zero (c : Dev nD) (l : Fin 2) (k : Fin 64) (j : Fin 1024) : V m c main_v133 (ix3 l ⟨192 + k, by omega⟩ j) = (0 : EReal) := by
  rw [packQ_eq]
  exact packQ_zero _ _ l k j

end Cert.Kernel8Ideal.Latent
-- ==== Proof.LatentKeys.lean ====
/- The latent attention's other operands of the projection kernel: the keys' and values' up weight head by head, the gains,
   and the rotation's tables. -/
module

public import proofs.«01_k».proof.Proof.LatentWeights

@[expose] public section
set_option maxRecDepth 16384
noncomputable section
open Idealize.ShloMosaic Idealize.ShloMosaic.TcCoe Idealize.SL.Sem
namespace Cert.Kernel8Ideal.Latent
open Cert.Kernel8Ideal Cert.Kernel8Ideal.Gen Cert.Latent

/-- The head of 128 columns that starts at column `128 h`. -/
def headK (K : FVec Ideal S2x128x512 .f32) : Fin 4 → FVec Ideal S2x128x128 .f32
  | 0 => extractStridedSlice S2x128x128 ![0, 0, 0] K slices_S2x128x512_S2x128x128_0_0_0
  | 1 => extractStridedSlice S2x128x128 ![0, 0, 128] K slices_S2x128x512_S2x128x128_0_0_128
  | 2 => extractStridedSlice S2x128x128 ![0, 0, 256] K slices_S2x128x512_S2x128x128_0_0_256
  | 3 => extractStridedSlice S2x128x128 ![0, 0, 384] K slices_S2x128x512_S2x128x128_0_0_384

theorem headK_at (K : FVec Ideal S2x128x512 .f32) (h : Fin 4) (l : Fin 2) (k : Fin 128) (d : Fin 128) : headK K h (ix3 l k d) = K (ix3 l k ⟨h * 128 + d, by omega⟩) := by
  fin_cases h
  all_goals pointwise [headK]

/-- A head's keys, padded to 128 lanes, and its values. -/
def keyK (h : FVec Ideal S2x128x128 .f32) : FVec Ideal S2x128x128 .f32 :=
  concatenate S2x128x128 2 [⟨S2x128x64, extractStridedSlice S2x128x64 ![0, 0, 0] h slices_S2x128x128_S2x128x64_0_0_0⟩,
    ⟨S2x128x64, broadcastInDim S2x128x64 ![1, 2] bcast_S128x64_S2x128x64_1_2 (broadcastInDim S128x64 ![] bcast_S_S128x64 (constant S_ .f32 0x00000000#32))⟩] concatenates_S2x128x64_S2x128x64_S2x128x128_d2
def valK (h : FVec Ideal S2x128x128 .f32) : FVec Ideal S2x128x64 .f32 := extractStridedSlice S2x128x64 ![0, 0, 64] h slices_S2x128x128_S2x128x64_0_0_64

theorem keyK_at (h : FVec Ideal S2x128x128 .f32) (l : Fin 2) (k : Fin 128) (j : Fin 128) : keyK h (ix3 l k j) = if j.val < 64 then h (ix3 l k j) else 0 := by
  pointwise [keyK]
  split_ifs
  all_goals rfl

theorem valK_at (h : FVec Ideal S2x128x128 .f32) (l : Fin 2) (k : Fin 128) (j : Fin 64) : valK h (ix3 l k j) = h (ix3 l k ⟨64 + j, by omega⟩) := by
  pointwise [valK]

/-- The keys' and values' up weight. -/
def packK (a : Fin 4 → FVec Ideal S2x128x128 .f32) (b : Fin 4 → FVec Ideal S2x128x64 .f32) : FVec Ideal S2x128x768 .bf16 :=
  truncf .bf16 (concatenate S2x128x768 2 [⟨S2x128x128, a 0⟩, ⟨S2x128x128, a 1⟩, ⟨S2x128x128, a 2⟩, ⟨S2x128x128, a 3⟩, ⟨S2x128x64, b 0⟩, ⟨S2x128x64, b 1⟩,
    ⟨S2x128x64, b 2⟩, ⟨S2x128x64, b 3⟩] concatenates_S2x128x128_S2x128x128_S2x128x128_S2x128x128_S2x128x64_S2x128x64_S2x128x64_S2x128x64_S2x128x768_d2) bitsLt_bf16_f32

theorem packK_key (a : Fin 4 → FVec Ideal S2x128x128 .f32) (b : Fin 4 → FVec Ideal S2x128x64 .f32) (h : Fin 4) (l : Fin 2) (k : Fin 128) (d : Fin 128) : packK a b (ix3 l k ⟨h * 128 + d, by omega⟩) = a h (ix3 l k d) := by
  fin_cases h
  · pointwise [packK]
  · pointwise [packK]
  · pointwise [packK]
    rw [dif_neg (by omega), dif_neg (by omega), dif_pos (by omega)]
    exact congrArg (fun j => a 2 (ix3 l k j)) (Fin.ext (show 256 + d.val - 128 - 128 = d.val by omega))
  · pointwise [packK]
    rw [dif_neg (by omega), dif_neg (by omega), dif_neg (by omega), dif_pos (by omega)]
    exact congrArg (fun j => a 3 (ix3 l k j)) (Fin.ext (show 384 + d.val - 128 - 128 - 128 = d.val by omega))

theorem packK_val (a : Fin 4 → FVec Ideal S2x128x128 .f32) (b : Fin 4 → FVec Ideal S2x128x64 .f32) (h : Fin 4) (l : Fin 2) (k : Fin 128) (d : Fin 64) : packK a b (ix3 l k ⟨512 + (h * 64 + d), by omega⟩) = b h (ix3 l k d) := by
  fin_cases h
  · pointwise [packK]
    rw [dif_neg (by omega), dif_neg (by omega), dif_neg (by omega), dif_neg (by omega), dif_pos (by omega)]
    exact congrArg (fun j => b 0 (ix3 l k j)) (Fin.ext (show 512 + d.val - 128 - 128 - 128 - 128 = d.val by omega))
  · pointwise [packK]
    rw [dif_neg (by omega), dif_neg (by omega), dif_neg (by omega), dif_neg (by omega), dif_neg (by omega), dif_pos (by omega)]
    exact congrArg (fun j => b 1 (ix3 l k j)) (Fin.ext (show 512 + (64 + d.val) - 128 - 128 - 128 - 128 - 64 = d.val by omega))
  · pointwise [packK]
    rw [dif_neg (by omega), dif_neg (by omega), dif_neg (by omega), dif_neg (by omega), dif_neg (by omega), dif_neg (by omega), dif_pos (by omega)]
    exact congrArg (fun j => b 2 (ix3 l k j)) (Fin.ext (show 512 + (128 + d.val) - 128 - 128 - 128 - 128 - 64 - 64 = d.val by omega))
  · pointwise [packK]
    rw [dif_neg (by omega), dif_neg (by omega), dif_neg (by omega), dif_neg (by omega), dif_neg (by omega), dif_neg (by omega), dif_neg (by omega)]
    exact congrArg (fun j => b 3 (ix3 l k j)) (Fin.ext (show 512 + (192 + d.val) - 128 - 128 - 128 - 128 - 64 - 64 - 64 = d.val by omega))

/-- The angle of every position and pair of lanes. -/
def angle : FVec Ideal S8192x16 .f32 :=
  mulf (broadcastInDim S8192x16 ![0, 1] bcast_S8192x1_S8192x16_0_1 (broadcastInDim S8192x1 ![0] bcast_S8192_S8192x1_0 (sitofp .f32 (iotaInDim S8192 32 0))))
    (broadcastInDim S8192x16 ![0, 1] bcast_S1x16_S8192x16_0_1 (broadcastInDim S1x16 ![1] bcast_S16_S1x16_1 (Host.powf (broadcastInDim S16 ![] bcast_S_S16 (constant S_ .f32 0x461C4000#32))
      (Host.divf (Host.negf (sitofp .f32 (iotaInDim S16 32 0))) (broadcastInDim S16 ![] bcast_S_S16 (constant S_ .f32 0x41800000#32))))))

/-- A table of 128 lanes per position. -/
def table128 (z : FVec Ideal S8192x64 .f32) (a : FVec Ideal S8192x16 .f32) (o : FVec Ideal S8192x32 .f32) : FVec Ideal S8192x128 .f32 :=
  concatenate S8192x128 1 [⟨S8192x64, z⟩, ⟨S8192x16, a⟩, ⟨S8192x16, a⟩, ⟨S8192x32, o⟩] concatenates_S8192x64_S8192x16_S8192x16_S8192x32_S8192x128_d1

theorem cos_at (a : FVec Ideal S8192x16 .f32) (p : Fin 8192) (d : Fin 128) :
    table128 (broadcastInDim S8192x64 ![] bcast_S_S8192x64 (constant S_ .f32 0x3F800000#32)) a (broadcastInDim S8192x32 ![] bcast_S_S8192x32 (constant S_ .f32 0x00000000#32)) (ix2 p d)
      = wave 1 (fun t => a (ix2 p t)) d := by
  pointwise [table128, wave]
  split_ifs
  all_goals first | rfl | omega | skip
  all_goals first | rw [dif_pos (show d.val < 80 by omega)] | rw [dif_neg (show ¬ d.val < 80 by omega), dif_pos (show d.val < 96 by omega)] | skip
  all_goals refine congrArg (fun j => a (ix2 p j)) (Fin.ext ?_)
  all_goals dsimp only
  all_goals omega

theorem sin_at (a : FVec Ideal S8192x16 .f32) (p : Fin 8192) (d : Fin 128) :
    table128 (broadcastInDim S8192x64 ![] bcast_S_S8192x64 (constant S_ .f32 0x00000000#32)) a (broadcastInDim S8192x32 ![] bcast_S_S8192x32 (constant S_ .f32 0x00000000#32)) (ix2 p d)
      = wave 0 (fun t => a (ix2 p t)) d := by
  pointwise [table128, wave]
  split_ifs
  all_goals first | rfl | omega | skip
  all_goals first | rw [dif_pos (show d.val < 80 by omega)] | rw [dif_neg (show ¬ d.val < 80 by omega), dif_pos (show d.val < 96 by omega)] | skip
  all_goals refine congrArg (fun j => a (ix2 p j)) (Fin.ext ?_)
  all_goals dsimp only
  all_goals omega

variable (m : (ℓ : Loc nD τ sig) → Buf (Elt Ideal) ℓ)

/-- The buffers once the tables' pieces are computed. -/
def piecesT (c : Dev nD) : Valuation τ sig (Elt Ideal) := StableHlo.after (List.take 22 hostOps0) (fun b => m (c, b))

theorem v17_split (c : Dev nD) : V m c main_v17 = table128 (piecesT m c main_v14) (piecesT m c main_v12) (piecesT m c main_v16) := by
  have h : V m c main_v17 = StableHlo.after (List.drop 22 hostOps0 ++ (hostOps0_1 ++ (hostOps0_2 ++ (hostOps0_3 ++ hostOps0_4)))) (piecesT m c) main_v17 := by
    unfold piecesT
    rw [← after_append, ← List.append_assoc, List.take_append_drop]
    simp only [V, List.flatten_cons, List.flatten_nil, List.append_nil]
  rw [h]
  generalize piecesT m c = G
  simp only [hostOps0, hostOps0_1, hostOps0_2, hostOps0_3, hostOps0_4, List.drop_succ_cons, List.drop_zero, List.append_nil, List.cons_append, List.nil_append]
  after_results
  rfl

theorem v18_split (c : Dev nD) : V m c main_v18 = table128 (piecesT m c main_v15) (piecesT m c main_v13) (piecesT m c main_v16) := by
  have h : V m c main_v18 = StableHlo.after (List.drop 22 hostOps0 ++ (hostOps0_1 ++ (hostOps0_2 ++ (hostOps0_3 ++ hostOps0_4)))) (piecesT m c) main_v18 := by
    unfold piecesT
    rw [← after_append, ← List.append_assoc, List.take_append_drop]
    simp only [V, List.flatten_cons, List.flatten_nil, List.append_nil]
  rw [h]
  generalize piecesT m c = G
  simp only [hostOps0, hostOps0_1, hostOps0_2, hostOps0_3, hostOps0_4, List.drop_succ_cons, List.drop_zero, List.append_nil, List.cons_append, List.nil_append]
  after_results
  rfl

theorem v12_eq (c : Dev nD) : piecesT m c main_v12 = Host.cos angle := by
  unfold piecesT
  simp only [hostOps0, List.take_succ_cons, List.take_zero]
  after_results
  try rfl

theorem v13_eq (c : Dev nD) : piecesT m c main_v13 = Host.sin angle := by
  unfold piecesT
  simp only [hostOps0, List.take_succ_cons, List.take_zero]
  after_results
  try rfl

theorem v14_eq (c : Dev nD) : piecesT m c main_v14 = (broadcastInDim S8192x64 ![] bcast_S_S8192x64 (constant S_ .f32 0x3F800000#32) : FVec Ideal S8192x64 .f32) := by
  unfold piecesT
  simp only [hostOps0, List.take_succ_cons, List.take_zero]
  after_results
  try rfl

theorem v15_eq (c : Dev nD) : piecesT m c main_v15 = (broadcastInDim S8192x64 ![] bcast_S_S8192x64 (constant S_ .f32 0x00000000#32) : FVec Ideal S8192x64 .f32) := by
  unfold piecesT
  simp only [hostOps0, List.take_succ_cons, List.take_zero]
  after_results
  try rfl

theorem v16_eq (c : Dev nD) : piecesT m c main_v16 = (broadcastInDim S8192x32 ![] bcast_S_S8192x32 (constant S_ .f32 0x00000000#32) : FVec Ideal S8192x32 .f32) := by
  unfold piecesT
  simp only [hostOps0, List.take_succ_cons, List.take_zero]
  after_results
  try rfl

theorem v17_at (c : Dev nD) (p : Fin 8192) (d : Fin 128) : V m c main_v17 (ix2 p d) = wave 1 (fun t => Host.cos angle (ix2 p t)) d := by
  rw [v17_split, v14_eq, v12_eq, v16_eq]
  exact cos_at _ p d

theorem v18_at (c : Dev nD) (p : Fin 8192) (d : Fin 128) : V m c main_v18 (ix2 p d) = wave 0 (fun t => Host.sin angle (ix2 p t)) d := by
  rw [v18_split, v15_eq, v13_eq, v16_eq]
  exact sin_at _ p d

/-- The queries' gains, with zeros behind. -/
def padG (g : FVec Ideal S2x192 .f32) : FVec Ideal S2x1x256 .f32 :=
  shapeCast S2x1x256 (pad S2x256 ![0, 0] ![0, 64] ![0, 0] g (sitofp .f32 (constantI S_ 32 0#32)) pads_S2x192_S2x256_000_0640 h_S_) shapeCasts_S2x256_S2x1x256

theorem padG_at (g : FVec Ideal S2x192 .f32) (l : Fin 2) (k : Fin 192) : padG g (ix3 l 0 ⟨k, by omega⟩) = g (ix2 l k) := by
  pointwise [padG]

theorem v136_eq (c : Dev nD) : V m c main_v136 = padG (QG m c : FVec Ideal S2x192 .f32) := by
  simp only [V, hostOps0, hostOps0_1, hostOps0_2, hostOps0_3, hostOps0_4, List.flatten_cons, List.flatten_nil, List.append_nil, List.cons_append, List.nil_append]
  after_results
  rfl

theorem kgains_at (c : Dev nD) (l : Fin 2) (d : Fin 128) : V m c main_v138 (ix3 l 0 d) = KG m c (ix2 l d) := by
  simp only [V, hostOps0, hostOps0_1, hostOps0_2, hostOps0_3, hostOps0_4, List.flatten_cons, List.flatten_nil, List.append_nil, List.cons_append, List.nil_append]
  after_results
  pointwise

/-- The buffers once the keys' and values' up weight is cut. -/
def piecesK (c : Dev nD) : Valuation τ sig (Elt Ideal) := StableHlo.after (hostOps0 ++ (hostOps0_1 ++ List.take 22 hostOps0_2)) (fun b => m (c, b))

def keys (G : Valuation τ sig (Elt Ideal)) : Fin 4 → FVec Ideal S2x128x128 .f32
  | 0 => G main_v115
  | 1 => G main_v120
  | 2 => G main_v125
  | 3 => G main_v130
def vals (G : Valuation τ sig (Elt Ideal)) : Fin 4 → FVec Ideal S2x128x64 .f32
  | 0 => G main_v116
  | 1 => G main_v121
  | 2 => G main_v126
  | 3 => G main_v131

theorem packK_eq (c : Dev nD) : V m c main_v134 = packK (keys (piecesK m c)) (vals (piecesK m c)) := by
  have h : V m c main_v134 = StableHlo.after (List.drop 22 hostOps0_2 ++ (hostOps0_3 ++ hostOps0_4)) (piecesK m c) main_v134 := by
    unfold piecesK
    rw [← after_append]
    have e : hostOps0 ++ (hostOps0_1 ++ List.take 22 hostOps0_2) ++ (List.drop 22 hostOps0_2 ++ (hostOps0_3 ++ hostOps0_4)) = (hostOps0 ++ (hostOps0_1 ++ (hostOps0_2 ++ (hostOps0_3 ++ hostOps0_4))) : List (HloOp τ sig (Elt Ideal))) := by
      rw [List.append_assoc, List.append_assoc, ← List.append_assoc (List.take 22 hostOps0_2), List.take_append_drop]
    rw [e]
    simp only [V, List.flatten_cons, List.flatten_nil, List.append_nil]
  rw [h]
  generalize piecesK m c = G
  simp only [hostOps0_2, hostOps0_3, hostOps0_4, List.drop_succ_cons, List.drop_zero, List.append_nil, List.cons_append, List.nil_append]
  after_results
  rfl

theorem v115_eq (c : Dev nD) : piecesK m c main_v115 = keyK (headK (KV m c : FVec Ideal S2x128x512 .f32) 0) := by
  unfold piecesK
  simp only [hostOps0, hostOps0_1, hostOps0_2, List.take_succ_cons, List.take_zero, List.cons_append, List.nil_append]
  after_results
  rfl

theorem v116_eq (c : Dev nD) : piecesK m c main_v116 = valK (headK (KV m c : FVec Ideal S2x128x512 .f32) 0) := by
  unfold piecesK
  simp only [hostOps0, hostOps0_1, hostOps0_2, List.take_succ_cons, List.take_zero, List.cons_append, List.nil_append]
  after_results
  rfl

theorem v120_eq (c : Dev nD) : piecesK m c main_v120 = keyK (headK (KV m c : FVec Ideal S2x128x512 .f32) 1) := by
  unfold piecesK
  simp only [hostOps0, hostOps0_1, hostOps0_2, List.take_succ_cons, List.take_zero, List.cons_append, List.nil_append]
  after_results
  rfl

theorem v121_eq (c : Dev nD) : piecesK m c main_v121 = valK (headK (KV m c : FVec Ideal S2x128x512 .f32) 1) := by
  unfold piecesK
  simp only [hostOps0, hostOps0_1, hostOps0_2, List.take_succ_cons, List.take_zero, List.cons_append, List.nil_append]
  after_results
  rfl

theorem v125_eq (c : Dev nD) : piecesK m c main_v125 = keyK (headK (KV m c : FVec Ideal S2x128x512 .f32) 2) := by
  unfold piecesK
  simp only [hostOps0, hostOps0_1, hostOps0_2, List.take_succ_cons, List.take_zero, List.cons_append, List.nil_append]
  after_results
  rfl

theorem v126_eq (c : Dev nD) : piecesK m c main_v126 = valK (headK (KV m c : FVec Ideal S2x128x512 .f32) 2) := by
  unfold piecesK
  simp only [hostOps0, hostOps0_1, hostOps0_2, List.take_succ_cons, List.take_zero, List.cons_append, List.nil_append]
  after_results
  rfl

theorem v130_eq (c : Dev nD) : piecesK m c main_v130 = keyK (headK (KV m c : FVec Ideal S2x128x512 .f32) 3) := by
  unfold piecesK
  simp only [hostOps0, hostOps0_1, hostOps0_2, List.take_succ_cons, List.take_zero, List.cons_append, List.nil_append]
  after_results
  rfl

theorem v131_eq (c : Dev nD) : piecesK m c main_v131 = valK (headK (KV m c : FVec Ideal S2x128x512 .f32) 3) := by
  unfold piecesK
  simp only [hostOps0, hostOps0_1, hostOps0_2, List.take_succ_cons, List.take_zero, List.cons_append, List.nil_append]
  after_results
  rfl

theorem keys_eq (c : Dev nD) (h : Fin 4) : keys (piecesK m c) h = keyK (headK (KV m c : FVec Ideal S2x128x512 .f32) h) := by
  fin_cases h
  · exact v115_eq m c
  · exact v120_eq m c
  · exact v125_eq m c
  · exact v130_eq m c

theorem vals_eq (c : Dev nD) (h : Fin 4) : vals (piecesK m c) h = valK (headK (KV m c : FVec Ideal S2x128x512 .f32) h) := by
  fin_cases h
  · exact v116_eq m c
  · exact v121_eq m c
  · exact v126_eq m c
  · exact v131_eq m c

theorem wk_at (c : Dev nD) (l : Fin 2) (k : Fin 128) (h : Fin 4) (d : Fin 128) : V m c main_v134 (ix3 l k ⟨h * 128 + d, by omega⟩) = if d.val < 64 then KV m c (ix3 l k ⟨h * 128 + d, by omega⟩) else 0 := by
  rw [packK_eq]
  refine (packK_key _ _ h l k d).trans ((congrFun (keys_eq m c h) _).trans ((keyK_at _ l k d).trans ?_))
  rw [headK_at]

theorem wv_at (c : Dev nD) (l : Fin 2) (k : Fin 128) (h : Fin 4) (d : Fin 64) : V m c main_v134 (ix3 l k ⟨512 + (h * 64 + d), by omega⟩) = KV m c (ix3 l k ⟨h * 128 + (64 + d), by omega⟩) := by
  rw [packK_eq]
  exact (packK_val _ _ h l k d).trans ((congrFun (vals_eq m c h) _).trans ((valK_at _ l k d).trans (headK_at _ h l k ⟨64 + d, by omega⟩)))

end Cert.Kernel8Ideal.Latent
-- ==== Proof.LatentBlock.lean ====
/- The latent attention's result arrays of the projection kernel: each grid point's blocks of 512 tokens, and all of them. -/
module

public import proofs.«01_k».proof.Proof.LatentPayload
public import proofs.«01_k».proof.Proof.LatentQueries
public import proofs.«01_k».proof.Proof.LatentKeys

@[expose] public section
set_option maxRecDepth 16384
noncomputable section
open Idealize.ShloMosaic Idealize.ShloMosaic.TcCoe Idealize.SL.Sem
namespace Cert.Kernel8Ideal.Latent
open Cert.Kernel8Ideal Cert.Kernel8Ideal.Gen Cert.Latent

variable (m : (ℓ : Loc nD τ sig) → Buf (Elt Ideal) ℓ)

theorem idx : ∀ t : Fin cfg0.N, win0_0.index t = ![t.val, 0] ∧ win0_1.index t = ![1, 0, 0] ∧ win0_3.index t = ![1, 0, 0] ∧ win0_4.index t = ![1, 0, 0] ∧ win0_5.index t = ![1, 0, 0]
    ∧ win0_6.index t = ![1, 0, 0] ∧ win0_7.index t = ![1, 0, 0] ∧ win0_8.index t = ![t.val % 16, 0] ∧ win0_9.index t = ![t.val % 16, 0]
    ∧ win0_14.index t = ![t.val, 0] ∧ win0_15.index t = ![t.val, 0] ∧ win0_16.index t = ![t.val, 0] :=
  (by decide +kernel : ∀ t : Fin grid0.N, _)

theorem x_emb (t : Fin cfg0.N) (ht : t.val < 32) (r : Fin 512) (d : Fin 1024) : (win0_0.blk t).view.emb (ix2 r d) = (ix2 ⟨t * 512 + r, by omega⟩ d : S16384x1024.Idx) := by
  funext a
  fin_cases a <;> apply Fin.ext <;> blk_simp [idx t]
  all_goals simp [ix2]
theorem x_blk (c : Dev nD) (t : Fin cfg0.N) (ht : t.val < 32) (r : Fin 512) (d : Fin 1024) : (iblk m c 0 t : S512x1024.Idx → EReal) (ix2 r d) = X m c (ix2 ⟨t * 512 + r, by omega⟩ d) := by
  have h : X m c = V m c main_arg0 := (V_main_arg0 m c).symm
  rw [h, ← x_emb t ht r d]
  unfold iblk
  exact (View.read_apply _ _).trans (cast_eq _ _)

theorem g_emb (t : Fin cfg0.N) (d : Fin 1024) : (win0_1.blk t).view.emb (ix3 0 0 d) = (ix3 1 0 d : S2x1x1024.Idx) := by
  funext a
  fin_cases a <;> apply Fin.ext <;> blk_simp [idx t]
  all_goals simp [ix3]
theorem g_blk (c : Dev nD) (t : Fin cfg0.N) (d : Fin 1024) : (iblk m c 1 t : S1x1x1024.Idx → EReal) (ix3 0 0 d) = gains m c (ix2 1 d) := by
  rw [← gains_at m c, ← g_emb t d]
  unfold iblk
  exact (View.read_apply _ _).trans (cast_eq _ _)

theorem w_emb (t : Fin cfg0.N) (k : Fin 1024) (j : Fin 2432) : (win0_3.blk t).view.emb (ix3 0 k j) = (ix3 1 k j : S2x1024x2432.Idx) := by
  funext a
  fin_cases a <;> apply Fin.ext <;> blk_simp [idx t]
  all_goals simp [ix3]
theorem w_blk (c : Dev nD) (t : Fin cfg0.N) (k : Fin 1024) (j : Fin 2432) : (iblk m c 3 t : S1x1024x2432.Idx → EReal) (ix3 0 k j) = V m c main_v55 (ix3 1 k j) := by
  rw [← w_emb t k j]
  unfold iblk
  exact (View.read_apply _ _).trans (cast_eq _ _)

theorem wq_emb (t : Fin cfg0.N) (k : Fin 256) (j : Fin 1024) : (win0_4.blk t).view.emb (ix3 0 k j) = (ix3 1 k j : S2x256x1024.Idx) := by
  funext a
  fin_cases a <;> apply Fin.ext <;> blk_simp [idx t]
  all_goals simp [ix3]
theorem wq_blk (c : Dev nD) (t : Fin cfg0.N) (k : Fin 256) (j : Fin 1024) : (iblk m c 4 t : S1x256x1024.Idx → EReal) (ix3 0 k j) = V m c main_v133 (ix3 1 k j) := by
  rw [← wq_emb t k j]
  unfold iblk
  exact (View.read_apply _ _).trans (cast_eq _ _)

theorem wkv_emb (t : Fin cfg0.N) (k : Fin 128) (j : Fin 768) : (win0_5.blk t).view.emb (ix3 0 k j) = (ix3 1 k j : S2x128x768.Idx) := by
  funext a
  fin_cases a <;> apply Fin.ext <;> blk_simp [idx t]
  all_goals simp [ix3]
theorem wkv_blk (c : Dev nD) (t : Fin cfg0.N) (k : Fin 128) (j : Fin 768) : (iblk m c 5 t : S1x128x768.Idx → EReal) (ix3 0 k j) = V m c main_v134 (ix3 1 k j) := by
  rw [← wkv_emb t k j]
  unfold iblk
  exact (View.read_apply _ _).trans (cast_eq _ _)

theorem qg_emb (t : Fin cfg0.N) (k : Fin 256) : (win0_6.blk t).view.emb (ix3 0 0 k) = (ix3 1 0 k : S2x1x256.Idx) := by
  funext a
  fin_cases a <;> apply Fin.ext <;> blk_simp [idx t]
  all_goals simp [ix3]
theorem qg_blk (c : Dev nD) (t : Fin cfg0.N) (k : Fin 256) : (iblk m c 6 t : S1x1x256.Idx → EReal) (ix3 0 0 k) = V m c main_v136 (ix3 1 0 k) := by
  rw [← qg_emb t k]
  unfold iblk
  exact (View.read_apply _ _).trans (cast_eq _ _)

theorem kg_emb (t : Fin cfg0.N) (k : Fin 128) : (win0_7.blk t).view.emb (ix3 0 0 k) = (ix3 1 0 k : S2x1x128.Idx) := by
  funext a
  fin_cases a <;> apply Fin.ext <;> blk_simp [idx t]
  all_goals simp [ix3]
theorem kg_blk (c : Dev nD) (t : Fin cfg0.N) (k : Fin 128) : (iblk m c 7 t : S1x1x128.Idx → EReal) (ix3 0 0 k) = V m c main_v138 (ix3 1 0 k) := by
  rw [← kg_emb t k]
  unfold iblk
  exact (View.read_apply _ _).trans (cast_eq _ _)

theorem cos_emb (t : Fin cfg0.N) (r : Fin 512) (d : Fin 128) : (win0_8.blk t).view.emb (ix2 r d) = (ix2 ⟨t.val % 16 * 512 + r, by omega⟩ d : S8192x128.Idx) := by
  funext a
  fin_cases a <;> apply Fin.ext <;> blk_simp [idx t]
  all_goals simp [ix2]
theorem cos_blk (c : Dev nD) (t : Fin cfg0.N) (r : Fin 512) (d : Fin 128) : (iblk m c 8 t : S512x128.Idx → EReal) (ix2 r d) = V m c main_v17 (ix2 ⟨t.val % 16 * 512 + r, by omega⟩ d) := by
  rw [← cos_emb t r d]
  unfold iblk
  exact (View.read_apply _ _).trans (cast_eq _ _)

theorem sin_emb (t : Fin cfg0.N) (r : Fin 512) (d : Fin 128) : (win0_9.blk t).view.emb (ix2 r d) = (ix2 ⟨t.val % 16 * 512 + r, by omega⟩ d : S8192x128.Idx) := by
  funext a
  fin_cases a <;> apply Fin.ext <;> blk_simp [idx t]
  all_goals simp [ix2]
theorem sin_blk (c : Dev nD) (t : Fin cfg0.N) (r : Fin 512) (d : Fin 128) : (iblk m c 9 t : S512x128.Idx → EReal) (ix2 r d) = V m c main_v18 (ix2 ⟨t.val % 16 * 512 + r, by omega⟩ d) := by
  rw [← sin_emb t r d]
  unfold iblk
  exact (View.read_apply _ _).trans (cast_eq _ _)

theorem norm_blk (c : Dev nD) (t : Fin cfg0.N) (ht : t.val < 32) (r : Fin 512) (d : Fin 1024) :
    k0_pay1 (iblk m c 0 t) (iblk m c 1 t) (ix2 r d) = Cert.Ffn.rms (fun k => X m c (ix2 ⟨t * 512 + r, by omega⟩ k)) (fun k => gains m c (ix2 1 k)) d := by
  rw [norm_at]
  simp only [x_blk m c t ht, g_blk m c t]

theorem proj_eq (X : S16384x1024.Idx → EReal) (g : S2x1024.Idx → EReal) (W : S2x1024x7264.Idx → EReal) (s : Fin 16384) (j : Fin 7264) :
    ∑ k, Cert.Ffn.rms (fun k => X (ix2 s k)) (fun k => g (ix2 1 k)) k * W (ix3 1 k j) = Cert.Input.proj X g W s j := rfl

/-- A normed latent of 192 lanes, held in 256 with zeros after it, against a column that is zero from there on. -/
theorem padded (z g w : Fin 256 → EReal) (z' g' w' : Fin 192 → EReal) (hz : ∀ k : Fin 192, z ⟨k, by omega⟩ = z' k) (h0 : ∀ k : Fin 64, z ⟨192 + k, by omega⟩ = 0)
    (hg : ∀ k : Fin 192, g ⟨k, by omega⟩ = g' k) (hw : ∀ k : Fin 192, w ⟨k, by omega⟩ = w' k) (hw0 : ∀ k : Fin 64, w ⟨192 + k, by omega⟩ = 0) :
    ∑ k : Fin 256, (z k * Ideal.rsqrt ((∑ i : Fin 256, z i * z i) * ((192⁻¹ : ℝ) : EReal) + Ideal.ofBits .f32 0x358637BD#32) * g k) * w k
      = ∑ k : Fin 192, normed z' (Ideal.ofBits .f32 0x43400000#32) g' k * w' k := by
  have sq : ∑ i : Fin 256, z i * z i = ∑ i : Fin 192, z' i * z' i :=
    (sum192 (fun i => z i * z i) (fun k => by simp only [h0]; exact mul_zero 0)).trans (Finset.sum_congr rfl fun i _ => by rw [hz])
  rw [sq, mean]
  refine (sum192 _ (fun k => by simp only [hw0]; exact mul_zero _)).trans (Finset.sum_congr rfl fun k _ => ?_)
  rw [hz, hg, hw]
  rfl

/-- The rotation of a position, and a position's row of the tables. -/
def csn (p : Fin 8192) (t : Fin 16) : EReal := Host.cos angle (ix2 p t)
def snn (p : Fin 8192) (t : Fin 16) : EReal := Host.sin angle (ix2 p t)
def pos (s : Fin 16384) : Fin 8192 := ⟨s.val % 8192, by omega⟩

section
variable (c : Dev nD) (t : Fin cfg0.N) (ht : t.val < 32) (r : Fin 512)
include ht

theorem pos_eq : pos ⟨t * 512 + r, by omega⟩ = (⟨t.val % 16 * 512 + r, by omega⟩ : Fin 8192) := Fin.ext (show (t.val * 512 + r.val) % 8192 = t.val % 16 * 512 + r.val by omega)

theorem cos_row (d : Fin 128) : (iblk m c 8 t : S512x128.Idx → EReal) (ix2 r d) = wave 1 (csn (pos ⟨t * 512 + r, by omega⟩)) d := by
  rw [cos_blk, pos_eq t ht r]
  exact v17_at m c _ d

theorem sin_row (d : Fin 128) : (iblk m c 9 t : S512x128.Idx → EReal) (ix2 r d) = wave 0 (snn (pos ⟨t * 512 + r, by omega⟩)) d := by
  rw [sin_blk, pos_eq t ht r]
  exact v18_at m c _ d

/-- A column of the products with the latents' columns. -/
theorem col_value (j : Fin 640) (w : Fin 1024 → EReal) (hw : ∀ k, V m c main_v55 (ix3 1 k ⟨1792 + j, by omega⟩) = w k) :
    k0_pay6 (k0_pay1 (iblk m c 0 t) (iblk m c 1 t)) (View.ld (iblk m c 3 t : Vec Ideal S1x1024x2432 .bf16) r0_9) (ix2 r j)
      = ∑ k, Cert.Ffn.rms (fun k => X m c (ix2 ⟨t * 512 + r, by omega⟩ k)) (fun k => gains m c (ix2 1 k)) k * w k := by
  refine (cols_at _ _ r j).trans (Finset.sum_congr rfl fun k _ => ?_)
  exact congrArg₂ (fun a b : EReal => a * b) (norm_blk m c t ht r k) ((ld_cols _ k j).trans ((w_blk m c t k _).trans (hw k)))

theorem cq_value (k : Fin 192) : k0_pay6 (k0_pay1 (iblk m c 0 t) (iblk m c 1 t)) (View.ld (iblk m c 3 t : Vec Ideal S1x1024x2432 .bf16) r0_9) (ix2 r ⟨k, by omega⟩)
    = Cert.Input.proj (X m c) (gains m c) (W m c) ⟨t * 512 + r, by omega⟩ ⟨1536 + k, by omega⟩ := by
  rw [← proj_eq]
  exact col_value m c t ht r ⟨k, by omega⟩ (fun i => W m c (ix3 1 i ⟨1536 + k, by omega⟩)) fun i => cq_at m c 1 i k

theorem cq_none (k : Fin 64) : k0_pay6 (k0_pay1 (iblk m c 0 t) (iblk m c 1 t)) (View.ld (iblk m c 3 t : Vec Ideal S1x1024x2432 .bf16) r0_9) (ix2 r ⟨192 + k, by omega⟩) = (0 : EReal) := by
  refine (col_value m c t ht r ⟨192 + k, by omega⟩ (fun _ => 0) fun i => ?_).trans (sum_zero _ _ fun _ => rfl)
  have e : (⟨1792 + (192 + k.val), by omega⟩ : Fin 2432) = ⟨1984 + k, by omega⟩ := Fin.ext (show 1792 + (192 + k.val) = 1984 + k.val by omega)
  exact (congrArg (fun j => V m c main_v55 (ix3 1 i j)) e).trans (cq_zero m c 1 i k)

theorem ckv_value (k : Fin 128) : k0_pay7 (k0_pay1 (iblk m c 0 t) (iblk m c 1 t)) (View.ld (iblk m c 3 t : Vec Ideal S1x1024x2432 .bf16) r0_9) (ix2 r k)
    = Cert.Input.proj (X m c) (gains m c) (W m c) ⟨t * 512 + r, by omega⟩ ⟨1728 + k, by omega⟩ := by
  rw [← proj_eq]
  refine (ckv_block _ _ r k).trans (col_value m c t ht r ⟨256 + k, by omega⟩ (fun i => W m c (ix3 1 i ⟨1728 + k, by omega⟩)) fun i => ?_)
  have e : (⟨1792 + (256 + k.val), by omega⟩ : Fin 2432) = ⟨2048 + k, by omega⟩ := Fin.ext (show 1792 + (256 + k.val) = 2048 + k.val by omega)
  exact (congrArg (fun j => V m c main_v55 (ix3 1 i j)) e).trans (ckv_at m c 1 i k)

theorem kra_value (d : Fin 128) : k0_pay8 (k0_pay1 (iblk m c 0 t) (iblk m c 1 t)) (View.ld (iblk m c 3 t : Vec Ideal S1x1024x2432 .bf16) r0_9) (ix2 r d)
    = ∑ k, Cert.Ffn.rms (fun k => X m c (ix2 ⟨t * 512 + r, by omega⟩ k)) (fun k => gains m c (ix2 1 k)) k * straight (fun i => W m c (ix3 1 k ⟨1856 + i, by omega⟩)) d := by
  refine (kra_block _ _ r d).trans (col_value m c t ht r ⟨384 + d, by omega⟩ (fun k => straight (fun i => W m c (ix3 1 k ⟨1856 + i, by omega⟩)) d) fun i => ?_)
  have e : (⟨1792 + (384 + d.val), by omega⟩ : Fin 2432) = ⟨2176 + d, by omega⟩ := Fin.ext (show 1792 + (384 + d.val) = 2176 + d.val by omega)
  exact (congrArg (fun j => V m c main_v55 (ix3 1 i j)) e).trans (kra_at m c 1 i d)

theorem krb_value (d : Fin 128) : k0_pay9 (k0_pay1 (iblk m c 0 t) (iblk m c 1 t)) (View.ld (iblk m c 3 t : Vec Ideal S1x1024x2432 .bf16) r0_9) (ix2 r d)
    = ∑ k, Cert.Ffn.rms (fun k => X m c (ix2 ⟨t * 512 + r, by omega⟩ k)) (fun k => gains m c (ix2 1 k)) k * crossed (fun i => W m c (ix3 1 k ⟨1856 + i, by omega⟩)) d := by
  refine (krb_block _ _ r d).trans (col_value m c t ht r ⟨512 + d, by omega⟩ (fun k => crossed (fun i => W m c (ix3 1 k ⟨1856 + i, by omega⟩)) d) fun i => ?_)
  have e : (⟨1792 + (512 + d.val), by omega⟩ : Fin 2432) = ⟨2304 + d, by omega⟩ := Fin.ext (show 1792 + (512 + d.val) = 2304 + d.val by omega)
  exact (congrArg (fun j => V m c main_v55 (ix3 1 i j)) e).trans (krb_at m c 1 i d)

theorem qup_value (j : Fin 1024) (q : Fin 192 → EReal) (hq : ∀ k : Fin 192, V m c main_v133 (ix3 1 ⟨k, by omega⟩ j) = q k) :
    k0_pay12 (k0_pay1 (iblk m c 0 t) (iblk m c 1 t)) (View.ld (iblk m c 3 t : Vec Ideal S1x1024x2432 .bf16) r0_9) (iblk m c 6 t) (iblk m c 4 t) (ix2 r j)
      = ∑ k : Fin 192, qlat (X m c) (gains m c) (W m c) (QG m c) ⟨t * 512 + r, by omega⟩ k * q k := by
  refine (qup_block _ _ _ _ r j).trans ?_
  exact padded (fun k => k0_pay6 (k0_pay1 (iblk m c 0 t) (iblk m c 1 t)) (View.ld (iblk m c 3 t : Vec Ideal S1x1024x2432 .bf16) r0_9) (ix2 r ⟨k, by omega⟩))
    (fun k => (iblk m c 6 t : S1x1x256.Idx → EReal) (ix3 0 0 k)) (fun k => (iblk m c 4 t : S1x256x1024.Idx → EReal) (ix3 0 k j)) _ _ q
    (fun k => cq_value m c t ht r k) (fun k => cq_none m c t ht r k) (fun k => (qg_blk m c t _).trans (by rw [v136_eq]; exact padG_at _ 1 k))
    (fun k => (wq_blk m c t _ j).trans (hq k)) (fun k => (wq_blk m c t _ j).trans (wq_zero m c 1 k j))

theorem q_value (hq : ∀ k, ∃ r : ℝ, QG m c (ix2 1 k) = r) (hQ : ∀ k j, ∃ r : ℝ, Q m c (ix3 1 k j) = r) (h : Fin 4) (d : Fin 128) :
    k0_pay14 (iblk m c 9 t) (k0_pay12 (k0_pay1 (iblk m c 0 t) (iblk m c 1 t)) (View.ld (iblk m c 3 t : Vec Ideal S1x1024x2432 .bf16) r0_9) (iblk m c 6 t) (iblk m c 4 t)) (k0_pay13 (iblk m c 8 t)) (ix2 r ⟨h * 128 + d, by omega⟩)
      = qval (X m c) (gains m c) (W m c) (QG m c) (Q m c) (csn (pos ⟨t * 512 + r, by omega⟩)) (snn (pos ⟨t * 512 + r, by omega⟩)) ⟨t * 512 + r, by omega⟩ h d := by
  refine (q_block _ _ _ r h d).trans ?_
  rw [rep_at, cos_row m c t ht r d, sin_row m c t ht r d, qup_value m c t ht r ⟨h * 128 + d, by omega⟩ _ (fun k => wqa_at m c 1 k h d),
    qup_value m c t ht r ⟨512 + (h * 128 + d), by omega⟩ _ (fun k => wqb_at m c 1 k h d)]
  exact qval_eq _ _ _ _ _ _ _ _ hq hQ h d

theorem kvup_value (j : Fin 768) (w : Fin 128 → EReal) (hw : ∀ k : Fin 128, V m c main_v134 (ix3 1 k j) = w k) :
    k0_pay15 (k0_pay7 (k0_pay1 (iblk m c 0 t) (iblk m c 1 t)) (View.ld (iblk m c 3 t : Vec Ideal S1x1024x2432 .bf16) r0_9)) (iblk m c 7 t) (iblk m c 5 t) (ix2 r j)
      = ∑ k : Fin 128, klat (X m c) (gains m c) (W m c) (KG m c) ⟨t * 512 + r, by omega⟩ k * w k := by
  refine (kvup_block _ _ _ r j).trans (Finset.sum_congr rfl fun k _ => congrArg₂ (fun a b : EReal => a * b) ?_ ((wkv_blk m c t k j).trans (hw k)))
  unfold klat
  exact congrArg₂ (fun a b => normed a (Ideal.ofBits .f32 0x43000000#32) b k) (funext fun k => ckv_value m c t ht r k) (funext fun k => (kg_blk m c t k).trans (kgains_at m c 1 k))

theorem k_value (hg : ∀ k, ∃ r : ℝ, gains m c (ix2 1 k) = r) (hW : ∀ k j, ∃ r : ℝ, W m c (ix3 1 k j) = r) (h : Fin 4) (d : Fin 128) :
    k0_pay16 (k0_pay7 (k0_pay1 (iblk m c 0 t) (iblk m c 1 t)) (View.ld (iblk m c 3 t : Vec Ideal S1x1024x2432 .bf16) r0_9)) (k0_pay8 (k0_pay1 (iblk m c 0 t) (iblk m c 1 t)) (View.ld (iblk m c 3 t : Vec Ideal S1x1024x2432 .bf16) r0_9)) (k0_pay9 (k0_pay1 (iblk m c 0 t) (iblk m c 1 t)) (View.ld (iblk m c 3 t : Vec Ideal S1x1024x2432 .bf16) r0_9)) (iblk m c 8 t) (iblk m c 9 t) (iblk m c 7 t) (iblk m c 5 t) (ix2 r ⟨h * 128 + d, by omega⟩)
      = kval (X m c) (gains m c) (W m c) (KG m c) (KV m c) (csn (pos ⟨t * 512 + r, by omega⟩)) (snn (pos ⟨t * 512 + r, by omega⟩)) ⟨t * 512 + r, by omega⟩ h d := by
  refine (k_block _ _ _ _ _ _ _ r h d).trans ?_
  rw [kvup_value m c t ht r ⟨h * 128 + d, by omega⟩ _ (fun k => wk_at m c 1 k h d), kra_value m c t ht r d, krb_value m c t ht r d, cos_row m c t ht r d, sin_row m c t ht r d]
  exact kval_eq _ _ _ _ _ _ _ _ hg hW h d

theorem v_value (h : Fin 4) (d : Fin 64) :
    k0_pay17 (k0_pay7 (k0_pay1 (iblk m c 0 t) (iblk m c 1 t)) (View.ld (iblk m c 3 t : Vec Ideal S1x1024x2432 .bf16) r0_9)) (iblk m c 7 t) (iblk m c 5 t) (ix2 r ⟨h * 64 + d, by omega⟩)
      = vval (X m c) (gains m c) (W m c) (KG m c) (KV m c) ⟨t * 512 + r, by omega⟩ h d := by
  refine (v_block _ _ _ r _).trans ?_
  exact kvup_value m c t ht r ⟨512 + (h * 64 + d), by omega⟩ _ (fun k => wv_at m c 1 k h d)
end

def qArr (X : S16384x1024.Idx → EReal) (g : S2x1024.Idx → EReal) (W : S2x1024x7264.Idx → EReal) (qg : S2x192.Idx → EReal) (Q : S2x192x384.Idx → EReal) (i : S16384x512.Idx) : EReal :=
  qval X g W qg Q (csn (pos (i 0))) (snn (pos (i 0))) (i 0) ⟨(i 1).val / 128, by have h : (i 1).val < 512 := (i 1).isLt; omega⟩ ⟨(i 1).val % 128, by omega⟩
def kArr (X : S16384x1024.Idx → EReal) (g : S2x1024.Idx → EReal) (W : S2x1024x7264.Idx → EReal) (kg : S2x128.Idx → EReal) (K : S2x128x512.Idx → EReal) (i : S16384x512.Idx) : EReal :=
  kval X g W kg K (csn (pos (i 0))) (snn (pos (i 0))) (i 0) ⟨(i 1).val / 128, by have h : (i 1).val < 512 := (i 1).isLt; omega⟩ ⟨(i 1).val % 128, by omega⟩
def vArr (X : S16384x1024.Idx → EReal) (g : S2x1024.Idx → EReal) (W : S2x1024x7264.Idx → EReal) (kg : S2x128.Idx → EReal) (K : S2x128x512.Idx → EReal) (i : S16384x256.Idx) : EReal :=
  vval X g W kg K (i 0) ⟨(i 1).val / 64, by have h : (i 1).val < 256 := (i 1).isLt; omega⟩ ⟨(i 1).val % 64, by omega⟩

theorem final14 (c : Dev nD) (hq : ∀ k, ∃ r : ℝ, QG m c (ix2 1 k) = r) (hQ : ∀ k j, ∃ r : ℝ, Q m c (ix3 1 k j) = r) : (dats m 0 c).arrAt 14 cfg0.N = qArr (X m c) (gains m c) (W m c) (QG m c) (Q m c) := by
  refine (dats m 0 c).arrAt_eq_of_covers 14 _ (by decide +kernel) fun t _ y => ?_
  blk_simp
  rw [after0_14]
  have ht : t.val < 32 := t.isLt
  idx_vars y
  have hy : (win0_14.blk t).view.emb (ix2 y0 y1) = (ix2 ⟨t * 512 + y0, by omega⟩ y1 : S16384x512.Idx) := by
    funext a
    fin_cases a <;> apply Fin.ext <;> blk_simp [idx t]
    all_goals simp [ix2]
  rw [hy, out_eq14]
  have e : (⟨y1.val / 128 * 128 + y1.val % 128, by omega⟩ : Fin 512) = y1 := Fin.ext (show y1.val / 128 * 128 + y1.val % 128 = y1.val by omega)
  have v := q_value m c t ht y0 hq hQ ⟨y1.val / 128, by omega⟩ ⟨y1.val % 128, by omega⟩
  simp only [e] at v
  exact v

theorem final15 (c : Dev nD) (hg : ∀ k, ∃ r : ℝ, gains m c (ix2 1 k) = r) (hW : ∀ k j, ∃ r : ℝ, W m c (ix3 1 k j) = r) : (dats m 0 c).arrAt 15 cfg0.N = kArr (X m c) (gains m c) (W m c) (KG m c) (KV m c) := by
  refine (dats m 0 c).arrAt_eq_of_covers 15 _ (by decide +kernel) fun t _ y => ?_
  blk_simp
  rw [after0_15]
  have ht : t.val < 32 := t.isLt
  idx_vars y
  have hy : (win0_15.blk t).view.emb (ix2 y0 y1) = (ix2 ⟨t * 512 + y0, by omega⟩ y1 : S16384x512.Idx) := by
    funext a
    fin_cases a <;> apply Fin.ext <;> blk_simp [idx t]
    all_goals simp [ix2]
  rw [hy, out_eq15]
  have e : (⟨y1.val / 128 * 128 + y1.val % 128, by omega⟩ : Fin 512) = y1 := Fin.ext (show y1.val / 128 * 128 + y1.val % 128 = y1.val by omega)
  have v := k_value m c t ht y0 hg hW ⟨y1.val / 128, by omega⟩ ⟨y1.val % 128, by omega⟩
  simp only [e] at v
  exact v

theorem final16 (c : Dev nD) : (dats m 0 c).arrAt 16 cfg0.N = vArr (X m c) (gains m c) (W m c) (KG m c) (KV m c) := by
  refine (dats m 0 c).arrAt_eq_of_covers 16 _ (by decide +kernel) fun t _ y => ?_
  blk_simp
  rw [after0_16]
  have ht : t.val < 32 := t.isLt
  idx_vars y
  have hy : (win0_16.blk t).view.emb (ix2 y0 y1) = (ix2 ⟨t * 512 + y0, by omega⟩ y1 : S16384x256.Idx) := by
    funext a
    fin_cases a <;> apply Fin.ext <;> blk_simp [idx t]
    all_goals simp [ix2]
  rw [hy, out_eq16]
  have e : (⟨y1.val / 64 * 64 + y1.val % 64, by omega⟩ : Fin 256) = y1 := Fin.ext (show y1.val / 64 * 64 + y1.val % 64 = y1.val by omega)
  have v := v_value m c t ht y0 ⟨y1.val / 64, by omega⟩ ⟨y1.val % 64, by omega⟩
  simp only [e] at v
  exact v

end Cert.Kernel8Ideal.Latent
-- ==== Proof.LatentReference.lean ====
/- The reference's queries, keys and values of the latent attention, at one token, head and lane. -/
module

public import proofs.«01_k».proof.Proof.Latent
public import proofs.«01_k».proof.Proof.Finite
public import proofs.«01_k».proof.Pre_finite_latent_weights
public import proofs.«01_k».proof.Proof.Gen.Reference8Ideal.Run

@[expose] public section
set_option maxRecDepth 16384
noncomputable section
open Idealize.ShloMosaic Idealize.ShloMosaic.TcCoe Idealize.SL.Sem
namespace Cert.Reference8Ideal.Latent
open Cert.Reference8Ideal Cert.Reference8Ideal.Gen Cert.Latent

/-- The norm of every token, with layer 1's gains. -/
def norm (X : FVec Ideal S16384x1024 .f32) (g : FVec Ideal S2x1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0
    (Host.reduceAdd (mulf X X) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1
      (shapeCast S1024 (extractStridedSlice S1x1024 ![1, 0] g slices_S2x1024_S1x1024_1_0) shapeCasts_S1x1024_S1024)))

theorem norm_at (X : FVec Ideal S16384x1024 .f32) (g : FVec Ideal S2x1024 .f32) (s : Fin 16384) (d : Fin 1024) :
    norm X g (ix2 s d) = Cert.Ffn.rms (fun k => X (ix2 s k)) (fun k => g (ix2 1 k)) d := by
  pointwise [norm]
  rfl

/-- Every token's product with the projection's weight of layer 1. -/
def prod (U : FVec Ideal S16384x1024 .f32) (W : FVec Ideal S2x1024x7264 .f32) : FVec Ideal S16384x7264 .f32 :=
  Host.dotGeneral dot_S16384x1024_S1024x7264_S16384x7264_1_0_0_1_n_n none U
    (shapeCast S1024x7264 (extractStridedSlice S1x1024x7264 ![1, 0, 0] W slices_S2x1024x7264_S1x1024x7264_1_0_0) shapeCasts_S1x1024x7264_S1024x7264)

theorem prod_at (X : FVec Ideal S16384x1024 .f32) (g : FVec Ideal S2x1024 .f32) (W : FVec Ideal S2x1024x7264 .f32) (s : Fin 16384) (j : Fin 7264) :
    prod (norm X g) W (ix2 s j) = Cert.Input.proj X g W s j := by
  pointwise [prod]
  simp only [norm_at]
  rfl

/-- The latent of 192 columns, normed, and its product with the up weight. -/
def qNorm (C : FVec Ideal S16384x192 .f32) (g : FVec Ideal S2x192 .f32) : FVec Ideal S16384x192 .f32 :=
  mulf (mulf C (broadcastInDim S16384x192 ![0, 1] bcast_S16384x1_S16384x192_0_1 (Host.rsqrt (addf (Host.divf (broadcastInDim S16384x1 ![0] bcast_S16384_S16384x1_0
    (Host.reduceAdd (mulf C C) (constant S_ .f32 0x00000000#32) reducesTo_S16384x192_S16384_d1 h_S_)) (broadcastInDim S16384x1 ![] bcast_S_S16384x1 (constant S_ .f32 0x43400000#32)))
    (broadcastInDim S16384x1 ![] bcast_S_S16384x1 (constant S_ .f32 0x358637BD#32))))))
    (broadcastInDim S16384x192 ![0, 1] bcast_S1x192_S16384x192_0_1 (broadcastInDim S1x192 ![1] bcast_S192_S1x192_1
      (shapeCast S192 (extractStridedSlice S1x192 ![1, 0] g slices_S2x192_S1x192_1_0) shapeCasts_S1x192_S192)))
def qUp (C : FVec Ideal S16384x192 .f32) (W : FVec Ideal S2x192x384 .f32) : FVec Ideal S16384x384 .f32 :=
  Host.dotGeneral dot_S16384x192_S192x384_S16384x384_1_0_0_1_n_n none C
    (shapeCast S192x384 (extractStridedSlice S1x192x384 ![1, 0, 0] W slices_S2x192x384_S1x192x384_1_0_0) shapeCasts_S1x192x384_S192x384)

theorem qNorm_at (C : FVec Ideal S16384x192 .f32) (g : FVec Ideal S2x192 .f32) (s : Fin 16384) (d : Fin 192) :
    qNorm C g (ix2 s d) = normed (fun k : Fin 192 => C (ix2 s k)) (Ideal.ofBits .f32 0x43400000#32) (fun k => g (ix2 1 k)) d := by
  pointwise [qNorm]
  rfl

theorem qUp_at (C : FVec Ideal S16384x192 .f32) (W : FVec Ideal S2x192x384 .f32) (s : Fin 16384) (j : Fin 384) :
    qUp C W (ix2 s j) = ∑ k, C (ix2 s k) * W (ix3 1 k j) := by
  pointwise [qUp]

theorem cut192 (P : FVec Ideal S16384x7264 .f32) (o : ℕ) (h : S16384x7264.Slices ![0, o] S16384x192) (ho : o + 192 ≤ 7264) (s : Fin 16384) (j : Fin 192) :
    extractStridedSlice S16384x192 ![0, o] P h (ix2 s j) = P (ix2 s ⟨o + j, by omega⟩) := by
  pointwise

/-- The latent of 128 columns, normed, and its product with the up weight. -/
def kvNorm (C : FVec Ideal S16384x128 .f32) (g : FVec Ideal S2x128 .f32) : FVec Ideal S16384x128 .f32 :=
  mulf (mulf C (broadcastInDim S16384x128 ![0, 1] bcast_S16384x1_S16384x128_0_1 (Host.rsqrt (addf (Host.divf (broadcastInDim S16384x1 ![0] bcast_S16384_S16384x1_0
    (Host.reduceAdd (mulf C C) (constant S_ .f32 0x00000000#32) reducesTo_S16384x128_S16384_d1 h_S_)) (broadcastInDim S16384x1 ![] bcast_S_S16384x1 (constant S_ .f32 0x43000000#32)))
    (broadcastInDim S16384x1 ![] bcast_S_S16384x1 (constant S_ .f32 0x358637BD#32))))))
    (broadcastInDim S16384x128 ![0, 1] bcast_S1x128_S16384x128_0_1 (broadcastInDim S1x128 ![1] bcast_S128_S1x128_1
      (shapeCast S128 (extractStridedSlice S1x128 ![1, 0] g slices_S2x128_S1x128_1_0) shapeCasts_S1x128_S128)))
def kvUp (C : FVec Ideal S16384x128 .f32) (W : FVec Ideal S2x128x512 .f32) : FVec Ideal S16384x512 .f32 :=
  Host.dotGeneral dot_S16384x128_S128x512_S16384x512_1_0_0_1_n_n none C
    (shapeCast S128x512 (extractStridedSlice S1x128x512 ![1, 0, 0] W slices_S2x128x512_S1x128x512_1_0_0) shapeCasts_S1x128x512_S128x512)

theorem kvNorm_at (C : FVec Ideal S16384x128 .f32) (g : FVec Ideal S2x128 .f32) (s : Fin 16384) (d : Fin 128) :
    kvNorm C g (ix2 s d) = normed (fun k : Fin 128 => C (ix2 s k)) (Ideal.ofBits .f32 0x43000000#32) (fun k => g (ix2 1 k)) d := by
  pointwise [kvNorm]
  rfl

theorem kvUp_at (C : FVec Ideal S16384x128 .f32) (W : FVec Ideal S2x128x512 .f32) (s : Fin 16384) (j : Fin 512) :
    kvUp C W (ix2 s j) = ∑ k, C (ix2 s k) * W (ix3 1 k j) := by
  pointwise [kvUp]

theorem cut128 (P : FVec Ideal S16384x7264 .f32) (o : ℕ) (h : S16384x7264.Slices ![0, o] S16384x128) (ho : o + 128 ≤ 7264) (s : Fin 16384) (j : Fin 128) :
    extractStridedSlice S16384x128 ![0, o] P h (ix2 s j) = P (ix2 s ⟨o + j, by omega⟩) := by
  pointwise

theorem cut32 (P : FVec Ideal S16384x7264 .f32) (o : ℕ) (h : S16384x7264.Slices ![0, o] S16384x32) (ho : o + 32 ≤ 7264) (s : Fin 16384) (j : Fin 32) :
    extractStridedSlice S16384x32 ![0, o] P h (ix2 s j) = P (ix2 s ⟨o + j, by omega⟩) := by
  pointwise

/-- The angle of every position and pair of lanes. -/
def angle : FVec Ideal S8192x16 .f32 :=
  mulf (broadcastInDim S8192x16 ![0, 1] bcast_S8192x1_S8192x16_0_1 (broadcastInDim S8192x1 ![0] bcast_S8192_S8192x1_0 (sitofp .f32 (iotaInDim S8192 32 0))))
    (broadcastInDim S8192x16 ![0, 1] bcast_S1x16_S8192x16_0_1 (broadcastInDim S1x16 ![1] bcast_S16_S1x16_1 (Host.powf (broadcastInDim S16 ![] bcast_S_S16 (constant S_ .f32 0x461C4000#32))
      (Host.divf (Host.negf (sitofp .f32 (iotaInDim S16 32 0))) (broadcastInDim S16 ![] bcast_S_S16 (constant S_ .f32 0x41800000#32))))))

/-- The rotation of the last 32 lanes, head by head. -/
def table4 (C : FVec Ideal S8192x16 .f32) : FVec Ideal S2x8192x4x16 .f32 :=
  broadcastInDim S2x8192x4x16 ![0, 1, 2, 3] bcast_S1x8192x1x16_S2x8192x4x16_0_1_2_3 (broadcastInDim S1x8192x1x16 ![1, 2, 3] bcast_S8192x1x16_S1x8192x1x16_1_2_3 (broadcastInDim S8192x1x16 ![0, 2] bcast_S8192x16_S8192x1x16_0_2 C))
def rot4 (f : FVec Ideal S2x8192x4x32 .f32) (C D : FVec Ideal S2x8192x4x16 .f32) : FVec Ideal S2x8192x4x32 .f32 :=
  concatenate S2x8192x4x32 3 [⟨S2x8192x4x16, subf (mulf (extractStridedSlice S2x8192x4x16 ![0, 0, 0, 0] f slices_S2x8192x4x32_S2x8192x4x16_0_0_0_0) C)
      (mulf (extractStridedSlice S2x8192x4x16 ![0, 0, 0, 16] f slices_S2x8192x4x32_S2x8192x4x16_0_0_0_16) D)⟩,
    ⟨S2x8192x4x16, addf (mulf (extractStridedSlice S2x8192x4x16 ![0, 0, 0, 0] f slices_S2x8192x4x32_S2x8192x4x16_0_0_0_0) D)
      (mulf (extractStridedSlice S2x8192x4x16 ![0, 0, 0, 16] f slices_S2x8192x4x32_S2x8192x4x16_0_0_0_16) C)⟩] concatenates_S2x8192x4x16_S2x8192x4x16_S2x8192x4x32_d3

theorem table4_at (C : FVec Ideal S8192x16 .f32) (b : Fin 2) (p : Fin 8192) (h : Fin 4) (t : Fin 16) : table4 C (ix4 b p h t) = C (ix2 p t) := by
  pointwise [table4]

theorem rot4_lo (f : FVec Ideal S2x8192x4x32 .f32) (C D : FVec Ideal S2x8192x4x16 .f32) (b : Fin 2) (p : Fin 8192) (h : Fin 4) (t : Fin 16) :
    rot4 f C D (ix4 b p h ⟨t, by omega⟩) = f (ix4 b p h ⟨t, by omega⟩) * C (ix4 b p h t) - f (ix4 b p h ⟨16 + t, by omega⟩) * D (ix4 b p h t) := by
  pointwise [rot4]

theorem rot4_hi (f : FVec Ideal S2x8192x4x32 .f32) (C D : FVec Ideal S2x8192x4x16 .f32) (b : Fin 2) (p : Fin 8192) (h : Fin 4) (t : Fin 16) :
    rot4 f C D (ix4 b p h ⟨16 + t, by omega⟩) = f (ix4 b p h ⟨t, by omega⟩) * D (ix4 b p h t) + f (ix4 b p h ⟨16 + t, by omega⟩) * C (ix4 b p h t) := by
  pointwise [rot4]

theorem rot4_at (f : FVec Ideal S2x8192x4x32 .f32) (C D : FVec Ideal S8192x16 .f32) (b : Fin 2) (p : Fin 8192) (h : Fin 4) (t : Fin 32) :
    rot4 f (table4 C) (table4 D) (ix4 b p h t) = turn (fun t => f (ix4 b p h t)) (fun t => C (ix2 p t)) (fun t => D (ix2 p t)) t := by
  unfold turn
  beta_reduce
  by_cases h' : t.val < 16
  · rw [dif_pos h', ← table4_at C b p h ⟨t, h'⟩, ← table4_at D b p h ⟨t, h'⟩]
    exact rot4_lo f _ _ b p h ⟨t, h'⟩
  · rw [dif_neg h', ← table4_at C b p h ⟨t - 16, by omega⟩, ← table4_at D b p h ⟨t - 16, by omega⟩]
    have e : (⟨16 + (t.val - 16), by omega⟩ : Fin 32) = t := Fin.ext (show 16 + (t.val - 16) = t.val by omega)
    have v := rot4_hi f (table4 C) (table4 D) b p h ⟨t - 16, by omega⟩
    simp only [e] at v
    exact v

/-- The rotation of the last 32 lanes, one head for all. -/
def table1 (C : FVec Ideal S8192x16 .f32) : FVec Ideal S2x8192x1x16 .f32 :=
  broadcastInDim S2x8192x1x16 ![0, 1, 2, 3] bcast_S1x8192x1x16_S2x8192x1x16_0_1_2_3 (broadcastInDim S1x8192x1x16 ![1, 2, 3] bcast_S8192x1x16_S1x8192x1x16_1_2_3 (broadcastInDim S8192x1x16 ![0, 2] bcast_S8192x16_S8192x1x16_0_2 C))
def rot1 (f : FVec Ideal S2x8192x1x32 .f32) (C D : FVec Ideal S2x8192x1x16 .f32) : FVec Ideal S2x8192x1x32 .f32 :=
  concatenate S2x8192x1x32 3 [⟨S2x8192x1x16, subf (mulf (extractStridedSlice S2x8192x1x16 ![0, 0, 0, 0] f slices_S2x8192x1x32_S2x8192x1x16_0_0_0_0) C)
      (mulf (extractStridedSlice S2x8192x1x16 ![0, 0, 0, 16] f slices_S2x8192x1x32_S2x8192x1x16_0_0_0_16) D)⟩,
    ⟨S2x8192x1x16, addf (mulf (extractStridedSlice S2x8192x1x16 ![0, 0, 0, 0] f slices_S2x8192x1x32_S2x8192x1x16_0_0_0_0) D)
      (mulf (extractStridedSlice S2x8192x1x16 ![0, 0, 0, 16] f slices_S2x8192x1x32_S2x8192x1x16_0_0_0_16) C)⟩] concatenates_S2x8192x1x16_S2x8192x1x16_S2x8192x1x32_d3

theorem table1_at (C : FVec Ideal S8192x16 .f32) (b : Fin 2) (p : Fin 8192) (h : Fin 1) (t : Fin 16) : table1 C (ix4 b p h t) = C (ix2 p t) := by
  pointwise [table1]

theorem rot1_lo (f : FVec Ideal S2x8192x1x32 .f32) (C D : FVec Ideal S2x8192x1x16 .f32) (b : Fin 2) (p : Fin 8192) (h : Fin 1) (t : Fin 16) :
    rot1 f C D (ix4 b p h ⟨t, by omega⟩) = f (ix4 b p h ⟨t, by omega⟩) * C (ix4 b p h t) - f (ix4 b p h ⟨16 + t, by omega⟩) * D (ix4 b p h t) := by
  obtain rfl : h = 0 := Subsingleton.elim _ _
  pointwise [rot1]

theorem rot1_hi (f : FVec Ideal S2x8192x1x32 .f32) (C D : FVec Ideal S2x8192x1x16 .f32) (b : Fin 2) (p : Fin 8192) (h : Fin 1) (t : Fin 16) :
    rot1 f C D (ix4 b p h ⟨16 + t, by omega⟩) = f (ix4 b p h ⟨t, by omega⟩) * D (ix4 b p h t) + f (ix4 b p h ⟨16 + t, by omega⟩) * C (ix4 b p h t) := by
  obtain rfl : h = 0 := Subsingleton.elim _ _
  pointwise [rot1]

theorem rot1_at (f : FVec Ideal S2x8192x1x32 .f32) (C D : FVec Ideal S8192x16 .f32) (b : Fin 2) (p : Fin 8192) (h : Fin 1) (t : Fin 32) :
    rot1 f (table1 C) (table1 D) (ix4 b p h t) = turn (fun t => f (ix4 b p h t)) (fun t => C (ix2 p t)) (fun t => D (ix2 p t)) t := by
  unfold turn
  beta_reduce
  by_cases h' : t.val < 16
  · rw [dif_pos h', ← table1_at C b p h ⟨t, h'⟩, ← table1_at D b p h ⟨t, h'⟩]
    exact rot1_lo f _ _ b p h ⟨t, h'⟩
  · rw [dif_neg h', ← table1_at C b p h ⟨t - 16, by omega⟩, ← table1_at D b p h ⟨t - 16, by omega⟩]
    have e : (⟨16 + (t.val - 16), by omega⟩ : Fin 32) = t := Fin.ext (show 16 + (t.val - 16) = t.val by omega)
    have v := rot1_hi f (table1 C) (table1 D) b p h ⟨t - 16, by omega⟩
    simp only [e] at v
    exact v

/-- 64 lanes and the rotated 32 side by side. -/
def side (y : FVec Ideal S2x8192x4x64 .f32) (f : FVec Ideal S2x8192x4x32 .f32) : FVec Ideal S2x8192x4x96 .f32 :=
  concatenate S2x8192x4x96 3 [⟨S2x8192x4x64, y⟩, ⟨S2x8192x4x32, f⟩] concatenates_S2x8192x4x64_S2x8192x4x32_S2x8192x4x96_d3

theorem side_at (y : FVec Ideal S2x8192x4x64 .f32) (f : FVec Ideal S2x8192x4x32 .f32) (b : Fin 2) (p : Fin 8192) (h : Fin 4) (d : Fin 96) :
    side y f (ix4 b p h d) = if h' : d.val < 64 then y (ix4 b p h ⟨d, h'⟩) else f (ix4 b p h ⟨d - 64, by omega⟩) := by
  pointwise [side]

/-- The layout: 96 lanes in 128, with zeros, the heads side by side, a row per token. -/
def lanes (r : FVec Ideal S2x8192x4x96 .f32) : FVec Ideal S16384x512 .bf16 :=
  shapeCast S16384x512 (truncf .bf16 (pad S2x8192x4x128 ![0, 0, 0, 0] ![0, 0, 0, 32] ![0, 0, 0, 0] r (sitofp .f32 (constantI S_ 32 0#32))
    pads_S2x8192x4x96_S2x8192x4x128_000_000_000_0320 h_S_) bitsLt_bf16_f32) shapeCasts_S2x8192x4x128_S16384x512

theorem zero_at : sitofp (F := Ideal) FTy.f32 (constantI S_ 32 0#32) ix0 = (0 : EReal) := by
  show (((0#32 : BitVec 32).toInt : ℝ) : EReal) = 0
  simp

theorem lanes_at (r : FVec Ideal S2x8192x4x96 .f32) (b : Fin 2) (p : Fin 8192) (h : Fin 4) (d : Fin 128) :
    lanes r (ix2 ⟨b * 8192 + p, by omega⟩ ⟨h * 128 + d, by omega⟩) = if h' : d.val < 96 then r (ix4 b p h ⟨d, h'⟩) else 0 := by
  refine Eq.trans ?_ (congrArg (fun z => if h' : d.val < 96 then r (ix4 b p h ⟨d, h'⟩) else z) zero_at)
  unfold lanes
  generalize sitofp (F := Ideal) FTy.f32 (constantI S_ 32 0#32) = z
  have hi : Shape.Idx.first h_S_ = ix0 := funext fun a => a.elim0
  pointwise
  rw [hi]

/-- The queries. -/
def heads (U : FVec Ideal S16384x384 .f32) : FVec Ideal S2x8192x4x96 .f32 := shapeCast S2x8192x4x96 U shapeCasts_S16384x384_S2x8192x4x96
def qRow (Y : FVec Ideal S2x8192x4x96 .f32) (C D : FVec Ideal S8192x16 .f32) : FVec Ideal S2x8192x4x96 .f32 :=
  side (extractStridedSlice S2x8192x4x64 ![0, 0, 0, 0] Y slices_S2x8192x4x96_S2x8192x4x64_0_0_0_0)
    (rot4 (extractStridedSlice S2x8192x4x32 ![0, 0, 0, 64] Y slices_S2x8192x4x96_S2x8192x4x32_0_0_0_64) (table4 C) (table4 D))
def scaled (r : FVec Ideal S2x8192x4x96 .f32) : FVec Ideal S2x8192x4x96 .f32 :=
  Host.divf r (broadcastInDim S2x8192x4x96 ![] bcast_S_S2x8192x4x96 (mulf (Host.sqrt (constant S_ .f32 0x42C00000#32)) (Host.log (constant S_ .f32 0x40000000#32))))

theorem heads_at (U : FVec Ideal S16384x384 .f32) (b : Fin 2) (p : Fin 8192) (h : Fin 4) (d : Fin 96) : heads U (ix4 b p h d) = U (ix2 ⟨b * 8192 + p, by omega⟩ ⟨h * 96 + d, by omega⟩) := by
  pointwise [heads]

theorem q_lo (Y : FVec Ideal S2x8192x4x96 .f32) (b : Fin 2) (p : Fin 8192) (h : Fin 4) (d : Fin 64) :
    extractStridedSlice S2x8192x4x64 ![0, 0, 0, 0] Y slices_S2x8192x4x96_S2x8192x4x64_0_0_0_0 (ix4 b p h d) = Y (ix4 b p h ⟨d, by omega⟩) := by
  pointwise

theorem q_hi (Y : FVec Ideal S2x8192x4x96 .f32) (b : Fin 2) (p : Fin 8192) (h : Fin 4) (d : Fin 32) :
    extractStridedSlice S2x8192x4x32 ![0, 0, 0, 64] Y slices_S2x8192x4x96_S2x8192x4x32_0_0_0_64 (ix4 b p h d) = Y (ix4 b p h ⟨64 + d, by omega⟩) := by
  pointwise

theorem scaled_at (r : FVec Ideal S2x8192x4x96 .f32) (b : Fin 2) (p : Fin 8192) (h : Fin 4) (d : Fin 96) :
    scaled r (ix4 b p h d) = Ideal.div (r (ix4 b p h d)) (Ideal.sqrt (Ideal.ofBits .f32 0x42C00000#32) * Ideal.log (Ideal.ofBits .f32 0x40000000#32)) := by
  pointwise [scaled]

theorem qRow_at (Y : FVec Ideal S2x8192x4x96 .f32) (C D : FVec Ideal S8192x16 .f32) (b : Fin 2) (p : Fin 8192) (h : Fin 4) (d : Fin 128) (hd : d.val < 96) :
    qRow Y C D (ix4 b p h ⟨d, hd⟩) = row (fun t => Y (ix4 b p h ⟨t, by omega⟩)) (fun t => Y (ix4 b p h ⟨64 + t, by omega⟩)) (fun t => C (ix2 p t)) (fun t => D (ix2 p t)) d := by
  refine (side_at _ _ b p h ⟨d, hd⟩).trans ?_
  unfold row
  by_cases h' : d.val < 64
  · rw [dif_pos h', dif_pos h']
    exact q_lo Y b p h ⟨d, h'⟩
  · rw [dif_neg h', dif_neg h', dif_pos hd]
    refine (rot4_at _ C D b p h _).trans ?_
    exact congrArg (fun f => turn f _ _ _) (funext fun t => q_hi Y b p h t)

theorem row_tail (y : Fin 64 → EReal) (f : Fin 32 → EReal) (cs sn : Fin 16 → EReal) (d : Fin 128) (hd : ¬ d.val < 96) : row y f cs sn d = 0 := by
  unfold row
  rw [dif_neg (by omega), dif_neg hd]

section
variable (X : FVec Ideal S16384x1024 .f32) (g : FVec Ideal S2x1024 .f32) (W : FVec Ideal S2x1024x7264 .f32) (qg : FVec Ideal S2x192 .f32) (Q : FVec Ideal S2x192x384 .f32)
  (kg : FVec Ideal S2x128 .f32) (K : FVec Ideal S2x128x512 .f32)

def qUpAll : FVec Ideal S16384x384 .f32 := qUp (qNorm (extractStridedSlice S16384x192 ![0, 1536] (prod (norm X g) W) slices_S16384x7264_S16384x192_0_1536) qg) Q
def kvUpAll : FVec Ideal S16384x512 .f32 := kvUp (kvNorm (extractStridedSlice S16384x128 ![0, 1728] (prod (norm X g) W) slices_S16384x7264_S16384x128_0_1728) kg) K
def queries : FVec Ideal S16384x512 .bf16 := lanes (scaled (qRow (heads (qUpAll X g W qg Q)) (Host.cos angle) (Host.sin angle)))

theorem qUpAll_at (s : Fin 16384) (j : Fin 384) : qUpAll X g W qg Q (ix2 s j) = qup X g W qg Q s j := by
  refine (qUp_at _ _ s j).trans (Finset.sum_congr rfl fun k _ => congrArg (fun y : EReal => y * Q (ix3 1 k j)) ?_)
  refine (qNorm_at _ _ s k).trans ?_
  exact congrArg (fun c => normed c _ _ k) (funext fun k => (cut192 _ _ _ (by omega) s k).trans (prod_at X g W s _))

theorem kvUpAll_at (s : Fin 16384) (j : Fin 512) : kvUpAll X g W kg K (ix2 s j) = kvup X g W kg K s j := by
  refine (kvUp_at _ _ s j).trans (Finset.sum_congr rfl fun k _ => congrArg (fun y : EReal => y * K (ix3 1 k j)) ?_)
  refine (kvNorm_at _ _ s k).trans ?_
  exact congrArg (fun c => normed c _ _ k) (funext fun k => (cut128 _ _ _ (by omega) s k).trans (prod_at X g W s _))

theorem queries_at (b : Fin 2) (p : Fin 8192) (h : Fin 4) (d : Fin 128) : queries X g W qg Q (ix2 ⟨b * 8192 + p, by omega⟩ ⟨h * 128 + d, by omega⟩)
    = qval X g W qg Q (fun t => Host.cos angle (ix2 p t)) (fun t => Host.sin angle (ix2 p t)) ⟨b * 8192 + p, by omega⟩ h d := by
  refine (lanes_at _ b p h d).trans ?_
  unfold qval
  by_cases hd : d.val < 96
  · rw [dif_pos hd]
    refine (scaled_at _ b p h _).trans (congrArg (fun y => Ideal.div y _) ((qRow_at _ _ _ b p h d hd).trans ?_))
    exact congrArg₂ (fun y f => row y f _ _ d) (funext fun t => (heads_at _ b p h _).trans (qUpAll_at X g W qg Q _ _)) (funext fun t => (heads_at _ b p h _).trans (qUpAll_at X g W qg Q _ _))
  · rw [dif_neg hd, row_tail _ _ _ _ _ hd, scaled_zero]

/-- The keys. -/
def kvHeads (U : FVec Ideal S16384x512 .f32) : FVec Ideal S2x8192x4x128 .f32 := shapeCast S2x8192x4x128 U shapeCasts_S16384x512_S2x8192x4x128
def kRope (f : FVec Ideal S16384x32 .f32) (C D : FVec Ideal S8192x16 .f32) : FVec Ideal S2x8192x4x32 .f32 :=
  broadcastInDim S2x8192x4x32 ![0, 1, 2, 3] bcast_S2x8192x1x32_S2x8192x4x32_0_1_2_3 (rot1 (shapeCast S2x8192x1x32 f shapeCasts_S16384x32_S2x8192x1x32) (table1 C) (table1 D))

theorem kvHeads_at (U : FVec Ideal S16384x512 .f32) (b : Fin 2) (p : Fin 8192) (h : Fin 4) (d : Fin 128) : kvHeads U (ix4 b p h d) = U (ix2 ⟨b * 8192 + p, by omega⟩ ⟨h * 128 + d, by omega⟩) := by
  pointwise [kvHeads]

theorem k_lo (Y : FVec Ideal S2x8192x4x128 .f32) (b : Fin 2) (p : Fin 8192) (h : Fin 4) (d : Fin 64) :
    extractStridedSlice S2x8192x4x64 ![0, 0, 0, 0] Y slices_S2x8192x4x128_S2x8192x4x64_0_0_0_0 (ix4 b p h d) = Y (ix4 b p h ⟨d, by omega⟩) := by
  pointwise

theorem one_at (f : FVec Ideal S16384x32 .f32) (b : Fin 2) (p : Fin 8192) (t : Fin 32) : shapeCast S2x8192x1x32 f shapeCasts_S16384x32_S2x8192x1x32 (ix4 b p 0 t) = f (ix2 ⟨b * 8192 + p, by omega⟩ t) := by
  pointwise

theorem all_at (f : FVec Ideal S2x8192x1x32 .f32) (b : Fin 2) (p : Fin 8192) (h : Fin 4) (t : Fin 32) :
    broadcastInDim S2x8192x4x32 ![0, 1, 2, 3] bcast_S2x8192x1x32_S2x8192x4x32_0_1_2_3 f (ix4 b p h t) = f (ix4 b p 0 t) := by
  pointwise

theorem kRope_at (f : FVec Ideal S16384x32 .f32) (C D : FVec Ideal S8192x16 .f32) (b : Fin 2) (p : Fin 8192) (h : Fin 4) (t : Fin 32) :
    kRope f C D (ix4 b p h t) = turn (fun t => f (ix2 ⟨b * 8192 + p, by omega⟩ t)) (fun t => C (ix2 p t)) (fun t => D (ix2 p t)) t := by
  refine (all_at _ b p h t).trans ((rot1_at _ C D b p 0 t).trans ?_)
  exact congrArg (fun f => turn f _ _ t) (funext fun t => one_at f b p t)

def keys : FVec Ideal S16384x512 .bf16 :=
  lanes (side (extractStridedSlice S2x8192x4x64 ![0, 0, 0, 0] (kvHeads (kvUpAll X g W kg K)) slices_S2x8192x4x128_S2x8192x4x64_0_0_0_0)
    (kRope (extractStridedSlice S16384x32 ![0, 1856] (prod (norm X g) W) slices_S16384x7264_S16384x32_0_1856) (Host.cos angle) (Host.sin angle)))

theorem keys_at (b : Fin 2) (p : Fin 8192) (h : Fin 4) (d : Fin 128) : keys X g W kg K (ix2 ⟨b * 8192 + p, by omega⟩ ⟨h * 128 + d, by omega⟩)
    = kval X g W kg K (fun t => Host.cos angle (ix2 p t)) (fun t => Host.sin angle (ix2 p t)) ⟨b * 8192 + p, by omega⟩ h d := by
  refine (lanes_at _ b p h d).trans ?_
  unfold kval
  by_cases hd : d.val < 96
  · rw [dif_pos hd]
    refine (side_at _ _ b p h _).trans ?_
    unfold row
    by_cases h' : d.val < 64
    · rw [dif_pos h', dif_pos h']
      exact (k_lo _ b p h ⟨d, h'⟩).trans ((kvHeads_at _ b p h _).trans (kvUpAll_at X g W kg K _ _))
    · rw [dif_neg h', dif_neg h', dif_pos hd]
      refine (kRope_at _ _ _ b p h _).trans ?_
      exact congrArg (fun f => turn f _ _ _) (funext fun t => (cut32 _ _ _ (by omega) _ t).trans (prod_at X g W _ _))
  · rw [dif_neg hd, row_tail _ _ _ _ _ hd]

/-- The values. -/
def vRows (Y : FVec Ideal S2x8192x4x128 .f32) : FVec Ideal S16384x256 .bf16 :=
  shapeCast S16384x256 (truncf .bf16 (extractStridedSlice S2x8192x4x64 ![0, 0, 0, 64] Y slices_S2x8192x4x128_S2x8192x4x64_0_0_0_64) bitsLt_bf16_f32) shapeCasts_S2x8192x4x64_S16384x256

theorem vRows_at (Y : FVec Ideal S2x8192x4x128 .f32) (b : Fin 2) (p : Fin 8192) (h : Fin 4) (d : Fin 64) :
    vRows Y (ix2 ⟨b * 8192 + p, by omega⟩ ⟨h * 64 + d, by omega⟩) = Y (ix4 b p h ⟨64 + d, by omega⟩) := by
  pointwise [vRows]

def values : FVec Ideal S16384x256 .bf16 := vRows (kvHeads (kvUpAll X g W kg K))

theorem values_at (b : Fin 2) (p : Fin 8192) (h : Fin 4) (d : Fin 64) : values X g W kg K (ix2 ⟨b * 8192 + p, by omega⟩ ⟨h * 64 + d, by omega⟩)
    = vval X g W kg K ⟨b * 8192 + p, by omega⟩ h d :=
  (vRows_at _ b p h d).trans ((kvHeads_at _ b p h _).trans (kvUpAll_at X g W kg K _ _))
end

variable (m : (ℓ : Loc nD τ sig) → Buf (Elt Ideal) ℓ)

/-- What the run leaves as its three results are the spelt-out terms. -/
theorem run_q (c : Dev nD) : Value.res_out0 m c = queries (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := rfl
theorem run_k (c : Dev nD) : Value.res_out1 m c = keys (m ((c.tc : Thread nD τ).loc main_arg0)) (m ((c.tc : Thread nD τ).loc main_arg1)) (m ((c.tc : Thread nD τ).loc main_arg2))
    (m ((c.tc : Thread nD τ).loc main_arg5)) (m ((c.tc : Thread nD τ).loc main_arg6)) := rfl
theorem run_v (c : Dev nD) : Value.res_out2 m c = values (m ((c.tc : Thread nD τ).loc main_arg0)) (m ((c.tc : Thread nD τ).loc main_arg1)) (m ((c.tc : Thread nD τ).loc main_arg2))
    (m ((c.tc : Thread nD τ).loc main_arg5)) (m ((c.tc : Thread nD τ).loc main_arg6)) := rfl

/-- The three results at a token and a lane of the whole row. -/
theorem token_eq (s : Fin 16384) : (⟨s.val / 8192 * 8192 + s.val % 8192, by omega⟩ : Fin 16384) = s := Fin.ext (show s.val / 8192 * 8192 + s.val % 8192 = s.val by omega)

theorem queries_row (X : FVec Ideal S16384x1024 .f32) (g : FVec Ideal S2x1024 .f32) (W : FVec Ideal S2x1024x7264 .f32) (qg : FVec Ideal S2x192 .f32) (Q : FVec Ideal S2x192x384 .f32) (s : Fin 16384) (j : Fin 512) :
    queries X g W qg Q (ix2 s j) = qval X g W qg Q (fun t => Host.cos angle (ix2 ⟨s.val % 8192, by omega⟩ t)) (fun t => Host.sin angle (ix2 ⟨s.val % 8192, by omega⟩ t)) s ⟨j.val / 128, by omega⟩ ⟨j.val % 128, by omega⟩ := by
  have e : (⟨j.val / 128 * 128 + j.val % 128, by omega⟩ : Fin 512) = j := Fin.ext (show j.val / 128 * 128 + j.val % 128 = j.val by omega)
  have v := queries_at X g W qg Q ⟨s.val / 8192, by omega⟩ ⟨s.val % 8192, by omega⟩ ⟨j.val / 128, by omega⟩ ⟨j.val % 128, by omega⟩
  simp only [e, token_eq] at v
  exact v

theorem keys_row (X : FVec Ideal S16384x1024 .f32) (g : FVec Ideal S2x1024 .f32) (W : FVec Ideal S2x1024x7264 .f32) (kg : FVec Ideal S2x128 .f32) (K : FVec Ideal S2x128x512 .f32) (s : Fin 16384) (j : Fin 512) :
    keys X g W kg K (ix2 s j) = kval X g W kg K (fun t => Host.cos angle (ix2 ⟨s.val % 8192, by omega⟩ t)) (fun t => Host.sin angle (ix2 ⟨s.val % 8192, by omega⟩ t)) s ⟨j.val / 128, by omega⟩ ⟨j.val % 128, by omega⟩ := by
  have e : (⟨j.val / 128 * 128 + j.val % 128, by omega⟩ : Fin 512) = j := Fin.ext (show j.val / 128 * 128 + j.val % 128 = j.val by omega)
  have v := keys_at X g W kg K ⟨s.val / 8192, by omega⟩ ⟨s.val % 8192, by omega⟩ ⟨j.val / 128, by omega⟩ ⟨j.val % 128, by omega⟩
  simp only [e, token_eq] at v
  exact v

theorem values_row (X : FVec Ideal S16384x1024 .f32) (g : FVec Ideal S2x1024 .f32) (W : FVec Ideal S2x1024x7264 .f32) (kg : FVec Ideal S2x128 .f32) (K : FVec Ideal S2x128x512 .f32) (s : Fin 16384) (j : Fin 256) :
    values X g W kg K (ix2 s j) = vval X g W kg K s ⟨j.val / 64, by omega⟩ ⟨j.val % 64, by omega⟩ := by
  have e : (⟨j.val / 64 * 64 + j.val % 64, by omega⟩ : Fin 256) = j := Fin.ext (show j.val / 64 * 64 + j.val % 64 = j.val by omega)
  have v := values_at X g W kg K ⟨s.val / 8192, by omega⟩ ⟨s.val % 8192, by omega⟩ ⟨j.val / 64, by omega⟩ ⟨j.val % 64, by omega⟩
  simp only [e, token_eq] at v
  exact v

end Cert.Reference8Ideal.Latent

namespace Cert.Latent
open Cert.Pre_finite_latent_weights

/-- Under the precondition the gains and weights the queries and keys take are real. -/
theorem real [Facts] (X : FVec Ideal S16384x1024 .f32) (g : FVec Ideal S2x1024 .f32) (W : FVec Ideal S2x1024x7264 .f32) (qg : FVec Ideal S2x192 .f32) (Q : FVec Ideal S2x192x384 .f32)
    (kg : FVec Ideal S2x128 .f32) (K : FVec Ideal S2x128x512 .f32) (h : fn (F := Ideal) X g W qg Q kg K = fun _ => 1#1) :
    (∀ i, ∃ x : ℝ, (g i : EReal) = x) ∧ (∀ i, ∃ x : ℝ, (W i : EReal) = x) ∧ (∀ i, ∃ x : ℝ, (qg i : EReal) = x) ∧ ∀ i, ∃ x : ℝ, (Q i : EReal) = x := by
  dsimp only [fn, fn_part1] at h
  have e := Cert.Finite.and_left (congrFun h fun a => a.elim0)
  have e' := Cert.Finite.and_left e.1
  have e'' := Cert.Finite.and_left e'.1
  haveI : Subsingleton S_.Idx := ⟨fun a b => funext fun x => x.elim0⟩
  refine ⟨fun i => ?_, fun i => ?_, fun i => ?_, fun i => ?_⟩
  · exact Cert.Finite.real_of_lt _ (Host.reduce_andi_all _ _ _ _ _ e''.1 i)
  · exact Cert.Finite.real_of_lt _ (Host.reduce_andi_all _ _ _ _ _ e''.2 i)
  · exact Cert.Finite.real_of_lt _ (Host.reduce_andi_all _ _ _ _ _ e'.2 i)
  · exact Cert.Finite.real_of_lt _ (Host.reduce_andi_all _ _ _ _ _ e.2 i)

end Cert.Latent
-- ==== Proof.MemoryKeys.lean ====
/- The memory's keys and values: the kernel's result array, and the reference's at one index. -/
module

public import proofs.«01_k».proof.Proof.Ffn
public import proofs.«01_k».proof.Proof.Gen.Kernel6Ideal.Value
public import proofs.«01_k».proof.Proof.Gen.Reference6Ideal.Run

@[expose] public section
set_option maxRecDepth 16384
noncomputable section
open Idealize.ShloMosaic Idealize.ShloMosaic.TcCoe Idealize.SL.Sem

/-- The normed memory token's product with column `j` of layer 1's weight. -/
def Cert.Ffn.memory (M : (⟨3, ![2, 256, 1024]⟩ : Shape).Idx → EReal) (g : (⟨2, ![2, 1024]⟩ : Shape).Idx → EReal) (W : (⟨3, ![2, 1024, 512]⟩ : Shape).Idx → EReal)
    (b : Fin 2) (s : Fin 256) (j : Fin 512) : EReal :=
  Cert.Ffn.col (Cert.Ffn.rms (fun k => M (ix3 b s k)) (fun k => g (ix2 1 k))) (fun k => W (ix3 1 k j))

namespace Cert.Kernel6Ideal.Memory
open Cert.Kernel6Ideal Cert.Kernel6Ideal.Gen

theorem keys_block (x : Vec Ideal S1x256x1024 .f32) (g : Vec Ideal S1x1x1024 .f32) (w : Vec Ideal S1x1024x512 .bf16) (r : Fin 256) (j : Fin 512) :
    k0_pay1 x g w (ix3 0 r j) = Cert.Ffn.col (Cert.Ffn.rms (fun k => x (ix3 0 r k)) (fun k => g (ix3 0 0 k))) (fun k => w (ix3 0 k j)) := by
  pointwise [k0_pay1]
  rfl

theorem out_eq (x0 : Vec Ideal S1x256x1024 .f32) (x1 : Vec Ideal S1x1x1024 .f32) (x2 : Vec Ideal S1x1024x512 .bf16) : out0_3 x0 x1 x2 = k0_pay1 x0 x1 x2 := by
  unfold out0_3
  rw [View.canon_unit_zero (by decide)]
  have h0 : View.ld x0 r0_0 = x0 := View.ld_unit_lit _ _ (by decide)
  have h1 : View.ld x1 r0_1 = x1 := View.ld_unit_lit _ _ (by decide)
  have h2 : View.ld x2 r0_2 = x2 := View.ld_unit_lit _ _ (by decide)
  rw [h0, h1, h2]

variable (m : (ℓ : Loc nD τ sig) → Buf (Elt Ideal) ℓ)

abbrev M (c : Dev nD) : S2x256x1024.Idx → EReal := m ((c : Thread nD τ).loc main_arg0)
abbrev gains (c : Dev nD) : S2x1024.Idx → EReal := m ((c : Thread nD τ).loc main_arg1)
abbrev W (c : Dev nD) : S2x1024x512.Idx → EReal := m ((c : Thread nD τ).loc main_arg2)

theorem gains_at (c : Dev nD) (l : Fin 2) (k : Fin 1024) : (V m c main_v0 : S2x1x1024.Idx → EReal) (ix3 l 0 k) = gains m c (ix2 l k) := by
  dsimp only [V, hostOps0, List.flatten_cons, List.flatten_nil, List.append_nil]
  entry_read
  pointwise

theorem w_at (c : Dev nD) (l : Fin 2) (k : Fin 1024) (j : Fin 512) : (V m c main_v1 : S2x1024x512.Idx → EReal) (ix3 l k j) = W m c (ix3 l k j) := by
  dsimp only [V, hostOps0, List.flatten_cons, List.flatten_nil, List.append_nil]
  entry_read
  pointwise

theorem idx : ∀ t : Fin cfg0.N, win0_0.index t = ![t.val, 0, 0] ∧ win0_1.index t = ![1, 0, 0] ∧ win0_2.index t = ![1, 0, 0] ∧ win0_3.index t = ![t.val, 0, 0] :=
  (by decide +kernel : ∀ t : Fin grid0.N, _)

theorem x_emb (t : Fin cfg0.N) (ht : t.val < 2) (r : Fin 256) (d : Fin 1024) : (win0_0.blk t).view.emb (ix3 0 r d) = (ix3 ⟨t, ht⟩ r d : S2x256x1024.Idx) := by
  funext a
  fin_cases a <;> apply Fin.ext <;> blk_simp [idx t]
  all_goals simp [ix3]
theorem x_blk (c : Dev nD) (t : Fin cfg0.N) (ht : t.val < 2) (r : Fin 256) (d : Fin 1024) : (iblk m c 0 t : S1x256x1024.Idx → EReal) (ix3 0 r d) = M m c (ix3 ⟨t, ht⟩ r d) := by
  have h : M m c = V m c main_arg0 := (V_main_arg0 m c).symm
  rw [h, ← x_emb t ht r d]
  unfold iblk
  exact (View.read_apply _ _).trans (cast_eq _ _)

theorem g_emb (t : Fin cfg0.N) (d : Fin 1024) : (win0_1.blk t).view.emb (ix3 0 0 d) = (ix3 1 0 d : S2x1x1024.Idx) := by
  funext a
  fin_cases a <;> apply Fin.ext <;> blk_simp [idx t]
  all_goals simp [ix3]
theorem g_blk (c : Dev nD) (t : Fin cfg0.N) (d : Fin 1024) : (iblk m c 1 t : S1x1x1024.Idx → EReal) (ix3 0 0 d) = gains m c (ix2 1 d) := by
  rw [← gains_at m c, ← g_emb t d]
  unfold iblk
  exact (View.read_apply _ _).trans (cast_eq _ _)

theorem w_emb (t : Fin cfg0.N) (k : Fin 1024) (j : Fin 512) : (win0_2.blk t).view.emb (ix3 0 k j) = (ix3 1 k j : S2x1024x512.Idx) := by
  funext a
  fin_cases a <;> apply Fin.ext <;> blk_simp [idx t]
  all_goals simp [ix3]
theorem w_blk (c : Dev nD) (t : Fin cfg0.N) (k : Fin 1024) (j : Fin 512) : (iblk m c 2 t : S1x1024x512.Idx → EReal) (ix3 0 k j) = W m c (ix3 1 k j) := by
  rw [← w_at m c, ← w_emb t k j]
  unfold iblk
  exact (View.read_apply _ _).trans (cast_eq _ _)

def memoryArr (M : S2x256x1024.Idx → EReal) (g : S2x1024.Idx → EReal) (W : S2x1024x512.Idx → EReal) (i : S2x256x512.Idx) : EReal := Cert.Ffn.memory M g W (i 0) (i 1) (i 2)

theorem final (c : Dev nD) : (dats m 0 c).arrAt 3 cfg0.N = memoryArr (M m c) (gains m c) (W m c) := by
  refine (dats m 0 c).arrAt_eq_of_covers 3 _ (by decide +kernel) fun t _ y => ?_
  blk_simp
  rw [after0_3]
  have ht : t.val < 2 := t.isLt
  idx_vars y
  obtain rfl : y0 = 0 := Subsingleton.elim _ _
  have hy : (win0_3.blk t).view.emb (ix3 0 y1 y2) = (ix3 ⟨t, ht⟩ y1 y2 : S2x256x512.Idx) := by
    funext a
    fin_cases a <;> apply Fin.ext <;> blk_simp [idx t]
    all_goals simp [ix3]
  rw [hy, out_eq]
  refine (keys_block _ _ _ y1 y2).trans ?_
  simp only [x_blk m c t ht, g_blk m c t, w_blk m c t]
  rfl

end Cert.Kernel6Ideal.Memory

namespace Cert.Reference6Ideal.Memory
open Cert.Reference6Ideal Cert.Reference6Ideal.Gen

/-- The norm of every memory token, with layer 1's gains. -/
def norm (M : FVec Ideal S2x256x1024 .f32) (g : FVec Ideal S2x1024 .f32) : FVec Ideal S2x256x1024 .f32 :=
  mulf (mulf M (broadcastInDim S2x256x1024 ![0, 1, 2] bcast_S2x256x1_S2x256x1024_0_1_2 (Host.rsqrt (addf (Host.divf (broadcastInDim S2x256x1 ![0, 1] bcast_S2x256_S2x256x1_0_1
    (Host.reduceAdd (mulf M M) (constant S_ .f32 0x00000000#32) reducesTo_S2x256x1024_S2x256_d2 h_S_)) (broadcastInDim S2x256x1 ![] bcast_S_S2x256x1 (constant S_ .f32 0x44800000#32)))
    (broadcastInDim S2x256x1 ![] bcast_S_S2x256x1 (constant S_ .f32 0x358637BD#32))))))
    (broadcastInDim S2x256x1024 ![0, 1, 2] bcast_S1x1x1024_S2x256x1024_0_1_2 (broadcastInDim S1x1x1024 ![2] bcast_S1024_S1x1x1024_2
      (shapeCast S1024 (extractStridedSlice S1x1024 ![1, 0] g slices_S2x1024_S1x1024_1_0) shapeCasts_S1x1024_S1024)))

theorem norm_at (M : FVec Ideal S2x256x1024 .f32) (g : FVec Ideal S2x1024 .f32) (b : Fin 2) (s : Fin 256) (d : Fin 1024) :
    norm M g (ix3 b s d) = Cert.Ffn.rms (fun k => M (ix3 b s k)) (fun k => g (ix2 1 k)) d := by
  pointwise [norm]
  rfl

/-- Every token's product with the weight of layer 1. -/
def keys (U : FVec Ideal S2x256x1024 .f32) (W : FVec Ideal S2x1024x512 .f32) : FVec Ideal S2x256x512 .bf16 :=
  truncf .bf16 (Host.dotGeneral dot_S2x256x1024_S1024x512_S2x256x512_2_0_01_1_n_n none U
    (shapeCast S1024x512 (extractStridedSlice S1x1024x512 ![1, 0, 0] W slices_S2x1024x512_S1x1024x512_1_0_0) shapeCasts_S1x1024x512_S1024x512)) bitsLt_bf16_f32

theorem keys_at (M : FVec Ideal S2x256x1024 .f32) (g : FVec Ideal S2x1024 .f32) (W : FVec Ideal S2x1024x512 .f32) (b : Fin 2) (s : Fin 256) (j : Fin 512) :
    keys (norm M g) W (ix3 b s j) = Cert.Ffn.memory M g W b s j := by
  pointwise [keys]
  simp only [norm_at]
  rfl

end Cert.Reference6Ideal.Memory
-- ==== Proof.Memory.lean ====
/- Attention of one query over the 256 memory slots as the reference states it, and the softmax in base two over scores whose
   queries are zero outside one head's 64 lanes of 128: the two agree on real queries and keys. -/
module

public import proofs.«01_k».proof.Proof.Attend

@[expose] public section
set_option maxRecDepth 16384
noncomputable section
namespace Cert.Memory
open Idealize.ShloMosaic Cert.Softmax

theorem eighth : Ideal.ofBits .f32 0x3E000000#32 = ((1 / 8 : ℝ) : EReal) := by
  simp [Ideal.ofBits, Ideal.ieee]
  rw [← EReal.coe_mul]
  norm_num

/-- The score of a query against a key, over the square root of the 64 lanes. -/
def logit (q k : Fin 64 → EReal) : EReal := (∑ d, q d * k d) * Ideal.ofBits .f32 0x3E000000#32

/-- The greatest score of a query. -/
def top (q : Fin 64 → EReal) (k : Fin 256 → Fin 64 → EReal) : EReal := Finset.univ.fold max ⊥ fun j => logit q (k j)

/-- One lane of a query's attention: the slots' values weighed by the softmax of their scores. -/
def attend (q : Fin 64 → EReal) (k : Fin 256 → Fin 64 → EReal) (w : Fin 256 → EReal) : EReal :=
  ∑ j, w j * Ideal.div (Ideal.exp (logit q (k j) - top q k)) (∑ i, Ideal.exp (logit q (k i) - top q k))

/-- A query lane scaled for scores in base two. -/
def scaled (q : EReal) : EReal := Ideal.div (q * Ideal.ofBits .f32 0x3E000000#32) (Ideal.log (Ideal.ofBits .f32 0x40000000#32))

/-- Of two heads' lanes only the first's, or only the second's, count. -/
theorem first_lanes (x y : Fin 128 → EReal) : ∑ d : Fin 128, (if d.val < 64 then x d else 0) * y d = ∑ d : Fin 64, x ⟨d, by omega⟩ * y ⟨d, by omega⟩ := by
  refine (Fin.sum_univ_add (a := 64) (b := 64) _).trans ?_
  have h : ∀ d : Fin 64, (if (Fin.natAdd 64 d : Fin (64 + 64)).val < 64 then x (Fin.natAdd 64 d) else 0) * y (Fin.natAdd 64 d) = 0 := by
    intro d
    rw [if_neg (by simp), zero_mul]
  rw [Finset.sum_eq_zero fun d _ => h d, add_zero]
  refine Finset.sum_congr rfl fun d _ => ?_
  rw [if_pos (by simp)]
  rfl

theorem second_lanes (x y : Fin 128 → EReal) : ∑ d : Fin 128, (if d.val < 64 then 0 else x d) * y d = ∑ d : Fin 64, x ⟨64 + d, by omega⟩ * y ⟨64 + d, by omega⟩ := by
  refine (Fin.sum_univ_add (a := 64) (b := 64) _).trans ?_
  have h : ∀ d : Fin 64, (if (Fin.castAdd 64 d : Fin (64 + 64)).val < 64 then 0 else x (Fin.castAdd 64 d)) * y (Fin.castAdd 64 d) = 0 := by
    intro d
    rw [if_pos (by simp), zero_mul]
  rw [Finset.sum_eq_zero fun d _ => h d, zero_add]
  refine Finset.sum_congr rfl fun d _ => ?_
  rw [if_neg (by simp)]
  rfl

theorem score (q k : Fin 64 → ℝ) : ∑ d, scaled (q d) * (k d : EReal) = (((∑ d, q d * k d) / 8 / Real.log 2 : ℝ) : EReal) := by
  have e : ∀ d : Fin 64, scaled (q d) * (k d : EReal) = ((q d * k d / 8 / Real.log 2 : ℝ) : EReal) := by
    intro d
    rw [scaled, eighth, log2, ← EReal.coe_mul, Ideal.div_coe log_pos.ne', ← EReal.coe_mul, ← EReal.coe_mul]
    congr 1
    ring
  rw [Finset.sum_congr rfl fun d _ => e d, ← coe_sum, Finset.sum_div, Finset.sum_div]

/-- The weighted sum in base two over the sum of the weights is the reference's attention. -/
theorem attend_eq (q : Fin 64 → EReal) (k : Fin 256 → Fin 64 → EReal) (w : Fin 256 → EReal)
    (hq : ∀ d, ∃ x : ℝ, q d = x) (hk : ∀ j d, ∃ x : ℝ, k j d = x) (s : Fin 256 → EReal) (hs : ∀ j, s j = ∑ d, scaled (q d) * k j d) :
    (∑ j, Ideal.exp2 (s j - Finset.univ.fold max ⊥ s) * w j) * Ideal.div 1 (∑ j, Ideal.exp2 (s j - Finset.univ.fold max ⊥ s)) = attend q k w := by
  choose q' hq' using hq
  choose k' hk' using hk
  obtain rfl : q = fun d => (q' d : EReal) := funext hq'
  obtain rfl : k = fun j d => (k' j d : EReal) := funext fun j => funext (hk' j)
  let σ : ℕ → ℝ := fun j => (∑ d, q' d * k' ⟨j % 256, by omega⟩ d) / 8 / Real.log 2
  have hj : ∀ j : Fin 256, (⟨j.val % 256, by omega⟩ : Fin 256) = j := fun j => Fin.ext (Nat.mod_eq_of_lt j.isLt)
  have hσ : ∀ j : Fin 256, s j = (σ j : EReal) := fun j => ((hs j).trans (score _ _)).trans (by simp only [σ, hj])
  have st := (After.none (fun j => (σ j : EReal)) (fun j => w ⟨j % 256, by omega⟩)).step σ (fun _ => rfl) (by norm_num) s w (fun j => by rw [hσ, Nat.zero_add])
    (fun j => by simp only [Nat.zero_add, hj]) (Finset.univ.fold max ⊥ s) (by rw [max_eq_right bot_le])
  rw [mul_zero, zero_add, zero_add, zero_add] at st
  refine st.softmax σ (fun _ => rfl) (by norm_num) (fun j => logit (fun d => q' d) fun d => k' j d) w (fun j => ?_) (fun j => by simp only [Nat.zero_add, hj]) _ rfl
  rw [logit, eighth]
  simp only [← EReal.coe_mul, ← coe_sum]
  congr 1
  have := log_pos.ne'
  simp only [σ, Nat.zero_add]
  have e := hj ⟨j.val, by omega⟩
  simp only [e]
  field_simp

end Cert.Memory
-- ==== Proof.MemoryReference.lean ====
/- The reference's memory attention at one index, and what its precondition says. -/
module

public import proofs.«01_k».proof.Proof.Memory
public import proofs.«01_k».proof.Proof.Reference
public import proofs.«01_k».proof.Proof.Finite
public import proofs.«01_k».proof.Proof.Gen.Reference7Ideal.Run

@[expose] public section
set_option maxRecDepth 16384
noncomputable section
open Idealize.ShloMosaic Idealize.ShloMosaic.TcCoe Idealize.SL.Sem

/-- The memory attention of batch `b` at row `s` and lane `e`: lane `e % 64` of head `e / 64`; a slot holds the keys of four heads, then the values. -/
def Cert.Memory.att (Q : (⟨3, ![2, 8192, 256]⟩ : Shape).Idx → EReal) (K : (⟨3, ![2, 256, 512]⟩ : Shape).Idx → EReal) (b : Fin 2) (s : Fin 8192) (e : Fin 256) : EReal :=
  Cert.Memory.attend (fun d => Q (ix3 b s ⟨e / 64 * 64 + d, by omega⟩)) (fun j d => K (ix3 b j ⟨e / 64 * 64 + d, by omega⟩)) (fun j => K (ix3 b j ⟨256 + e, by omega⟩))

namespace Cert.Reference7Ideal.Memory
open Cert.Reference7Ideal Cert.Reference7Ideal.Gen

def logits (Q : FVec Ideal S2x8192x256 .f32) (K : FVec Ideal S2x256x512 .f32) : FVec Ideal S2x4x8192x256 .f32 :=
  mulf (Host.dotGeneral dot_S2x8192x4x64_S2x256x4x64_S2x4x8192x256_3_3_1_1_02_02 none (shapeCast S2x8192x4x64 Q shapeCasts_S2x8192x256_S2x8192x4x64)
    (shapeCast S2x256x4x64 (extractStridedSlice S2x256x256 ![0, 0, 0] K slices_S2x256x512_S2x256x256_0_0_0) shapeCasts_S2x256x256_S2x256x4x64))
    (broadcastInDim S2x4x8192x256 ![] bcast_S_S2x4x8192x256 (constant S_ .f32 0x3E000000#32))

theorem logits_at (Q : FVec Ideal S2x8192x256 .f32) (K : FVec Ideal S2x256x512 .f32) (b : Fin 2) (h : Fin 4) (s : Fin 8192) (j : Fin 256) :
    logits Q K (ix4 b h s j) = Cert.Memory.logit (fun d => Q (ix3 b s ⟨h * 64 + d, by omega⟩)) (fun d => K (ix3 b j ⟨h * 64 + d, by omega⟩)) := by
  pointwise [logits]
  rfl

def top (L : FVec Ideal S2x4x8192x256 .f32) : FVec Ideal S2x4x8192 .f32 :=
  maximumf (broadcastInDim S2x4x8192 ![] bcast_S_S2x4x8192 (constant S_ .f32 0xFF800000#32)) (Host.reduce FloatOps.maximumf L (constant S_ .f32 0xFF800000#32) reducesTo_S2x4x8192x256_S2x4x8192_d3 h_S_)

theorem neg_apply (i : S2x4x8192.Idx) : broadcastInDim S2x4x8192 ![] bcast_S_S2x4x8192 (constant (F := Ideal) S_ .f32 0xFF800000#32) i = Ideal.ofBits .f32 0xFF800000#32 := rfl

theorem top_at (L : FVec Ideal S2x4x8192x256 .f32) (b : Fin 2) (h : Fin 4) (s : Fin 8192) :
    top L (ix3 b h s) = max (Ideal.ofBits .f32 0xFF800000#32) (Finset.univ.fold max (Ideal.ofBits .f32 0xFF800000#32) fun j : Fin 256 => (L (ix4 b h s j) : EReal)) := by
  unfold top
  rw [Cert.ReferenceIdeal.Att.max_apply, neg_apply, Cert.ReferenceIdeal.Att.op_max]
  refine congrArg _ ?_
  have := Cert.ReferenceIdeal.Att.row_max L (constant (F := Ideal) S_ .f32 0xFF800000#32) reducesTo_S2x4x8192x256_S2x4x8192_d3 h_S_ b h s
  have hz : constant (F := Ideal) S_ .f32 0xFF800000#32 (Shape.Idx.first h_S_) = Ideal.ofBits .f32 0xFF800000#32 := rfl
  rw [hz] at this
  exact this

def weight (L : FVec Ideal S2x4x8192x256 .f32) : FVec Ideal S2x4x8192x256 .f32 :=
  Host.exp (subf L (broadcastInDim S2x4x8192x256 ![0, 1, 2, 3] bcast_S2x4x8192x1_S2x4x8192x256_0_1_2_3 (broadcastInDim S2x4x8192x1 ![0, 1, 2] bcast_S2x4x8192_S2x4x8192x1_0_1_2 (top L))))

theorem weight_at (L : FVec Ideal S2x4x8192x256 .f32) (b : Fin 2) (h : Fin 4) (s : Fin 8192) (j : Fin 256) :
    weight L (ix4 b h s j) = Ideal.exp (L (ix4 b h s j) - top L (ix3 b h s)) := by
  pointwise [weight]

def out (K : FVec Ideal S2x256x512 .f32) (P : FVec Ideal S2x4x8192x256 .f32) : FVec Ideal S2x8192x256 .bf16 :=
  truncf .bf16 (shapeCast S2x8192x256 (transpose S2x8192x4x64 [0, 3, 1, 2] (Host.dotGeneral dot_S2x256x4x64_S2x4x8192x256_S2x4x64x8192_1_3_3_2_02_01 none
    (shapeCast S2x256x4x64 (extractStridedSlice S2x256x256 ![0, 0, 256] K slices_S2x256x512_S2x256x256_0_0_256) shapeCasts_S2x256x256_S2x256x4x64)
    (Host.divf P (broadcastInDim S2x4x8192x256 ![0, 1, 2, 3] bcast_S2x4x8192x1_S2x4x8192x256_0_1_2_3 (broadcastInDim S2x4x8192x1 ![0, 1, 2] bcast_S2x4x8192_S2x4x8192x1_0_1_2
      (Host.reduceAdd P (constant S_ .f32 0x00000000#32) reducesTo_S2x4x8192x256_S2x4x8192_d3 h_S_))))) transposes_S2x4x64x8192_S2x8192x4x64_0_3_1_2) shapeCasts_S2x8192x4x64_S2x8192x256) bitsLt_bf16_f32

theorem out_at (K : FVec Ideal S2x256x512 .f32) (P : FVec Ideal S2x4x8192x256 .f32) (b : Fin 2) (s : Fin 8192) (e : Fin 256) :
    out K P (ix3 b s e) = ∑ j : Fin 256, (K (ix3 b j ⟨256 + e, by omega⟩) : EReal) * Ideal.div (P (ix4 b ⟨e / 64, by omega⟩ s j)) (∑ k : Fin 256, (P (ix4 b ⟨e / 64, by omega⟩ s k) : EReal)) := by
  pointwise [out]

theorem ref_at (Q : FVec Ideal S2x8192x256 .f32) (K : FVec Ideal S2x256x512 .f32) (b : Fin 2) (s : Fin 8192) (e : Fin 256) :
    out K (weight (logits Q K)) (ix3 b s e) = Cert.Memory.att Q K b s e := by
  have ht : top (logits Q K) (ix3 b ⟨e / 64, by omega⟩ s)
      = Cert.Memory.top (fun d => Q (ix3 b s ⟨e / 64 * 64 + d, by omega⟩)) fun j d => K (ix3 b j ⟨e / 64 * 64 + d, by omega⟩) := by
    rw [top_at, Cert.ReferenceIdeal.Att.negInf, max_eq_right bot_le]
    exact congrArg (Finset.fold max ⊥ · Finset.univ) (funext fun j => logits_at Q K b _ s j)
  rw [out_at]
  simp only [weight_at, logits_at, ht]
  rfl

end Cert.Reference7Ideal.Memory

namespace Cert.Memory
open Cert.Pre_finite_memory_queries_and_keys

/-- The precondition: every query and every key is a real number. -/
theorem real [Facts] (Q : FVec Ideal S2x8192x256 .f32) (K : FVec Ideal S2x256x512 .f32) (h : fn (F := Ideal) Q K = fun _ => 1#1) :
    (∀ i, ∃ x : ℝ, (Q i : EReal) = x) ∧ ∀ (b : Fin 2) (j : Fin 256) (d : Fin 512), d.val < 256 → ∃ x : ℝ, (K (ix3 b j d) : EReal) = x := by
  dsimp only [fn] at h
  have e := Cert.Finite.and_left (congrFun h fun a => a.elim0)
  haveI : Subsingleton S_.Idx := ⟨fun a b => funext fun x => x.elim0⟩
  refine ⟨fun i => ?_, fun b j d hd => ?_⟩
  · exact Cert.Finite.real_of_lt _ (Host.reduce_andi_all _ _ _ _ _ e.1 i)
  · obtain ⟨x, hx⟩ := Cert.Finite.real_of_lt _ (Host.reduce_andi_all _ _ _ _ _ e.2 (ix3 b j ⟨d, hd⟩))
    refine ⟨x, Eq.trans ?_ hx⟩
    pointwise

end Cert.Memory
-- ==== Proof.MemoryBlock.lean ====
/- The memory attention kernel's result array: every grid point's two stores hold the reference's attention. -/
module

public import proofs.«01_k».proof.Proof.MemoryReference
public import proofs.«01_k».proof.Proof.Gen.Kernel7Ideal.Value

@[expose] public section
set_option maxRecDepth 16384
noncomputable section
open Idealize.ShloMosaic Idealize.ShloMosaic.TcCoe Idealize.SL.Sem
namespace Cert.Kernel7Ideal.Memory
open Cert.Kernel7Ideal Cert.Kernel7Ideal.Gen

/-- The lanes of the first of two heads. -/
def firstHead : IVec S512x128 1 :=
  broadcastTo S512x128 (shapeCast S1x128 (cmpi .slt (iota .tc S1x128 32 [1] iota_S1x128_d1_w32) (broadcast S1x128 64#32)) shapeCasts_S1x128_S1x128) broadcasts_S1x128_S512x128

/-- The queries of two heads, one head's rows after the other's, each zero in the other's lanes. -/
def stack (q : FVec Ideal S512x128 .bf16) : FVec Ideal S1024x128 .bf16 :=
  concatenate S1024x128 0 [⟨S512x128, select firstHead q (broadcast S512x128 (Scalar.ofBits .bf16 0x0000#16))⟩, ⟨S512x128, select firstHead (broadcast S512x128 (Scalar.ofBits .bf16 0x0000#16)) q⟩] concatenates_S512x128_S512x128_S1024x128_d0

def scores (u : FVec Ideal S1024x128 .bf16) (k : FVec Ideal S256x128 .bf16) : FVec Ideal S1024x256 .f32 :=
  matmul dot_S1024x128_S256x128_S1024x256_1_1_0_0_n_n none u k (constant S1024x256 .f32 0x00000000#32)

def tops (s : FVec Ideal S1024x256 .f32) : FVec Ideal S1024 .f32 := multiReduction .maximumf [1] S1024 s 0xFF800000#32 reduces_S1024x256_S1024 (.inl rfl) rfl

def weights (s : FVec Ideal S1024x256 .f32) (x : FVec Ideal S1024 .f32) : FVec Ideal S1024x256 .f32 :=
  exp2 (subf s (broadcastTo S1024x256 (shapeCast S1024x1 x shapeCasts_S1024_S1024x1) broadcasts_S1024x1_S1024x256))

def weighed (p : FVec Ideal S1024x256 .f32) (v : FVec Ideal S256x128 .bf16) : FVec Ideal S1024x128 .f32 :=
  mulf (matmul dot_S1024x256_S256x128_S1024x128_1_0_0_1_n_n none (truncf .bf16 p bitsLt_bf16_f32) v (constant S1024x128 .f32 0x00000000#32))
    (broadcastTo S1024x128 (divf (broadcast S1024x1 (Scalar.ofBits .f32 0x3F800000#32))
      (shapeCast S1024x1 (multiReduction .add [1] S1024 p 0x00000000#32 reduces_S1024x256_S1024 (.inl rfl) rfl) shapeCasts_S1024_S1024x1)) broadcasts_S1024x1_S1024x128)

theorem pay4_eq (q : Vec Ideal S1x512x128 .bf16) (k v : Vec Ideal S1x256x128 .bf16) :
    k0_pay4 q k v = weighed (weights (scores (stack (shapeCast S512x128 q shapeCasts_S1x512x128_S512x128)) (shapeCast S256x128 k shapeCasts_S1x256x128_S256x128))
      (tops (scores (stack (shapeCast S512x128 q shapeCasts_S1x512x128_S512x128)) (shapeCast S256x128 k shapeCasts_S1x256x128_S256x128)))) (shapeCast S256x128 v shapeCasts_S1x256x128_S256x128) := rfl

theorem stores_eq (q : Vec Ideal S1x512x128 .bf16) (k v : Vec Ideal S1x256x128 .bf16) :
    k0_pay3 (k0_pay2 q k v) = k0_pay1 (k0_pay5 q k v) (k0_pay6 q k v) k0_pay7 := rfl

theorem first_at (r : Fin 512) (d : Fin 128) : firstHead (ix2 r d) = if d.val < 64 then 1#1 else 0#1 := by
  pointwise [firstHead]
  revert d
  decide

theorem zero_bits : Ideal.ofBits .bf16 0x0000#16 = 0 := by
  simp [Ideal.ofBits, Ideal.ieee]

theorem stack_first (q : FVec Ideal S512x128 .bf16) (r : Fin 512) (d : Fin 128) : stack q (ix2 ⟨r, by omega⟩ d) = if d.val < 64 then q (ix2 r d) else 0 := by
  pointwise [stack]
  rw [first_at]
  split <;> rfl

theorem stack_second (q : FVec Ideal S512x128 .bf16) (r : Fin 512) (d : Fin 128) : stack q (ix2 ⟨512 + r, by omega⟩ d) = if d.val < 64 then 0 else q (ix2 r d) := by
  pointwise [stack]
  rw [first_at]
  split <;> rfl

theorem scores_at (u : FVec Ideal S1024x128 .bf16) (k : FVec Ideal S256x128 .bf16) (r : Fin 1024) (j : Fin 256) :
    scores u k (ix2 r j) = ∑ d : Fin 128, u (ix2 r d) * k (ix2 j d) := by
  pointwise [scores]

theorem tops_at (s : FVec Ideal S1024x256 .f32) (r : Fin 1024) : tops s (ix1 r) = Finset.univ.fold max ⊥ fun j : Fin 256 => s (ix2 r j) := by
  pointwise [tops]
  rw [Cert.ReferenceIdeal.Att.negInf]

theorem weights_at (s : FVec Ideal S1024x256 .f32) (x : FVec Ideal S1024 .f32) (r : Fin 1024) (j : Fin 256) :
    weights s x (ix2 r j) = Ideal.exp2 (s (ix2 r j) - x (ix1 r)) := by
  pointwise [weights]
  rfl

theorem weighed_at (p : FVec Ideal S1024x256 .f32) (v : FVec Ideal S256x128 .bf16) (r : Fin 1024) (e : Fin 128) :
    weighed p v (ix2 r e) = (∑ j : Fin 256, p (ix2 r j) * v (ix2 j e)) * Ideal.div 1 (∑ j : Fin 256, p (ix2 r j)) := by
  pointwise [weighed]

theorem row_at (u : FVec Ideal S1024x128 .bf16) (k v : FVec Ideal S256x128 .bf16) (r : Fin 1024) (e : Fin 128) (a : Fin 64 → EReal) (b : Fin 256 → Fin 64 → EReal) (w : Fin 256 → EReal)
    (ha : ∀ d, ∃ x : ℝ, a d = x) (hb : ∀ j d, ∃ x : ℝ, b j d = x) (hs : ∀ j, ∑ d : Fin 128, u (ix2 r d) * k (ix2 j d) = ∑ d, Cert.Memory.scaled (a d) * b j d)
    (hv : ∀ j, v (ix2 j e) = w j) : weighed (weights (scores u k) (tops (scores u k))) v (ix2 r e) = Cert.Memory.attend a b w := by
  rw [weighed_at]
  simp only [weights_at, tops_at, scores_at, hv]
  exact Cert.Memory.attend_eq a b w ha hb (fun j => ∑ d : Fin 128, u (ix2 r d) * k (ix2 j d)) hs

theorem q_cast (q : Vec Ideal S1x512x128 .bf16) (r : Fin 512) (d : Fin 128) : shapeCast S512x128 q shapeCasts_S1x512x128_S512x128 (ix2 r d) = q (ix3 0 r d) := by
  pointwise
theorem k_cast (k : Vec Ideal S1x256x128 .bf16) (j : Fin 256) (d : Fin 128) : shapeCast S256x128 k shapeCasts_S1x256x128_S256x128 (ix2 j d) = k (ix3 0 j d) := by
  pointwise

section
variable (q : Vec Ideal S1x512x128 .bf16) (k v : Vec Ideal S1x256x128 .bf16) (r : Fin 512) (e : Fin 128) (a : Fin 64 → EReal) (b : Fin 256 → Fin 64 → EReal) (w : Fin 256 → EReal)
  (ha : ∀ d, ∃ x : ℝ, a d = x) (hb : ∀ j d, ∃ x : ℝ, b j d = x) (hv : ∀ j : Fin 256, v (ix3 0 j e) = w j)
include ha hb hv

theorem first_head (hq : ∀ d : Fin 64, q (ix3 0 r ⟨d, by omega⟩) = Cert.Memory.scaled (a d)) (hk : ∀ (j : Fin 256) (d : Fin 64), k (ix3 0 j ⟨d, by omega⟩) = b j d) :
    k0_pay4 q k v (ix2 ⟨r, by omega⟩ e) = Cert.Memory.attend a b w := by
  rw [pay4_eq]
  refine row_at _ _ _ _ _ _ _ _ ha hb (fun j => ?_) fun j => (k_cast v j e).trans (hv j)
  simp only [stack_first]
  refine (Cert.Memory.first_lanes (fun d => shapeCast S512x128 q shapeCasts_S1x512x128_S512x128 (ix2 r d)) fun d => shapeCast S256x128 k shapeCasts_S1x256x128_S256x128 (ix2 j d)).trans ?_
  exact Finset.sum_congr rfl fun d _ => congrArg₂ (fun x y : EReal => x * y) ((q_cast q r _).trans (hq d)) ((k_cast k j _).trans (hk j d))

theorem second_head (hq : ∀ d : Fin 64, q (ix3 0 r ⟨64 + d, by omega⟩) = Cert.Memory.scaled (a d)) (hk : ∀ (j : Fin 256) (d : Fin 64), k (ix3 0 j ⟨64 + d, by omega⟩) = b j d) :
    k0_pay4 q k v (ix2 ⟨512 + r, by omega⟩ e) = Cert.Memory.attend a b w := by
  rw [pay4_eq]
  refine row_at _ _ _ _ _ _ _ _ ha hb (fun j => ?_) fun j => (k_cast v j e).trans (hv j)
  simp only [stack_second]
  refine (Cert.Memory.second_lanes (fun d => shapeCast S512x128 q shapeCasts_S1x512x128_S512x128 (ix2 r d)) fun d => shapeCast S256x128 k shapeCasts_S1x256x128_S256x128 (ix2 j d)).trans ?_
  exact Finset.sum_congr rfl fun d _ => congrArg₂ (fun x y : EReal => x * y) ((q_cast q r _).trans (hq d)) ((k_cast k j _).trans (hk j d))
end

theorem store_at (q : Vec Ideal S1x512x128 .bf16) (k v : Vec Ideal S1x256x128 .bf16) (r : Fin 512) (e : Fin 128) :
    k0_pay1 (k0_pay5 q k v) (k0_pay6 q k v) k0_pay7 (ix3 0 r e) = if e.val < 64 then k0_pay4 q k v (ix2 ⟨r, by omega⟩ e) else k0_pay4 q k v (ix2 ⟨512 + r, by omega⟩ e) := by
  have h : k0_pay1 (k0_pay5 q k v) (k0_pay6 q k v) k0_pay7 = shapeCast S1x512x128 (truncf .bf16 (select firstHead
      (extractStridedSlice S512x128 ![0, 0] (k0_pay4 q k v) slices_S1024x128_o0_0_S512x128) (extractStridedSlice S512x128 ![512, 0] (k0_pay4 q k v) slices_S1024x128_o512_0_S512x128)) bitsLt_bf16_f32) shapeCasts_S512x128_S1x512x128 := rfl
  rw [h]
  generalize k0_pay4 q k v = z
  pointwise
  rw [first_at]
  split <;> rfl

variable (m : (ℓ : Loc nD τ sig) → Buf (Elt Ideal) ℓ)

abbrev Q (c : Dev nD) : S2x8192x256.Idx → EReal := m ((c : Thread nD τ).loc main_arg0)
abbrev K (c : Dev nD) : S2x256x512.Idx → EReal := m ((c : Thread nD τ).loc main_arg1)

theorem q_at (c : Dev nD) (b : Fin 2) (s : Fin 8192) (e : Fin 256) : (V m c main_v5 : S2x8192x256.Idx → EReal) (ix3 b s e) = Cert.Memory.scaled (Q m c (ix3 b s e)) := by
  dsimp only [V, hostOps0, List.flatten_cons, List.flatten_nil, List.append_nil]
  entry_read
  pointwise
  rfl

theorem k_at (c : Dev nD) (b : Fin 2) (j : Fin 256) (d : Fin 512) : (V m c main_v6 : S2x256x512.Idx → EReal) (ix3 b j d) = K m c (ix3 b j d) := by
  dsimp only [V, hostOps0, List.flatten_cons, List.flatten_nil, List.append_nil]
  entry_read
  pointwise

theorem idx : ∀ t : Fin cfg0.N, win0_0.index t = ![t.val / 16, t.val % 16, 0] ∧ win0_1.index t = ![t.val / 16, 0, 0] ∧ win0_2.index t = ![t.val / 16, t.val % 16, 0] :=
  (by decide +kernel : ∀ t : Fin grid0.N, _)

theorem q_emb (t : Fin cfg0.N) (ht : t.val < 32) (r : Fin 512) (d : Fin 256) : (win0_0.blk t).view.emb (ix3 0 r d) = (ix3 ⟨t / 16, by omega⟩ ⟨t % 16 * 512 + r, by omega⟩ d : S2x8192x256.Idx) := by
  funext a
  fin_cases a <;> apply Fin.ext <;> blk_simp [idx t]
  all_goals simp [ix3]
theorem q_blk (c : Dev nD) (t : Fin cfg0.N) (ht : t.val < 32) (r : Fin 512) (d : Fin 256) :
    (iblk m c 0 t : S1x512x256.Idx → EReal) (ix3 0 r d) = Cert.Memory.scaled (Q m c (ix3 ⟨t / 16, by omega⟩ ⟨t % 16 * 512 + r, by omega⟩ d)) := by
  rw [← q_at m c, ← q_emb t ht r d]
  unfold iblk
  exact (View.read_apply _ _).trans (cast_eq _ _)

theorem k_emb (t : Fin cfg0.N) (ht : t.val < 32) (j : Fin 256) (d : Fin 512) : (win0_1.blk t).view.emb (ix3 0 j d) = (ix3 ⟨t / 16, by omega⟩ j d : S2x256x512.Idx) := by
  funext a
  fin_cases a <;> apply Fin.ext <;> blk_simp [idx t]
  all_goals simp [ix3]
theorem k_blk (c : Dev nD) (t : Fin cfg0.N) (ht : t.val < 32) (j : Fin 256) (d : Fin 512) :
    (iblk m c 1 t : S1x256x512.Idx → EReal) (ix3 0 j d) = K m c (ix3 ⟨t / 16, by omega⟩ j d) := by
  rw [← k_at m c, ← k_emb t ht j d]
  unfold iblk
  exact (View.read_apply _ _).trans (cast_eq _ _)

theorem ld_q0 (x : Vec Ideal S1x512x256 .bf16) (r : Fin 512) (d : Fin 128) : View.ld x r0_0 (ix3 0 r d) = x (ix3 0 r ⟨d, by omega⟩) := by
  pointwise
theorem ld_q1 (x : Vec Ideal S1x512x256 .bf16) (r : Fin 512) (d : Fin 128) : View.ld x r0_3 (ix3 0 r d) = x (ix3 0 r ⟨128 + d, by omega⟩) := by
  pointwise
theorem ld_k0 (x : Vec Ideal S1x256x512 .bf16) (j : Fin 256) (d : Fin 128) : View.ld x r0_1 (ix3 0 j d) = x (ix3 0 j ⟨d, by omega⟩) := by
  pointwise
theorem ld_v0 (x : Vec Ideal S1x256x512 .bf16) (j : Fin 256) (d : Fin 128) : View.ld x r0_2 (ix3 0 j d) = x (ix3 0 j ⟨256 + d, by omega⟩) := by
  pointwise
theorem ld_k1 (x : Vec Ideal S1x256x512 .bf16) (j : Fin 256) (d : Fin 128) : View.ld x r0_4 (ix3 0 j d) = x (ix3 0 j ⟨128 + d, by omega⟩) := by
  pointwise
theorem ld_v1 (x : Vec Ideal S1x256x512 .bf16) (j : Fin 256) (d : Fin 128) : View.ld x r0_5 (ix3 0 j d) = x (ix3 0 j ⟨384 + d, by omega⟩) := by
  pointwise

section
variable (c : Dev nD) (hQ : ∀ i, ∃ x : ℝ, Q m c i = x) (hK : ∀ (b : Fin 2) (j : Fin 256) (d : Fin 512), d.val < 256 → ∃ x : ℝ, K m c (ix3 b j d) = x) (t : Fin cfg0.N) (ht : t.val < 32)
include hQ hK ht

/-- A pair of heads whose queries, keys and values start at lanes `o`, `o` and `256 + o`. -/
theorem pair_value (o : Fin 129) (ho : o.val % 128 = 0) (q : Vec Ideal S1x512x128 .bf16) (k v : Vec Ideal S1x256x128 .bf16)
    (hq : ∀ (r : Fin 512) (d : Fin 128), q (ix3 0 r d) = (iblk m c 0 t : S1x512x256.Idx → EReal) (ix3 0 r ⟨o + d, by omega⟩))
    (hk : ∀ (j : Fin 256) (d : Fin 128), k (ix3 0 j d) = (iblk m c 1 t : S1x256x512.Idx → EReal) (ix3 0 j ⟨o + d, by omega⟩))
    (hv : ∀ (j : Fin 256) (d : Fin 128), v (ix3 0 j d) = (iblk m c 1 t : S1x256x512.Idx → EReal) (ix3 0 j ⟨256 + (o + d), by omega⟩)) (r : Fin 512) (e : Fin 128) :
    k0_pay1 (k0_pay5 q k v) (k0_pay6 q k v) k0_pay7 (ix3 0 r e) = Cert.Memory.att (Q m c) (K m c) ⟨t / 16, by omega⟩ ⟨t % 16 * 512 + r, by omega⟩ ⟨o + e, by omega⟩ := by
  rw [store_at]
  unfold Cert.Memory.att
  have hv' := fun j => (hv j e).trans (k_blk m c t ht j _)
  split
  · have eh : ∀ d : Fin 64, (⟨o + d, by omega⟩ : Fin 256) = ⟨(o + e) / 64 * 64 + d, by omega⟩ := fun d => Fin.ext (by show o.val + d.val = (o.val + e.val) / 64 * 64 + d.val; omega)
    refine first_head q k v r e _ _ _ (fun _ => hQ _) (fun j d => hK _ j ⟨(o + e) / 64 * 64 + d, by omega⟩ (by show (o.val + e.val) / 64 * 64 + d.val < 256; omega)) hv' (fun d => ?_) fun j d => ?_
    · refine ((hq r _).trans (q_blk m c t ht r _)).trans (congrArg (fun x => Cert.Memory.scaled (Q m c (ix3 _ _ x))) (eh d))
    · refine ((hk j _).trans (k_blk m c t ht j _)).trans (congrArg (fun x : Fin 256 => K m c (ix3 _ j ⟨x, by omega⟩)) (eh d))
  · have eh : ∀ d : Fin 64, (⟨o + (64 + d), by omega⟩ : Fin 256) = ⟨(o + e) / 64 * 64 + d, by omega⟩ := fun d => Fin.ext (by show o.val + (64 + d.val) = (o.val + e.val) / 64 * 64 + d.val; omega)
    refine second_head q k v r e _ _ _ (fun _ => hQ _) (fun j d => hK _ j ⟨(o + e) / 64 * 64 + d, by omega⟩ (by show (o.val + e.val) / 64 * 64 + d.val < 256; omega)) hv' (fun d => ?_) fun j d => ?_
    · refine ((hq r _).trans (q_blk m c t ht r _)).trans (congrArg (fun x => Cert.Memory.scaled (Q m c (ix3 _ _ x))) (eh d))
    · refine ((hk j _).trans (k_blk m c t ht j _)).trans (congrArg (fun x : Fin 256 => K m c (ix3 _ j ⟨x, by omega⟩)) (eh d))
end

def attArr (Q : S2x8192x256.Idx → EReal) (K : S2x256x512.Idx → EReal) (i : S2x8192x256.Idx) : EReal := Cert.Memory.att Q K (i 0) (i 1) (i 2)

theorem final (c : Dev nD) (hQ : ∀ i, ∃ x : ℝ, Q m c i = x) (hK : ∀ (b : Fin 2) (j : Fin 256) (d : Fin 512), d.val < 256 → ∃ x : ℝ, K m c (ix3 b j d) = x) :
    (dats m 0 c).arrAt 2 cfg0.N = attArr (Q m c) (K m c) := by
  refine (dats m 0 c).arrAt_eq_of_covers 2 _ (by decide +kernel) fun t _ y => ?_
  blk_simp
  rw [after0_2]
  have ht : t.val < 32 := t.isLt
  unfold out0_2
  canon_tiles x h using Gen.cover0_2 ..
  · idx_vars x
    have hy : (win0_2.blk t).view.emb y = (ix3 ⟨t / 16, by omega⟩ ⟨t % 16 * 512 + x1, by omega⟩ ⟨128 + x2, by omega⟩ : S2x8192x256.Idx) := by
      funext a
      fin_cases a <;> apply Fin.ext <;> blk_simp [idx t]
      · rfl
      · exact congrArg (t.val % 16 * 512 + ·) h1
      · exact h2
    obtain rfl : x0 = 0 := Subsingleton.elim _ _
    rw [hy]
    exact pair_value m c hQ hK t ht 128 rfl _ _ _ (fun r d => ld_q1 _ r d) (fun j d => ld_k1 _ j d) (fun j d => (ld_v1 _ j d).trans (congrArg _ (congrArg (ix3 0 j) (Fin.ext (by show 384 + d.val = 256 + (128 + d.val); omega))))) x1 x2
  · idx_vars x
    have hy : (win0_2.blk t).view.emb y = (ix3 ⟨t / 16, by omega⟩ ⟨t % 16 * 512 + x1, by omega⟩ ⟨0 + x2, by omega⟩ : S2x8192x256.Idx) := by
      funext a
      fin_cases a <;> apply Fin.ext <;> blk_simp [idx t]
      · rfl
      · exact congrArg (t.val % 16 * 512 + ·) h1
      · exact h2
    obtain rfl : x0 = 0 := Subsingleton.elim _ _
    rw [hy, stores_eq]
    exact pair_value m c hQ hK t ht 0 rfl _ _ _ (fun r d => (ld_q0 _ r d).trans (congrArg _ (congrArg (ix3 0 r) (Fin.ext (Nat.zero_add _).symm)))) (fun j d => (ld_k0 _ j d).trans (congrArg _ (congrArg (ix3 0 j) (Fin.ext (Nat.zero_add _).symm))))
      (fun j d => (ld_v0 _ j d).trans (congrArg _ (congrArg (ix3 0 j) (Fin.ext (by show 256 + d.val = 256 + (0 + d.val); omega))))) x1 x2

end Cert.Kernel7Ideal.Memory
-- ==== Proof.lean ====
/- The certificate of the eight calls: the frames, and the value of each call's result array against its reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Attention
public import proofs.«01_k».proof.Proof.Reference
public import proofs.«01_k».proof.Proof.Finite
public import proofs.«01_k».proof.Proof.FfnBlock
public import proofs.«01_k».proof.Proof.FfnReference
public import proofs.«01_k».proof.Proof.MergeBlock
public import proofs.«01_k».proof.Proof.MergeReference
public import proofs.«01_k».proof.Proof.FirstBlock
public import proofs.«01_k».proof.Proof.FirstReference
public import proofs.«01_k».proof.Proof.InputBlock
public import proofs.«01_k».proof.Proof.InputReference
public import proofs.«01_k».proof.Proof.LatentBlock
public import proofs.«01_k».proof.Proof.LatentReference
public import proofs.«01_k».proof.Proof.MemoryKeys
public import proofs.«01_k».proof.Proof.MemoryReference
public import proofs.«01_k».proof.Proof.MemoryBlock

@[expose] public section

set_option maxRecDepth 16384

noncomputable section

namespace Cert.Proof

open Idealize.ShloMosaic Idealize.SL.Sem

/-- The attention call's result is the reference's, index by index, for finite queries and keys. -/
theorem value (hPre : Cert.Pre_finite_queries_and_keys.Facts) :
    Cert.algebraic_KernelIdeal_ReferenceIdeal_pre_finite_queries_and_keys (hKernelIdeal := Cert.KernelIdeal.Gen.facts)
      (hReferenceIdeal := Cert.ReferenceIdeal.Gen.facts) (hPre_finite_queries_and_keys := hPre) := by
  pair_intro
  · run_from Cert.KernelIdeal.Value.run_blocks m g
  · run_from Cert.ReferenceIdeal.Value.run m' g'
    obtain ⟨hQ, hK⟩ := Cert.Finite.real _ _ _ (hpre c)
    rw [Cert.KernelIdeal.Att.final m c hQ hK]
    funext i
    idx_vars i
    exact Cert.ReferenceIdeal.Att.ref_at (Cert.KernelIdeal.Att.Q m c) (Cert.KernelIdeal.Att.K m c) (Cert.KernelIdeal.Att.W m c) i0 i1 i2

/-- The attention's reference ends with its arguments unchanged; it declares no semaphore. -/
theorem reference_frame : Cert.quiescent_ReferenceIdeal (hReferenceIdeal := Cert.ReferenceIdeal.Gen.facts) := by
  intro m g _
  refine (θ_run _ _ _).mono (fun r h => ⟨fun c => (h c).2, funext fun s => ?_⟩) (Cert.ReferenceIdeal.Value.run m g)
  obtain ⟨_, s⟩ := s
  cases s with
  | reg s => exact Fin.elim0 s
  | dma s => exact Fin.elim0 s

/-- The feed-forward call's result is the reference's, index by index. -/
theorem ffn_value : Cert.algebraic_Kernel2Ideal_Reference2Ideal (hKernel2Ideal := Cert.Kernel2Ideal.Gen.facts)
      (hReference2Ideal := Cert.Reference2Ideal.Gen.facts) := by
  pair_intro
  · run_from Cert.Kernel2Ideal.Value.run_blocks m g
  · run_from Cert.Reference2Ideal.Value.run m' g'
    rw [Cert.Kernel2Ideal.Ffn.final]
    funext i
    idx_vars i
    obtain ⟨h0, h1, h2, h3, h4, h5⟩ := hagree c
    refine (congrFun (Cert.Reference2Ideal.Ffn.run_eq m' c) _).trans ?_
    rw [h0, h1, h2, h3, h4, h5]
    exact Cert.Reference2Ideal.Ffn.ref_at (Cert.Kernel2Ideal.Ffn.X m c) (Cert.Kernel2Ideal.Ffn.gains m c) (Cert.Kernel2Ideal.Ffn.WG m c) (Cert.Kernel2Ideal.Ffn.WU m c) (Cert.Kernel2Ideal.Ffn.WD m c) (Cert.Kernel2Ideal.Ffn.lastGains m c) i0 i1

/-- The feed-forward reference ends with its arguments unchanged. -/
theorem ffn_reference_frame : Cert.quiescent_Reference2Ideal (hReference2Ideal := Cert.Reference2Ideal.Gen.facts) := by
  intro m g _
  refine (θ_run _ _ _).mono (fun r h => ⟨fun c => (h c).2, funext fun s => ?_⟩) (Cert.Reference2Ideal.Value.run m g)
  obtain ⟨_, s⟩ := s
  cases s with
  | reg s => exact Fin.elim0 s
  | dma s => exact Fin.elim0 s

/-- The merge call's result is the reference's, index by index. -/
theorem merge_value : Cert.algebraic_Kernel3Ideal_Reference3Ideal (hKernel3Ideal := Cert.Kernel3Ideal.Gen.facts)
      (hReference3Ideal := Cert.Reference3Ideal.Gen.facts) := by
  pair_intro
  · run_from Cert.Kernel3Ideal.Value.run_blocks m g
  · run_from Cert.Reference3Ideal.Value.run m' g'
    rw [Cert.Kernel3Ideal.Merge.final]
    funext i
    idx_vars i
    obtain ⟨h0, h1, h2, h3, h4, h5, h6, h7, h8, h9⟩ := hagree c
    refine (congrFun (Cert.Reference3Ideal.Merge.run_eq m' c) _).trans ?_
    rw [h0, h1, h2, h3, h4, h5, h6, h7, h8, h9]
    exact Cert.Reference3Ideal.Merge.ref_at (Cert.Kernel3Ideal.Merge.X m c) (Cert.Kernel3Ideal.Merge.gains m c) (Cert.Kernel3Ideal.Merge.B0 m c) (Cert.Kernel3Ideal.Merge.B1 m c) (Cert.Kernel3Ideal.Merge.B2 m c) (Cert.Kernel3Ideal.Merge.B3 m c) (Cert.Kernel3Ideal.Merge.B4 m c) (Cert.Kernel3Ideal.Merge.W m c) (Cert.Kernel3Ideal.Merge.P m c) (Cert.Kernel3Ideal.Merge.O m c) i0 i1

/-- The merge's reference ends with its arguments unchanged. -/
theorem merge_reference_frame : Cert.quiescent_Reference3Ideal (hReference3Ideal := Cert.Reference3Ideal.Gen.facts) := by
  intro m g _
  refine (θ_run _ _ _).mono (fun r h => ⟨fun c => (h c).2, funext fun s => ?_⟩) (Cert.Reference3Ideal.Value.run m g)
  obtain ⟨_, s⟩ := s
  cases s with
  | reg s => exact Fin.elim0 s
  | dma s => exact Fin.elim0 s

/-- The first half-step's result is the reference's, index by index. -/
theorem first_value : Cert.algebraic_Kernel4Ideal_Reference4Ideal (hKernel4Ideal := Cert.Kernel4Ideal.Gen.facts)
      (hReference4Ideal := Cert.Reference4Ideal.Gen.facts) := by
  pair_intro
  · run_from Cert.Kernel4Ideal.Value.run_blocks m g
  · run_from Cert.Reference4Ideal.Value.run m' g'
    rw [Cert.Kernel4Ideal.Ffn.final]
    funext i
    idx_vars i
    exact Cert.Reference4Ideal.Ffn.step_at (Cert.Kernel4Ideal.Ffn.X m c) (Cert.Kernel4Ideal.Ffn.gains m c) (Cert.Kernel4Ideal.Ffn.WG m c) (Cert.Kernel4Ideal.Ffn.WU m c) (Cert.Kernel4Ideal.Ffn.WD m c) i0 i1

/-- The first half-step's reference ends with its arguments unchanged. -/
theorem first_reference_frame : Cert.quiescent_Reference4Ideal (hReference4Ideal := Cert.Reference4Ideal.Gen.facts) := by
  intro m g _
  refine (θ_run _ _ _).mono (fun r h => ⟨fun c => (h c).2, funext fun s => ?_⟩) (Cert.Reference4Ideal.Value.run m g)
  obtain ⟨_, s⟩ := s
  cases s with
  | reg s => exact Fin.elim0 s
  | dma s => exact Fin.elim0 s

/-- The input projection's four results are the reference's, index by index. -/
theorem input_value : Cert.algebraic_Kernel5Ideal_Reference5Ideal (hKernel5Ideal := Cert.Kernel5Ideal.Gen.facts)
      (hReference5Ideal := Cert.Reference5Ideal.Gen.facts) := by
  pair_intro
  · run_from Cert.Kernel5Ideal.Value.run_blocks m g
  · run_from Cert.Reference5Ideal.Value.run m' g'
    · rw [Cert.Kernel5Ideal.Input.final10]
      funext i
      idx_vars i
      exact (Cert.Reference5Ideal.Input.first_at _ i0 i1).trans (Cert.Reference5Ideal.Input.prod_at (Cert.Kernel5Ideal.Input.X m c) (Cert.Kernel5Ideal.Input.gains m c) (Cert.Kernel5Ideal.Input.W m c) i1 _)
    · rw [Cert.Kernel5Ideal.Input.final11]
      funext i
      idx_vars i
      obtain ⟨h0, h1, h2, -⟩ := hagree c
      refine (congrFun (Cert.Reference5Ideal.Input.run_eq m' c) _).trans ?_
      rw [h0, h1, h2]
      exact (Cert.Reference5Ideal.Input.swa_at _ i0 i1).trans (Cert.Reference5Ideal.Input.prod_at (Cert.Kernel5Ideal.Input.X m c) (Cert.Kernel5Ideal.Input.gains m c) (Cert.Kernel5Ideal.Input.W m c) i0 _)
    · rw [Cert.Kernel5Ideal.Input.final12]
      funext i
      idx_vars i
      exact (Cert.Reference5Ideal.Input.na_at _ i0 i1).trans (Cert.Reference5Ideal.Input.prod_at (Cert.Kernel5Ideal.Input.X m c) (Cert.Kernel5Ideal.Input.gains m c) (Cert.Kernel5Ideal.Input.W m c) i0 _)
    · rw [Cert.Kernel5Ideal.Input.final13]
      funext i
      idx_vars i
      exact (Cert.Reference5Ideal.Input.mem_at _ i0 i1).trans (Cert.Reference5Ideal.Input.prod_at (Cert.Kernel5Ideal.Input.X m c) (Cert.Kernel5Ideal.Input.gains m c) (Cert.Kernel5Ideal.Input.W m c) i0 _)

/-- The input projection's reference ends with its arguments unchanged. -/
theorem input_reference_frame : Cert.quiescent_Reference5Ideal (hReference5Ideal := Cert.Reference5Ideal.Gen.facts) := by
  intro m g _
  refine (θ_run _ _ _).mono (fun r h => ⟨fun c => (h c).2.2.2.2, funext fun s => ?_⟩) (Cert.Reference5Ideal.Value.run m g)
  obtain ⟨_, s⟩ := s
  cases s with
  | reg s => exact Fin.elim0 s
  | dma s => exact Fin.elim0 s

/-- The memory's keys and values are the reference's, index by index. -/
theorem memory_keys_value : Cert.algebraic_Kernel6Ideal_Reference6Ideal (hKernel6Ideal := Cert.Kernel6Ideal.Gen.facts)
      (hReference6Ideal := Cert.Reference6Ideal.Gen.facts) := by
  pair_intro
  · run_from Cert.Kernel6Ideal.Value.run_blocks m g
  · run_from Cert.Reference6Ideal.Value.run m' g'
    rw [Cert.Kernel6Ideal.Memory.final]
    funext i
    idx_vars i
    exact Cert.Reference6Ideal.Memory.keys_at (Cert.Kernel6Ideal.Memory.M m c) (Cert.Kernel6Ideal.Memory.gains m c) (Cert.Kernel6Ideal.Memory.W m c) i0 i1 i2

/-- The reference of the memory's keys and values ends with its arguments unchanged. -/
theorem memory_keys_reference_frame : Cert.quiescent_Reference6Ideal (hReference6Ideal := Cert.Reference6Ideal.Gen.facts) := by
  intro m g _
  refine (θ_run _ _ _).mono (fun r h => ⟨fun c => (h c).2, funext fun s => ?_⟩) (Cert.Reference6Ideal.Value.run m g)
  obtain ⟨_, s⟩ := s
  cases s with
  | reg s => exact Fin.elim0 s
  | dma s => exact Fin.elim0 s

/-- The memory attention's result is the reference's, index by index, for finite queries and keys. -/
theorem memory_value (hPre' : Cert.Pre_finite_memory_queries_and_keys.Facts) :
    Cert.algebraic_Kernel7Ideal_Reference7Ideal_pre_finite_memory_queries_and_keys (hKernel7Ideal := Cert.Kernel7Ideal.Gen.facts)
      (hReference7Ideal := Cert.Reference7Ideal.Gen.facts) (hPre_finite_memory_queries_and_keys := hPre') := by
  pair_intro
  · run_from Cert.Kernel7Ideal.Value.run_blocks m g
  · run_from Cert.Reference7Ideal.Value.run m' g'
    obtain ⟨hQ, hK⟩ := Cert.Memory.real _ _ (hpre c)
    rw [Cert.Kernel7Ideal.Memory.final m c hQ hK]
    funext i
    idx_vars i
    exact Cert.Reference7Ideal.Memory.ref_at (Cert.Kernel7Ideal.Memory.Q m c) (Cert.Kernel7Ideal.Memory.K m c) i0 i1 i2

/-- The memory attention's reference ends with its arguments unchanged. -/
theorem memory_reference_frame : Cert.quiescent_Reference7Ideal (hReference7Ideal := Cert.Reference7Ideal.Gen.facts) := by
  intro m g _
  refine (θ_run _ _ _).mono (fun r h => ⟨fun c => (h c).2, funext fun s => ?_⟩) (Cert.Reference7Ideal.Value.run m g)
  obtain ⟨_, s⟩ := s
  cases s with
  | reg s => exact Fin.elim0 s
  | dma s => exact Fin.elim0 s

/-- The projection's latent queries, keys and values are the reference's, index by index. -/
theorem latent_value (hPre : Cert.Pre_finite_latent_weights.Facts) : Cert.algebraic_Kernel8Ideal_Reference8Ideal_pre_finite_latent_weights (hKernel8Ideal := Cert.Kernel8Ideal.Gen.facts)
      (hReference8Ideal := Cert.Reference8Ideal.Gen.facts) (hPre_finite_latent_weights := hPre) := by
  pair_intro
  · run_from Cert.Kernel8Ideal.Value.run_blocks m g
  · run_from Cert.Reference8Ideal.Value.run m' g'
    · obtain ⟨hg, hW, hq, hQ⟩ := Cert.Latent.real _ _ _ _ _ _ _ (hpre c)
      rw [Cert.Kernel8Ideal.Latent.final14 m c (fun _ => hq _) (fun _ _ => hQ _)]
      funext i
      idx_vars i
      obtain ⟨h0, h1, h2, h3, h4, h5, h6⟩ := hagree c
      refine (congrFun (Cert.Reference8Ideal.Latent.run_q m' c) _).trans ?_
      rw [h0, h1, h2, h3, h4]
      exact Cert.Reference8Ideal.Latent.queries_row (Cert.Kernel8Ideal.Latent.X m c) (Cert.Kernel8Ideal.Latent.gains m c) (Cert.Kernel8Ideal.Latent.W m c) (Cert.Kernel8Ideal.Latent.QG m c) (Cert.Kernel8Ideal.Latent.Q m c) i0 i1
    · obtain ⟨hg, hW, hq, hQ⟩ := Cert.Latent.real _ _ _ _ _ _ _ (hpre c)
      rw [Cert.Kernel8Ideal.Latent.final15 m c (fun _ => hg _) (fun _ _ => hW _)]
      funext i
      idx_vars i
      obtain ⟨h0, h1, h2, h3, h4, h5, h6⟩ := hagree c
      refine (congrFun (Cert.Reference8Ideal.Latent.run_k m' c) _).trans ?_
      rw [h0, h1, h2, h5, h6]
      exact Cert.Reference8Ideal.Latent.keys_row (Cert.Kernel8Ideal.Latent.X m c) (Cert.Kernel8Ideal.Latent.gains m c) (Cert.Kernel8Ideal.Latent.W m c) (Cert.Kernel8Ideal.Latent.KG m c) (Cert.Kernel8Ideal.Latent.KV m c) i0 i1
    · rw [Cert.Kernel8Ideal.Latent.final16 m c]
      funext i
      idx_vars i
      obtain ⟨h0, h1, h2, h3, h4, h5, h6⟩ := hagree c
      refine (congrFun (Cert.Reference8Ideal.Latent.run_v m' c) _).trans ?_
      rw [h0, h1, h2, h5, h6]
      exact Cert.Reference8Ideal.Latent.values_row (Cert.Kernel8Ideal.Latent.X m c) (Cert.Kernel8Ideal.Latent.gains m c) (Cert.Kernel8Ideal.Latent.W m c) (Cert.Kernel8Ideal.Latent.KG m c) (Cert.Kernel8Ideal.Latent.KV m c) i0 i1

/-- The latent reference ends with its arguments unchanged. -/
theorem latent_reference_frame : Cert.quiescent_Reference8Ideal (hReference8Ideal := Cert.Reference8Ideal.Gen.facts) := by
  intro m g _
  refine (θ_run _ _ _).mono (fun r h => ⟨fun c => (h c).2.2.2, funext fun s => ?_⟩) (Cert.Reference8Ideal.Value.run m g)
  obtain ⟨_, s⟩ := s
  cases s with
  | reg s => exact Fin.elim0 s
  | dma s => exact Fin.elim0 s

/-- The two named constants of the projection are the rounded ones' exact values. -/
theorem latent_constants : Cert.preserves_Kernel8_Kernel8Ideal :=
  ⟨IdealRules.named_const.statement Cert.Kernel8Ideal.κ "query_rank_inverse" .f32 0x3BAAAAAB#32 ((192⁻¹ : ℝ) : EReal) rfl,
    IdealRules.named_const.statement Cert.Kernel8Ideal.κ "query_scale" .f32 0x3E16C740#32 ((((Real.sqrt 96) * (Real.log 2))⁻¹ : ℝ) : EReal) rfl⟩

/-- Everything claimed of the eight calls. -/
theorem claim : Cert.Claim := by
  have hPre : Cert.Pre_finite_queries_and_keys.Facts := ⟨by decide, by decide, by decide⟩
  have hPre' : Cert.Pre_finite_memory_queries_and_keys.Facts := ⟨by decide, by decide, by decide, by decide, by decide, by decide⟩
  have hPre'' : Cert.Pre_finite_latent_weights.Facts := ⟨by decide, by decide, by decide, by decide, by decide, by decide, by decide, by decide, by decide⟩
  refine ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts, hPre, hPre', hPre'', ?_⟩
  exact ⟨fun m ρ _ => Cert.Kernel.Gen.frame m ρ, fun m ρ _ => Cert.KernelIdeal.Gen.frame m ρ, fun m ρ _ => Cert.KernelIdeal.Gen.frame m ρ,
    reference_frame, fun m g _ => reference_frame m g trivial,
    fun m ρ _ => Cert.Kernel2.Gen.frame m ρ, fun m ρ _ => Cert.Kernel2Ideal.Gen.frame m ρ, ffn_reference_frame,
    fun m ρ _ => Cert.Kernel3.Gen.frame m ρ, fun m ρ _ => Cert.Kernel3Ideal.Gen.frame m ρ, merge_reference_frame,
    fun m ρ _ => Cert.Kernel4.Gen.frame m ρ, fun m ρ _ => Cert.Kernel4Ideal.Gen.frame m ρ, first_reference_frame,
    fun m ρ _ => Cert.Kernel5.Gen.frame m ρ, fun m ρ _ => Cert.Kernel5Ideal.Gen.frame m ρ, input_reference_frame,
    fun m ρ _ => Cert.Kernel6.Gen.frame m ρ, fun m ρ _ => Cert.Kernel6Ideal.Gen.frame m ρ, memory_keys_reference_frame,
    fun m ρ _ => Cert.Kernel7.Gen.frame m ρ, fun m ρ _ => Cert.Kernel7Ideal.Gen.frame m ρ, fun m ρ _ => Cert.Kernel7Ideal.Gen.frame m ρ,
    memory_reference_frame, fun m g _ => memory_reference_frame m g trivial,
    fun m ρ _ => Cert.Kernel8.Gen.frame m ρ, fun m ρ _ => Cert.Kernel8Ideal.Gen.frame m ρ, fun m ρ _ => Cert.Kernel8Ideal.Gen.frame m ρ,
    latent_reference_frame, fun m g _ => latent_reference_frame m g trivial,
    trivial, value hPre, trivial, ffn_value, trivial, merge_value, trivial, first_value, trivial, input_value, trivial, memory_keys_value, trivial, memory_value hPre', latent_constants, latent_value hPre''⟩

end Cert.Proof

end
